-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_steps [hPre_finite_steps : Cert.Pre_finite_steps.Facts] (m : (ℓ : Loc Cert.ScanIdeal.nD Cert.ScanIdeal.τ Cert.ScanIdeal.sig) → Buf (Elt Ideal) ℓ) : Prop :=
  ∀ c : Dev Cert.ScanIdeal.nD,
    (Cert.Pre_finite_steps.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).1 = (fun _ => 1#1)
    ∧ (Cert.Pre_finite_steps.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).2.1 = (fun _ => 1#1)
    ∧ (Cert.Pre_finite_steps.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).2.2.1 = (fun _ => 1#1)
    ∧ (Cert.Pre_finite_steps.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).2.2.2 = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_finite_steps [hPre_finite_steps : Cert.Pre_finite_steps.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_finite_steps.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4))).1 = (fun _ => 1#1)
    ∧ (Cert.Pre_finite_steps.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4))).2.1 = (fun _ => 1#1)
    ∧ (Cert.Pre_finite_steps.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4))).2.2.1 = (fun _ => 1#1)
    ∧ (Cert.Pre_finite_steps.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4))).2.2.2 = (fun _ => 1#1)

def Pre_Steps (m : (ℓ : Loc Cert.Steps.nD Cert.Steps.τ Cert.Steps.sig) → Buf (Elt Bits) ℓ) : Prop :=
  True

def Pre_StepsIdeal (m : (ℓ : Loc Cert.StepsIdeal.nD Cert.StepsIdeal.τ Cert.StepsIdeal.sig) → Buf (Elt Ideal) ℓ) : Prop :=
  True

def Pre_StepsReferenceIdeal (m : (ℓ : Loc Cert.StepsReferenceIdeal.nD Cert.StepsReferenceIdeal.τ Cert.StepsReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanIdeal_pre_finite_steps [hScanIdeal : Cert.ScanIdeal.Facts] [hPre_finite_steps : Cert.Pre_finite_steps.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_steps m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4))
      ∧ r.2.sem = fun _ => 0)

def quiescent_ScanReferenceIdeal_pre_finite_steps [hScanReferenceIdeal : Cert.ScanReferenceIdeal.Facts] [hPre_finite_steps : Cert.Pre_finite_steps.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_finite_steps m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4))
      ∧ r.2.sem = fun _ => 0)

def quiescent_Steps [hSteps : Cert.Steps.Facts] : Prop :=
  ∀ (m : (ℓ : Loc Cert.Steps.nD Cert.Steps.τ Cert.Steps.sig) → Buf (Elt Bits) ℓ) (g : Dev Cert.Steps.nD → PrngReg), Pre_Steps m →
    θ_run (Cert.Steps.defs (F := Bits)) (onTc (τ := Cert.Steps.τ) (Cert.Steps.main (F := Bits))) ⟨m, fun _ => 0, g⟩ (fun r => (∀ c : Dev Cert.Steps.nD,
      r.2.mem ((c.tc : Thread Cert.Steps.nD Cert.Steps.τ).loc Cert.Steps.main_arg0) = m ((c.tc : Thread Cert.Steps.nD Cert.Steps.τ).loc Cert.Steps.main_arg0)
      ∧ r.2.mem ((c.tc : Thread Cert.Steps.nD Cert.Steps.τ).loc Cert.Steps.main_arg1) = m ((c.tc : Thread Cert.Steps.nD Cert.Steps.τ).loc Cert.Steps.main_arg1))
      ∧ r.2.sem = fun _ => 0)

def quiescent_StepsIdeal [hStepsIdeal : Cert.StepsIdeal.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1))
      ∧ r.2.sem = fun _ => 0)

def quiescent_StepsReferenceIdeal [hStepsReferenceIdeal : Cert.StepsReferenceIdeal.Facts] : Prop :=
  ∀ (m : (ℓ : Loc Cert.StepsReferenceIdeal.nD Cert.StepsReferenceIdeal.τ Cert.StepsReferenceIdeal.sig) → Buf (Elt Ideal) ℓ) (g : Dev Cert.StepsReferenceIdeal.nD → PrngReg), Pre_StepsReferenceIdeal m →
    θ_run (Cert.StepsReferenceIdeal.defs (F := Ideal)) (onTc (τ := Cert.StepsReferenceIdeal.τ) (Cert.StepsReferenceIdeal.main (F := Ideal))) ⟨m, fun _ => 0, g⟩ (fun r => (∀ c : Dev Cert.StepsReferenceIdeal.nD,
      r.2.mem ((c.tc : Thread Cert.StepsReferenceIdeal.nD Cert.StepsReferenceIdeal.τ).loc Cert.StepsReferenceIdeal.main_arg0) = m ((c.tc : Thread Cert.StepsReferenceIdeal.nD Cert.StepsReferenceIdeal.τ).loc Cert.StepsReferenceIdeal.main_arg0)
      ∧ r.2.mem ((c.tc : Thread Cert.StepsReferenceIdeal.nD Cert.StepsReferenceIdeal.τ).loc Cert.StepsReferenceIdeal.main_arg1) = m ((c.tc : Thread Cert.StepsReferenceIdeal.nD Cert.StepsReferenceIdeal.τ).loc Cert.StepsReferenceIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v3)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v3) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v6) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3))

def preserves_Scan_ScanIdeal : Prop :=
  IdealRules.named_const.Statement Cert.ScanIdeal.κ "neg_log2e" .f32 0xBFB8AA3B#32 ((-((Real.log 2)⁻¹) : ℝ) : EReal)
  ∧ IdealRules.named_const.Statement Cert.ScanIdeal.κ "log2e" .f32 0x3FB8AA3B#32 (((Real.log 2)⁻¹ : ℝ) : EReal)

def algebraic_ScanIdeal_ScanReferenceIdeal_pre_finite_steps [hScanIdeal : Cert.ScanIdeal.Facts] [hScanReferenceIdeal : Cert.ScanReferenceIdeal.Facts] [hPre_finite_steps : Cert.Pre_finite_steps.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_finite_steps m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)) →
    ∃ (v0 : (c : Dev Cert.ScanIdeal.nD) → Buf (Elt Ideal) ((c.tc : Thread Cert.ScanIdeal.nD Cert.ScanIdeal.τ).loc Cert.ScanIdeal.main_v5)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v5) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v55) = v0 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4))

def preserves_Steps_StepsIdeal : Prop :=
  True

def algebraic_StepsIdeal_StepsReferenceIdeal [hStepsIdeal : Cert.StepsIdeal.Facts] [hStepsReferenceIdeal : Cert.StepsReferenceIdeal.Facts] : Prop :=
  ∀ (m : (ℓ : Loc Cert.StepsIdeal.nD Cert.StepsIdeal.τ Cert.StepsIdeal.sig) → Buf (Elt Ideal) ℓ) (g : Dev Cert.StepsIdeal.nD → PrngReg)
    (m' : (ℓ : Loc Cert.StepsReferenceIdeal.nD Cert.StepsReferenceIdeal.τ Cert.StepsReferenceIdeal.sig) → Buf (Elt Ideal) ℓ) (g' : Dev Cert.StepsReferenceIdeal.nD → PrngReg), Pre_StepsIdeal m →
    (∀ c : Dev Cert.StepsIdeal.nD,
      m' ((c.tc : Thread Cert.StepsReferenceIdeal.nD Cert.StepsReferenceIdeal.τ).loc Cert.StepsReferenceIdeal.main_arg0) = m ((c.tc : Thread Cert.StepsIdeal.nD Cert.StepsIdeal.τ).loc Cert.StepsIdeal.main_arg0)
      ∧ m' ((c.tc : Thread Cert.StepsReferenceIdeal.nD Cert.StepsReferenceIdeal.τ).loc Cert.StepsReferenceIdeal.main_arg1) = m ((c.tc : Thread Cert.StepsIdeal.nD Cert.StepsIdeal.τ).loc Cert.StepsIdeal.main_arg1)) →
    ∃ (v0 : (c : Dev Cert.StepsIdeal.nD) → Buf (Elt Ideal) ((c.tc : Thread Cert.StepsIdeal.nD Cert.StepsIdeal.τ).loc Cert.StepsIdeal.main_v1)),
      θ_run (Cert.StepsIdeal.defs (F := Ideal)) (onTc (τ := Cert.StepsIdeal.τ) (Cert.StepsIdeal.main (F := Ideal))) ⟨m, fun _ => 0, g⟩ (fun r => ∀ c : Dev Cert.StepsIdeal.nD,
          r.2.mem ((c.tc : Thread Cert.StepsIdeal.nD Cert.StepsIdeal.τ).loc Cert.StepsIdeal.main_v1) = v0 c
          ∧ r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
          ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1))
      ∧ θ_run (Cert.StepsReferenceIdeal.defs (F := Ideal)) (onTc (τ := Cert.StepsReferenceIdeal.τ) (Cert.StepsReferenceIdeal.main (F := Ideal))) ⟨m', fun _ => 0, g'⟩ (fun r => ∀ c : Dev Cert.StepsReferenceIdeal.nD,
          r.2.mem ((c.tc : Thread Cert.StepsReferenceIdeal.nD Cert.StepsReferenceIdeal.τ).loc Cert.StepsReferenceIdeal.main_v3) = v0 c
          ∧ r.2.mem ((c.tc : Thread Cert.StepsReferenceIdeal.nD Cert.StepsReferenceIdeal.τ).loc Cert.StepsReferenceIdeal.main_arg0) = m' ((c.tc : Thread Cert.StepsReferenceIdeal.nD Cert.StepsReferenceIdeal.τ).loc Cert.StepsReferenceIdeal.main_arg0)
          ∧ r.2.mem ((c.tc : Thread Cert.StepsReferenceIdeal.nD Cert.StepsReferenceIdeal.τ).loc Cert.StepsReferenceIdeal.main_arg1) = m' ((c.tc : Thread Cert.StepsReferenceIdeal.nD Cert.StepsReferenceIdeal.τ).loc Cert.StepsReferenceIdeal.main_arg1))

def preserves_NormMod_NormModIdeal : Prop :=
  True

def algebraic_NormModIdeal_NormReferenceIdeal [hNormModIdeal : Cert.NormModIdeal.Facts] [hNormReferenceIdeal : Cert.NormReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormModIdeal m →
    (∀ c : Dev Cert.NormModIdeal.nD,
      m' ((c.tc : Thread Cert.NormReferenceIdeal.nD Cert.NormReferenceIdeal.τ).loc Cert.NormReferenceIdeal.main_arg0) = m ((c.tc : Thread Cert.NormModIdeal.nD Cert.NormModIdeal.τ).loc Cert.NormModIdeal.main_arg0)
      ∧ m' ((c.tc : Thread Cert.NormReferenceIdeal.nD Cert.NormReferenceIdeal.τ).loc Cert.NormReferenceIdeal.main_arg1) = m ((c.tc : Thread Cert.NormModIdeal.nD Cert.NormModIdeal.τ).loc Cert.NormModIdeal.main_arg1)
      ∧ m' ((c.tc : Thread Cert.NormReferenceIdeal.nD Cert.NormReferenceIdeal.τ).loc Cert.NormReferenceIdeal.main_arg2) = m ((c.tc : Thread Cert.NormModIdeal.nD Cert.NormModIdeal.τ).loc Cert.NormModIdeal.main_arg2)
      ∧ m' ((c.tc : Thread Cert.NormReferenceIdeal.nD Cert.NormReferenceIdeal.τ).loc Cert.NormReferenceIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v3)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v3) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v21) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v42) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hInProj : Cert.InProj.Facts) (hInProjIdeal : Cert.InProjIdeal.Facts) (hInReferenceIdeal : Cert.InReferenceIdeal.Facts) (hOutProj : Cert.OutProj.Facts) (hOutProjIdeal : Cert.OutProjIdeal.Facts) (hOutReferenceIdeal : Cert.OutReferenceIdeal.Facts) (hSsdOut : Cert.SsdOut.Facts) (hSsdOutIdeal : Cert.SsdOutIdeal.Facts) (hSsdOutReferenceIdeal : Cert.SsdOutReferenceIdeal.Facts) (hScan : Cert.Scan.Facts) (hScanIdeal : Cert.ScanIdeal.Facts) (hScanReferenceIdeal : Cert.ScanReferenceIdeal.Facts) (hSteps : Cert.Steps.Facts) (hStepsIdeal : Cert.StepsIdeal.Facts) (hStepsReferenceIdeal : Cert.StepsReferenceIdeal.Facts) (hNormMod : Cert.NormMod.Facts) (hNormModIdeal : Cert.NormModIdeal.Facts) (hNormReferenceIdeal : Cert.NormReferenceIdeal.Facts) (hAda : Cert.Ada.Facts) (hAdaIdeal : Cert.AdaIdeal.Facts) (hAdaReferenceIdeal : Cert.AdaReferenceIdeal.Facts) (hConv : Cert.Conv.Facts) (hConvIdeal : Cert.ConvIdeal.Facts) (hConvReferenceIdeal : Cert.ConvReferenceIdeal.Facts) (hPre_finite_scores : Cert.Pre_finite_scores.Facts) (hPre_finite_steps : Cert.Pre_finite_steps.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Qkv (hQkv := hQkv)
    ∧ quiescent_QkvIdeal (hQkvIdeal := hQkvIdeal)
    ∧ quiescent_QkvReferenceIdeal (hQkvReferenceIdeal := hQkvReferenceIdeal)
    ∧ quiescent_InProj (hInProj := hInProj)
    ∧ quiescent_InProjIdeal (hInProjIdeal := hInProjIdeal)
    ∧ quiescent_InReferenceIdeal (hInReferenceIdeal := hInReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_Scan (hScan := hScan)
    ∧ quiescent_ScanIdeal (hScanIdeal := hScanIdeal)
    ∧ quiescent_ScanIdeal_pre_finite_steps (hScanIdeal := hScanIdeal) (hPre_finite_steps := hPre_finite_steps)
    ∧ quiescent_ScanReferenceIdeal (hScanReferenceIdeal := hScanReferenceIdeal)
    ∧ quiescent_ScanReferenceIdeal_pre_finite_steps (hScanReferenceIdeal := hScanReferenceIdeal) (hPre_finite_steps := hPre_finite_steps)
    ∧ quiescent_Steps (hSteps := hSteps)
    ∧ quiescent_StepsIdeal (hStepsIdeal := hStepsIdeal)
    ∧ quiescent_StepsReferenceIdeal (hStepsReferenceIdeal := hStepsReferenceIdeal)
    ∧ quiescent_NormMod (hNormMod := hNormMod)
    ∧ quiescent_NormModIdeal (hNormModIdeal := hNormModIdeal)
    ∧ quiescent_NormReferenceIdeal (hNormReferenceIdeal := hNormReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Qkv_QkvIdeal
    ∧ algebraic_QkvIdeal_QkvReferenceIdeal (hQkvIdeal := hQkvIdeal) (hQkvReferenceIdeal := hQkvReferenceIdeal)
    ∧ preserves_InProj_InProjIdeal
    ∧ algebraic_InProjIdeal_InReferenceIdeal (hInProjIdeal := hInProjIdeal) (hInReferenceIdeal := hInReferenceIdeal)
    ∧ preserves_OutProj_OutProjIdeal
    ∧ algebraic_OutProjIdeal_OutReferenceIdeal (hOutProjIdeal := hOutProjIdeal) (hOutReferenceIdeal := hOutReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_Scan_ScanIdeal
    ∧ algebraic_ScanIdeal_ScanReferenceIdeal_pre_finite_steps (hScanIdeal := hScanIdeal) (hScanReferenceIdeal := hScanReferenceIdeal) (hPre_finite_steps := hPre_finite_steps)
    ∧ preserves_Steps_StepsIdeal
    ∧ algebraic_StepsIdeal_StepsReferenceIdeal (hStepsIdeal := hStepsIdeal) (hStepsReferenceIdeal := hStepsReferenceIdeal)
    ∧ preserves_NormMod_NormModIdeal
    ∧ algebraic_NormModIdeal_NormReferenceIdeal (hNormModIdeal := hNormModIdeal) (hNormReferenceIdeal := hNormReferenceIdeal)
    ∧ preserves_Ada_AdaIdeal
    ∧ algebraic_AdaIdeal_AdaReferenceIdeal (hAdaIdeal := hAdaIdeal) (hAdaReferenceIdeal := hAdaReferenceIdeal)
    ∧ preserves_Conv_ConvIdeal
    ∧ algebraic_ConvIdeal_ConvReferenceIdeal (hConvIdeal := hConvIdeal) (hConvReferenceIdeal := hConvReferenceIdeal)
-- ==== Pre_finite_scores.lean ====
abbrev S2x4096x6144 : Shape := ⟨3, ![2, 4096, 6144]⟩
abbrev S32x15x31 : Shape := ⟨3, ![32, 15, 31]⟩
abbrev S2x4096x4096 : Shape := ⟨3, ![2, 4096, 4096]⟩
abbrev S_ : Shape := ⟨0, ![]⟩

class Facts : Prop where
  slices_S2x4096x6144_S2x4096x4096_0_0_0 : S2x4096x6144.Slices ![0, 0, 0] S2x4096x4096
  bcast_S_S2x4096x4096 : S_.BroadcastsInDim S2x4096x4096 (![] : Fin 0 → Fin S2x4096x4096.rank)
  bcast_S_S32x15x31 : S_.BroadcastsInDim S32x15x31 (![] : Fin 0 → Fin S32x15x31.rank)

variable [Facts]

def fn {F : FTy → Type} [FloatOps F] (main_arg0 : FVec F S2x4096x6144 .bf16) (main_arg1 : FVec F S32x15x31 .f32) : IVec S2x4096x4096 1 × IVec S32x15x31 1 :=
  let main_v0 : FVec F S2x4096x4096 .bf16 := (extractStridedSlice S2x4096x4096 ![0, 0, 0] · slices_S2x4096x6144_S2x4096x4096_0_0_0) main_arg0
  let main_v1 : FVec F S2x4096x4096 .bf16 := Host.absf main_v0
  let main_cst : FVec F S_ .bf16 := constant S_ .bf16 0x7F80#16
  let main_v2 : FVec F S2x4096x4096 .bf16 := broadcastInDim S2x4096x4096 ![] bcast_S_S2x4096x4096 main_cst
  let main_v3 : IVec S2x4096x4096 1 := cmpf .olt main_v1 main_v2
  let main_v4 : FVec F S32x15x31 .f32 := Host.absf main_arg1
  let main_cst_0 : FVec F S_ .f32 := constant S_ .f32 0x7F800000#32
  let main_v5 : FVec F S32x15x31 .f32 := broadcastInDim S32x15x31 ![] bcast_S_S32x15x31 main_cst_0
  let main_v6 : IVec S32x15x31 1 := cmpf .olt main_v4 main_v5
  (main_v3, main_v6)
-- ==== Pre_finite_steps.lean ====
abbrev S2x4096x6144 : Shape := ⟨3, ![2, 4096, 6144]⟩
abbrev S2x4096x128 : Shape := ⟨3, ![2, 4096, 128]⟩
abbrev S2x64 : Shape := ⟨2, ![2, 64]⟩
abbrev S64 : Shape := ⟨1, ![64]⟩
abbrev S_ : Shape := ⟨0, ![]⟩
abbrev S2x4096x64 : Shape := ⟨3, ![2, 4096, 64]⟩
abbrev S1x64 : Shape := ⟨2, ![1, 64]⟩

class Facts : Prop where
  bcast_S_S2x4096x6144 : S_.BroadcastsInDim S2x4096x6144 (![] : Fin 0 → Fin S2x4096x6144.rank)
  slices_S2x4096x128_S2x4096x64_0_0_0 : S2x4096x128.Slices ![0, 0, 0] S2x4096x64
  bcast_S_S2x4096x64 : S_.BroadcastsInDim S2x4096x64 (![] : Fin 0 → Fin S2x4096x64.rank)
  slices_S2x64_S1x64_0_0 : S2x64.Slices ![0, 0] S1x64
  bcast_S_S1x64 : S_.BroadcastsInDim S1x64 (![] : Fin 0 → Fin S1x64.rank)

variable [Facts]

def fn {F : FTy → Type} [FloatOps F] (main_arg0 : FVec F S2x4096x6144 .bf16) (main_arg1 : FVec F S2x4096x128 .f32) (main_arg2 : FVec F S2x64 .f32) (main_arg3 : FVec F S2x64 .f32) (main_arg4 : FVec F S64 .f32) : IVec S2x4096x6144 1 × IVec S2x4096x64 1 × IVec S1x64 1 × IVec S1x64 1 :=
  let main_v0 : FVec F S2x4096x6144 .bf16 := Host.absf main_arg0
  let main_cst : FVec F S_ .bf16 := constant S_ .bf16 0x7F80#16
  let main_v1 : FVec F S2x4096x6144 .bf16 := broadcastInDim S2x4096x6144 ![] bcast_S_S2x4096x6144 main_cst
  let main_v2 : IVec S2x4096x6144 1 := cmpf .olt main_v0 main_v1
  let main_v3 : FVec F S2x4096x64 .f32 := (extractStridedSlice S2x4096x64 ![0, 0, 0] · slices_S2x4096x128_S2x4096x64_0_0_0) main_arg1
  let main_v4 : FVec F S2x4096x64 .f32 := Host.absf main_v3
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_v7 : FVec F S1x64 .f32 := (extractStridedSlice S1x64 ![0, 0] · slices_S2x64_S1x64_0_0) main_arg2
  let main_v8 : FVec F S1x64 .f32 := Host.absf main_v7
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_v11 : FVec F S1x64 .f32 := (extractStridedSlice S1x64 ![0, 0] · slices_S2x64_S1x64_0_0) main_arg3
  let main_v12 : FVec F S1x64 .f32 := Host.absf main_v11
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  (main_v2, main_v6, main_v10, main_v14)
-- ==== Kernel.lean ====
abbrev S2x4096x6144 : Shape := ⟨3, ![2, 4096, 6144]⟩
abbrev S32x15x31 : Shape := ⟨3, ![32, 15, 31]⟩
abbrev S_ : Shape := ⟨0, ![]⟩
abbrev S32x16x128 : Shape := ⟨3, ![32, 16, 128]⟩
abbrev S32x14x64x128 : Shape := ⟨4, ![32, 14, 64, 128]⟩
abbrev S1x16x128 : Shape := ⟨3, ![1, 16, 128]⟩
abbrev S1x14x64x128 : Shape := ⟨4, ![1, 14, 64, 128]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S2x4096x2048 : Shape := ⟨3, ![2, 4096, 2048]⟩
abbrev S1x512x512 : Shape := ⟨3, ![1, 512, 512]⟩
abbrev S1x4096x512 : Shape := ⟨3, ![1, 4096, 512]⟩
abbrev S8x14x64x128 : Shape := ⟨4, ![8, 14, 64, 128]⟩
abbrev S1x64x512 : Shape := ⟨3, ![1, 64, 512]⟩
abbrev S64x512 : Shape := ⟨2, ![64, 512]⟩
abbrev S512x512 : Shape := ⟨2, ![512, 512]⟩
abbrev S128x128 : Shape := ⟨2, ![128, 128]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x4096x6144, .bf16⟩
  | .hbm, ⟨1, _⟩ => ⟨S32x15x31, .f32⟩
  | .hbm, ⟨2, _⟩ => ⟨S_, .i32⟩
  | .hbm, ⟨3, _⟩ => ⟨S_, .f32⟩
  | .hbm, ⟨4, _⟩ => ⟨S32x16x128, .f32⟩
  | .hbm, ⟨5, _⟩ => ⟨S32x14x64x128, .f32⟩
  | .hbm, ⟨6, _⟩ => ⟨S2x4096x2048, .bf16⟩
  | .local _ .vmem, ⟨0, _⟩ => ⟨S1x16x128, .f32⟩
  | .local _ .vmem, ⟨1, _⟩ => ⟨S1x16x128, .f32⟩
  | .local _ .vmem, ⟨2, _⟩ => ⟨S1x14x64x128, .f32⟩
  | .local _ .vmem, ⟨3, _⟩ => ⟨S1x14x64x128, .f32⟩
  | .local _ .vmem, ⟨4, _⟩ => ⟨S1x512x512, .bf16⟩
  | .local _ .vmem, ⟨5, _⟩ => ⟨S1x512x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S8x14x64x128, .f32⟩
  | .local _ .vmem, ⟨11, _⟩ => ⟨S8x14x64x128, .f32⟩
  | .local _ .vmem, ⟨12, _⟩ => ⟨S1x512x512, .bf16⟩
  | .local _ .vmem, ⟨13, _⟩ => ⟨S1x512x512, .bf16⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 4, 8], ![false, false, false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (i : grid1.Coords) (k1_t1 : Fin k1_t1_loop.trips) : BitVec 32 :=
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let c64_i32_5 : BitVec 32 := 64#32
  let v12 : BitVec 32 := Scalar.muli v8 c64_i32_5
  v12
def k1_mult2 (k1_t1 : Fin k1_t1_loop.trips) : BitVec 32 :=
  let c0_i32 : BitVec 32 := 0#32
  let c1_i32 : BitVec 32 := 1#32
  let arg8 : BitVec 32 := Scf.iv c0_i32 c1_i32 k1_t1
  let c64_i32_6 : BitVec 32 := 64#32
  let v14 : BitVec 32 := Scalar.muli arg8 c64_i32_6
  v14
def k1_off1 (k1_t1 : Fin k1_t1_loop.trips) : Fin 3 → Nat :=
  let c0 : Index := 0#32
  let c0_i32 : BitVec 32 := 0#32
  let c1_i32 : BitVec 32 := 1#32
  let arg8 : BitVec 32 := Scf.iv c0_i32 c1_i32 k1_t1
  let c64_i32_6 : BitVec 32 := 64#32
  let v14 : BitVec 32 := Scalar.muli arg8 c64_i32_6
  let v15 : BitVec 32 := v14
  let v16 : Index := Scalar.indexCast v15
  let c0_7 : Index := 0#32
  ![0, v16.toNat, 0]
def k1_off2 (i : grid1.Coords) (k1_t1 : Fin k1_t1_loop.trips) : Fin 3 → Nat :=
  let c0_8 : Index := 0#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let c64_i32_5 : BitVec 32 := 64#32
  let v12 : BitVec 32 := Scalar.muli v8 c64_i32_5
  let v13 : BitVec 32 := v12
  let v21 : Index := Scalar.indexCast v13
  let c0_9 : Index := 0#32
  ![0, v21.toNat, 0]
def k1_off3 (i : grid1.Coords) (k1_t1 : Fin k1_t1_loop.trips) (c0_i32_17 : BitVec 32) : Fin 4 → Nat :=
  let c0_18 : Index := 0#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v52 : BitVec 32 := Scalar.addi v11 c0_i32_17
  let v53 : Index := Scalar.indexCast v52
  let c0_19 : Index := 0#32
  let c0_20 : Index := 0#32
  ![0, v53.toNat, 0, 0]
def k1_off4 (i : grid1.Coords) (k1_t1 : Fin k1_t1_loop.trips) (c0_i32_31 : BitVec 32) : Fin 4 → Nat :=
  let c1 : Index := 1#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v69 : BitVec 32 := Scalar.addi v11 c0_i32_31
  let v70 : Index := Scalar.indexCast v69
  let c0_32 : Index := 0#32
  let c0_33 : Index := 0#32
  ![1, v70.toNat, 0, 0]
def k1_off5 (i : grid1.Coords) (k1_t1 : Fin k1_t1_loop.trips) (c0_i32_46 : BitVec 32) : Fin 4 → Nat :=
  let c2 : Index := 2#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v86 : BitVec 32 := Scalar.addi v11 c0_i32_46
  let v87 : Index := Scalar.indexCast v86
  let c0_47 : Index := 0#32
  let c0_48 : Index := 0#32
  ![2, v87.toNat, 0, 0]
def k1_off6 (i : grid1.Coords) (k1_t1 : Fin k1_t1_loop.trips) (c0_i32_61 : BitVec 32) : Fin 4 → Nat :=
  let c3 : Index := 3#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v103 : BitVec 32 := Scalar.addi v11 c0_i32_61
  let v104 : Index := Scalar.indexCast v103
  let c0_62 : Index := 0#32
  let c0_63 : Index := 0#32
  ![3, v104.toNat, 0, 0]
def k1_off7 (i : grid1.Coords) (k1_t1 : Fin k1_t1_loop.trips) (c0_i32_76 : BitVec 32) : Fin 4 → Nat :=
  let c4 : Index := 4#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v120 : BitVec 32 := Scalar.addi v11 c0_i32_76
  let v121 : Index := Scalar.indexCast v120
  let c0_77 : Index := 0#32
  let c0_78 : Index := 0#32
  ![4, v121.toNat, 0, 0]
def k1_off8 (i : grid1.Coords) (k1_t1 : Fin k1_t1_loop.trips) (c0_i32_91 : BitVec 32) : Fin 4 → Nat :=
  let c5 : Index := 5#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v137 : BitVec 32 := Scalar.addi v11 c0_i32_91
  let v138 : Index := Scalar.indexCast v137
  let c0_92 : Index := 0#32
  let c0_93 : Index := 0#32
  ![5, v138.toNat, 0, 0]
def k1_off9 (i : grid1.Coords) (k1_t1 : Fin k1_t1_loop.trips) (c0_i32_106 : BitVec 32) : Fin 4 → Nat :=
  let c6 : Index := 6#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v154 : BitVec 32 := Scalar.addi v11 c0_i32_106
  let v155 : Index := Scalar.indexCast v154
  let c0_107 : Index := 0#32
  let c0_108 : Index := 0#32
  ![6, v155.toNat, 0, 0]
def k1_off10 (i : grid1.Coords) (k1_t1 : Fin k1_t1_loop.trips) (c0_i32_121 : BitVec 32) : Fin 4 → Nat :=
  let c7 : Index := 7#32
  let c56_i32 : BitVec 32 := 56#32
  let c0_i32_2 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg8 : BitVec 32 := Scf.iv c0_i32 c1_i32 k1_t1
  let v5 : BitVec 32 := Scalar.addi v4 arg8
  let c4_i32 : BitVec 32 := 4#32
  let v6 : BitVec 32 := Scalar.subi v5 c4_i32
  let v7 : BitVec 32 := Scalar.maxsi c0_i32_2 v6
  let v8 : BitVec 32 := Scalar.minsi c56_i32 v7
  let v9 : BitVec 32 := Scalar.subi v8 v5
  let c8_i32_3 : BitVec 32 := 8#32
  let v10 : BitVec 32 := Scalar.addi v9 c8_i32_3
  let c1_i32_4 : BitVec 32 := 1#32
  let v11 : BitVec 32 := Scalar.subi v10 c1_i32_4
  let v171 : BitVec 32 := Scalar.addi v11 c0_i32_121
  let v172 : Index := Scalar.indexCast v171
  let c0_122 : Index := 0#32
  let c0_123 : Index := 0#32
  ![7, v172.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S8x14x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x6144 : Shape := ⟨3, ![2, 4096, 6144]⟩
abbrev S32x15x31 : Shape := ⟨3, ![32, 15, 31]⟩
abbrev S2x64x64x3x32x64 : Shape := ⟨6, ![2, 64, 64, 3, 32, 64]⟩
abbrev S2x64x64x1x32x64 : Shape := ⟨6, ![2, 64, 64, 1, 32, 64]⟩
abbrev S2x64x64x32x64 : Shape := ⟨5, ![2, 64, 64, 32, 64]⟩
abbrev S_ : Shape := ⟨0, ![]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S2x64x64x8x16x32x64 : Shape := ⟨7, ![2, 64, 64, 8, 16, 32, 64]⟩
abbrev S2x32x64x64x8x16 : Shape := ⟨6, ![2, 32, 64, 64, 8, 16]⟩
abbrev S32x64x64x8x16 : Shape := ⟨5, ![32, 64, 64, 8, 16]⟩
abbrev S1x32x64x64x8x16 : Shape := ⟨6, ![1, 32, 64, 64, 8, 16]⟩
abbrev S2x32x64x64x128 : Shape := ⟨5, ![2, 32, 64, 64, 128]⟩
abbrev S2x32x64x64 : Shape := ⟨4, ![2, 32, 64, 64]⟩
abbrev S2x32x64x64x1 : Shape := ⟨5, ![2, 32, 64, 64, 1]⟩
abbrev S2x4096x2048 : Shape := ⟨3, ![2, 4096, 2048]⟩

abbrev nBuf : Space → Nat
  | .hbm => 150
  | .vmem => 0
  | .smem => 0
  | _ => 0

abbrev hbmTy0_0 (i : Nat) : BufTy := match i % 128 with
  | 0 => ⟨S2x4096x6144, .bf16⟩
  | 1 => ⟨S32x15x31, .f32⟩
  | 2 => ⟨S2x4096x6144, .f32⟩
  | 3 => ⟨S2x64x64x3x32x64, .f32⟩
  | 4 => ⟨S2x64x64x1x32x64, .f32⟩
  | 5 => ⟨S2x64x64x32x64, .f32⟩
  | 6 => ⟨S_, .f32⟩
  | 7 => ⟨S2x64x64x32x64, .f32⟩
  | 8 => ⟨S2x64x64x32x64, .f32⟩
  | 9 => ⟨S2x64x64x1x32x64, .f32⟩
  | 10 => ⟨S2x64x64x32x64, .f32⟩
  | 11 => ⟨S2x64x64x1x32x64, .f32⟩
  | 12 => ⟨S2x64x64x32x64, .f32⟩
  | 13 => ⟨S64, .i32⟩
  | 14 => ⟨S64, .i32⟩
  | 15 => ⟨S_, .i32⟩
  | 16 => ⟨S64, .i32⟩
  | 17 => ⟨S64, .i32⟩
  | 18 => ⟨S_, .i32⟩
  | 19 => ⟨S_, .i32⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S64x1, .i32⟩
  | 27 => ⟨S8, .i32⟩
  | 28 => ⟨S1x8, .i32⟩
  | 29 => ⟨S64x8, .i32⟩
  | 30 => ⟨S64x8, .i32⟩
  | 31 => ⟨S64x8, .i32⟩
  | 32 => ⟨S_, .i32⟩
  | 33 => ⟨S64, .i32⟩
  | 34 => ⟨S64, .i32⟩
  | 35 => ⟨S_, .i32⟩
  | 36 => ⟨S_, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S64x1, .i32⟩
  | 44 => ⟨S16, .i32⟩
  | 45 => ⟨S1x16, .i32⟩
  | 46 => ⟨S64x16, .i32⟩
  | 47 => ⟨S64x16, .i32⟩
  | 48 => ⟨S64x16, .i32⟩
  | 49 => ⟨S64x1, .i32⟩
  | 50 => ⟨S64x8, .i32⟩
  | 51 => ⟨S64x8, .i32⟩
  | 52 => ⟨S_, .i32⟩
  | 53 => ⟨S64x8, .i32⟩
  | 54 => ⟨S64x8, .i32⟩
  | 55 => ⟨S64x1, .i32⟩
  | 56 => ⟨S64x16, .i32⟩
  | 57 => ⟨S64x16, .i32⟩
  | 58 => ⟨S_, .i32⟩
  | 59 => ⟨S64x16, .i32⟩
  | 60 => ⟨S64x16, .i32⟩
  | 61 => ⟨S64x1x8x1, .i32⟩
  | 62 => ⟨S1x64x1x16, .i32⟩
  | 63 => ⟨S_, .i32⟩
  | 64 => ⟨S64x1x8x1, .i32⟩
  | 65 => ⟨S64x1x8x1, .i1⟩
  | 66 => ⟨S_, .i32⟩
  | 67 => ⟨S64x1x8x1, .i32⟩
  | 68 => ⟨S64x1x8x1, .i32⟩
  | 69 => ⟨S64x1x8x1, .i32⟩
  | 70 => ⟨S_, .i32⟩
  | 71 => ⟨S1x64x1x16, .i32⟩
  | 72 => ⟨S1x64x1x16, .i1⟩
  | 73 => ⟨S_, .i32⟩
  | 74 => ⟨S1x64x1x16, .i32⟩
  | 75 => ⟨S1x64x1x16, .i32⟩
  | 76 => ⟨S1x64x1x16, .i32⟩
  | 77 => ⟨S64x64x8x16, .i32⟩
  | 78 => ⟨S64x64x8x16, .i32⟩
  | 79 => ⟨S64x64x8x16x1, .i32⟩
  | 80 => ⟨S64x64x8x16x1, .i32⟩
  | 81 => ⟨S64x64x8x16x2, .i32⟩
  | 82 => ⟨S2x64x64x8x16x32x64, .f32⟩
  | 83 => ⟨S64x1x8x1, .i32⟩
  | 84 => ⟨S1x64x1x16, .i32⟩
  | 85 => ⟨S_, .i32⟩
  | 86 => ⟨S64x1x8x1, .i32⟩
  | 87 => ⟨S64x1x8x1, .i1⟩
  | 88 => ⟨S_, .i32⟩
  | 89 => ⟨S64x1x8x1, .i32⟩
  | 90 => ⟨S64x1x8x1, .i32⟩
  | 91 => ⟨S64x1x8x1, .i32⟩
  | 92 => ⟨S_, .i32⟩
  | 93 => ⟨S1x64x1x16, .i32⟩
  | 94 => ⟨S1x64x1x16, .i1⟩
  | 95 => ⟨S_, .i32⟩
  | 96 => ⟨S1x64x1x16, .i32⟩
  | 97 => ⟨S1x64x1x16, .i32⟩
  | 98 => ⟨S1x64x1x16, .i32⟩
  | 99 => ⟨S64x64x8x16, .i32⟩
  | 100 => ⟨S64x64x8x16, .i32⟩
  | 101 => ⟨S64x64x8x16x1, .i32⟩
  | 102 => ⟨S64x64x8x16x1, .i32⟩
  | 103 => ⟨S64x64x8x16x2, .i32⟩
  | 104 => ⟨S2x64x64x8x16x32x64, .f32⟩
  | 105 => ⟨S2x32x64x64x8x16, .f32⟩
  | 106 => ⟨S64x1x8x1, .i32⟩
  | 107 => ⟨S1x64x1x16, .i32⟩
  | 108 => ⟨S_, .i32⟩
  | 109 => ⟨S64x1x8x1, .i32⟩
  | 110 => ⟨S64x1x8x1, .i1⟩
  | 111 => ⟨S_, .i32⟩
  | 112 => ⟨S64x1x8x1, .i32⟩
  | 113 => ⟨S64x1x8x1, .i32⟩
  | 114 => ⟨S64x1x8x1, .i32⟩
  | 115 => ⟨S_, .i32⟩
  | 116 => ⟨S1x64x1x16, .i32⟩
  | 117 => ⟨S1x64x1x16, .i1⟩
  | 118 => ⟨S_, .i32⟩
  | 119 => ⟨S1x64x1x16, .i32⟩
  | 120 => ⟨S1x64x1x16, .i32⟩
  | 121 => ⟨S1x64x1x16, .i32⟩
  | 122 => ⟨S64x64x8x16, .i32⟩
  | 123 => ⟨S64x64x8x16, .i32⟩
  | 124 => ⟨S64x64x8x16x1, .i32⟩
  | 125 => ⟨S64x64x8x16x1, .i32⟩
  | 126 => ⟨S64x64x8x16x2, .i32⟩
  | 127 => ⟨S32x64x64x8x16, .f32⟩
  | _ => ⟨S2x4096x6144, .bf16⟩

abbrev hbmTy0_1 (i : Nat) : BufTy := match i % 128 with
  | 0 => ⟨S1x32x64x64x8x16, .f32⟩
  | 1 => ⟨S2x32x64x64x8x16, .f32⟩
  | 2 => ⟨S2x32x64x64x8x16, .f32⟩
  | 3 => ⟨S2x32x64x64x128, .f32⟩
  | 4 => ⟨S_, .f32⟩
  | 5 => ⟨S2x32x64x64, .f32⟩
  | 6 => ⟨S_, .f32⟩
  | 7 => ⟨S2x32x64x64, .f32⟩
  | 8 => ⟨S2x32x64x64, .f32⟩
  | 9 => ⟨S2x32x64x64x1, .f32⟩
  | 10 => ⟨S2x32x64x64x128, .f32⟩
  | 11 => ⟨S2x32x64x64x128, .f32⟩
  | 12 => ⟨S2x32x64x64x128, .f32⟩
  | 13 => ⟨S_, .f32⟩
  | 14 => ⟨S2x32x64x64, .f32⟩
  | 15 => ⟨S2x32x64x64x1, .f32⟩
  | 16 => ⟨S2x32x64x64x128, .f32⟩
  | 17 => ⟨S2x32x64x64x128, .f32⟩
  | 18 => ⟨S2x32x64x64x8x16, .f32⟩
  | 19 => ⟨S2x64x64x32x64, .f32⟩
  | 20 => ⟨S2x4096x2048, .f32⟩
  | 21 => ⟨S2x4096x2048, .bf16⟩
  | _ => ⟨S2x4096x6144, .bf16⟩

abbrev hbmTy (i : Nat) : BufTy := match i / 128 with
  | 0 => hbmTy0_0 i
  | 1 => hbmTy0_1 i
  | _ => ⟨S2x4096x6144, .bf16⟩

abbrev bufTy : (tb : Table) → Fin (tcTables nBuf tb) → BufTy
  | .hbm, ⟨i, _⟩ => hbmTy i
  | _, _ => ⟨S2x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_cst_20 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]
-- ==== Qkv.lean ====
abbrev S2x4096x2048 : Shape := ⟨3, ![2, 4096, 2048]⟩
abbrev S2048x6144 : Shape := ⟨2, ![2048, 6144]⟩
abbrev S8192x2048 : Shape := ⟨2, ![8192, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2048x6144, .f32⟩
  | .hbm, ⟨2, _⟩ => ⟨S8192x2048, .bf16⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S2x4096x2048 : Shape := ⟨3, ![2, 4096, 2048]⟩
abbrev S2048x6144 : Shape := ⟨2, ![2048, 6144]⟩
abbrev S2x4096x6144 : Shape := ⟨3, ![2, 4096, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x6144, .f32⟩
  | .hbm, ⟨2, _⟩ => ⟨S2x4096x2048, .f32⟩
  | .hbm, ⟨3, _⟩ => ⟨S2x4096x6144, .f32⟩
  | .hbm, ⟨4, _⟩ => ⟨S2x4096x6144, .bf16⟩
  | .hbm, ⟨5, _⟩ => ⟨S8192x6144, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S2x4096x2048 : Shape := ⟨3, ![2, 4096, 2048]⟩
abbrev S2048x10368 : Shape := ⟨2, ![2048, 10368]⟩
abbrev S8192x2048 : Shape := ⟨2, ![8192, 2048]⟩
abbrev S8192x10240 : Shape := ⟨2, ![8192, 10240]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2048x10368, .f32⟩
  | .hbm, ⟨2, _⟩ => ⟨S8192x2048, .bf16⟩
  | .hbm, ⟨3, _⟩ => ⟨S8192x10240, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .f32⟩
  | .local _ .vmem, ⟨3, _⟩ => ⟨S2048x1280, .f32⟩
  | .local _ .vmem, ⟨4, _⟩ => ⟨S1024x1280, .f32⟩
  | .local _ .vmem, ⟨5, _⟩ => ⟨S1024x1280, .f32⟩
  | .local _ .vmem, ⟨6, _⟩ => ⟨S2048x1280, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S2x4096x2048 : Shape := ⟨3, ![2, 4096, 2048]⟩
abbrev S2048x10368 : Shape := ⟨2, ![2048, 10368]⟩
abbrev S2x4096x10368 : Shape := ⟨3, ![2, 4096, 10368]⟩
abbrev S2x4096x10240 : Shape := ⟨3, ![2, 4096, 10240]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x10368, .f32⟩
  | .hbm, ⟨2, _⟩ => ⟨S2x4096x2048, .f32⟩
  | .hbm, ⟨3, _⟩ => ⟨S2x4096x10368, .f32⟩
  | .hbm, ⟨4, _⟩ => ⟨S2x4096x10240, .f32⟩
  | .hbm, ⟨5, _⟩ => ⟨S8192x10240, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S2x4096x2048 : Shape := ⟨3, ![2, 4096, 2048]⟩
abbrev S2048x2048 : Shape := ⟨2, ![2048, 2048]⟩
abbrev S2x2048 : Shape := ⟨2, ![2, 2048]⟩
abbrev S8192x2048 : Shape := ⟨2, ![8192, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S2x4096x2048, .f32⟩
  | .hbm, ⟨3, _⟩ => ⟨S2x2048, .f32⟩
  | .hbm, ⟨4, _⟩ => ⟨S8192x2048, .bf16⟩
  | .hbm, ⟨5, _⟩ => ⟨S8192x2048, .f32⟩
  | .hbm, ⟨6, _⟩ => ⟨S2x1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjIdeal.lean ====
abbrev S2x4096x2048 : Shape := ⟨3, ![2, 4096, 2048]⟩
abbrev S2048x2048 : Shape := ⟨2, ![2048, 2048]⟩
abbrev S2x2048 : Shape := ⟨2, ![2, 2048]⟩
abbrev S8192x2048 : Shape := ⟨2, ![8192, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S2x4096x2048, .f32⟩
  | .hbm, ⟨3, _⟩ => ⟨S2x2048, .f32⟩
  | .hbm, ⟨4, _⟩ => ⟨S8192x2048, .bf16⟩
  | .hbm, ⟨5, _⟩ => ⟨S8192x2048, .f32⟩
  | .hbm, ⟨6, _⟩ => ⟨S2x1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S2x4096x2048 : Shape := ⟨3, ![2, 4096, 2048]⟩
abbrev S2048x2048 : Shape := ⟨2, ![2048, 2048]⟩
abbrev S2x2048 : Shape := ⟨2, ![2, 2048]⟩
abbrev S2x1x2048 : Shape := ⟨3, ![2, 1, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S2x4096x2048, .f32⟩
  | .hbm, ⟨3, _⟩ => ⟨S2x2048, .f32⟩
  | .hbm, ⟨4, _⟩ => ⟨S2x4096x2048, .f32⟩
  | .hbm, ⟨5, _⟩ => ⟨S2x4096x2048, .f32⟩
  | .hbm, ⟨6, _⟩ => ⟨S2x1x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SsdOut.lean ====
abbrev S2x4096x4096 : Shape := ⟨3, ![2, 4096, 4096]⟩
abbrev S4096x2048 : Shape := ⟨2, ![4096, 2048]⟩
abbrev S2x4096x2048 : Shape := ⟨3, ![2, 4096, 2048]⟩
abbrev S2x2048 : Shape := ⟨2, ![2, 2048]⟩
abbrev S8192x4096 : Shape := ⟨2, ![8192, 4096]⟩
abbrev S8192x2048 : Shape := ⟨2, ![8192, 2048]⟩
abbrev S2x1x2048 : Shape := ⟨3, ![2, 1, 2048]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x4096, .bf16⟩
  | .hbm, ⟨1, _⟩ => ⟨S4096x2048, .f32⟩
  | .hbm, ⟨2, _⟩ => ⟨S2x4096x2048, .f32⟩
  | .hbm, ⟨3, _⟩ => ⟨S2x2048, .f32⟩
  | .hbm, ⟨4, _⟩ => ⟨S8192x4096, .bf16⟩
  | .hbm, ⟨5, _⟩ => ⟨S8192x2048, .f32⟩
  | .hbm, ⟨6, _⟩ => ⟨S2x1x2048, .f32⟩
  | .hbm, ⟨7, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsdOutReferenceIdeal.lean ====
abbrev S2x4096x4096 : Shape := ⟨3, ![2, 4096, 4096]⟩
abbrev S4096x2048 : Shape := ⟨2, ![4096, 2048]⟩
abbrev S2x4096x2048 : Shape := ⟨3, ![2, 4096, 2048]⟩
abbrev S2x2048 : Shape := ⟨2, ![2, 2048]⟩
abbrev S2x1x2048 : Shape := ⟨3, ![2, 1, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x2048, .f32⟩
  | .hbm, ⟨2, _⟩ => ⟨S2x4096x2048, .f32⟩
  | .hbm, ⟨3, _⟩ => ⟨S2x2048, .f32⟩
  | .hbm, ⟨4, _⟩ => ⟨S2x4096x4096, .f32⟩
  | .hbm, ⟨5, _⟩ => ⟨S2x4096x2048, .f32⟩
  | .hbm, ⟨6, _⟩ => ⟨S2x1x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S8192x2048, .f32⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Scan.lean ====
abbrev S2x4096x6144 : Shape := ⟨3, ![2, 4096, 6144]⟩
abbrev S2x4096x128 : Shape := ⟨3, ![2, 4096, 128]⟩
abbrev S2x64 : Shape := ⟨2, ![2, 64]⟩
abbrev S64 : Shape := ⟨1, ![64]⟩
abbrev S64x64 : Shape := ⟨2, ![64, 64]⟩
abbrev S4096 : Shape := ⟨1, ![4096]⟩
abbrev S1x4096 : Shape := ⟨2, ![1, 4096]⟩
abbrev S1x128 : Shape := ⟨2, ![1, 128]⟩
abbrev S2x4096x4096 : Shape := ⟨3, ![2, 4096, 4096]⟩
abbrev S1x128x4096 : Shape := ⟨3, ![1, 128, 4096]⟩
abbrev S1x128x1024 : Shape := ⟨3, ![1, 128, 1024]⟩
abbrev S1x128x128 : Shape := ⟨3, ![1, 128, 128]⟩
abbrev S8x128x512 : Shape := ⟨3, ![8, 128, 512]⟩
abbrev S128x128 : Shape := ⟨2, ![128, 128]⟩
abbrev S128x1 : Shape := ⟨2, ![128, 1]⟩
abbrev S1x128x512 : Shape := ⟨3, ![1, 128, 512]⟩
abbrev S128x512 : Shape := ⟨2, ![128, 512]⟩
abbrev S256x128 : Shape := ⟨2, ![256, 128]⟩
abbrev S128x256 : Shape := ⟨2, ![128, 256]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x128, .f32⟩
  | .hbm, ⟨2, _⟩ => ⟨S2x64, .f32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S1x4096, .f32⟩
  | .hbm, ⟨8, _⟩ => ⟨S1x128, .f32⟩
  | .hbm, ⟨9, _⟩ => ⟨S1x128, .f32⟩
  | .hbm, ⟨10, _⟩ => ⟨S2x4096x4096, .f32⟩
  | .local _ .vmem, ⟨0, _⟩ => ⟨S1x128x4096, .bf16⟩
  | .local _ .vmem, ⟨1, _⟩ => ⟨S1x128x4096, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x4096, .f32⟩
  | .local _ .vmem, ⟨11, _⟩ => ⟨S1x128x4096, .f32⟩
  | .local _ .vmem, ⟨12, _⟩ => ⟨S1x128x4096, .f32⟩
  | .local _ .vmem, ⟨13, _⟩ => ⟨S8x128x512, .f32⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScanIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ScanReferenceIdeal.lean ====
abbrev S2x4096x6144 : Shape := ⟨3, ![2, 4096, 6144]⟩
abbrev S2x4096x128 : Shape := ⟨3, ![2, 4096, 128]⟩
abbrev S2x64 : Shape := ⟨2, ![2, 64]⟩
abbrev S64 : Shape := ⟨1, ![64]⟩
abbrev S2x4096x4096 : Shape := ⟨3, ![2, 4096, 4096]⟩
abbrev S2x4096x8x8x64 : Shape := ⟨5, ![2, 4096, 8, 8, 64]⟩
abbrev S2x4096x1024 : Shape := ⟨3, ![2, 4096, 1024]⟩
abbrev S2x4096x8x128 : Shape := ⟨4, ![2, 4096, 8, 128]⟩
abbrev S2x4096x64 : Shape := ⟨3, ![2, 4096, 64]⟩
abbrev S1x64 : Shape := ⟨2, ![1, 64]⟩
abbrev S1x1x64 : Shape := ⟨3, ![1, 1, 64]⟩
abbrev S_ : Shape := ⟨0, ![]⟩
abbrev S2x4096x8x8 : Shape := ⟨4, ![2, 4096, 8, 8]⟩
abbrev S8x8 : Shape := ⟨2, ![8, 8]⟩
abbrev S1x1x8x8 : Shape := ⟨4, ![1, 1, 8, 8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096x1x1 : Shape := ⟨5, ![1, 4096, 4096, 1, 1]⟩
abbrev S2x4096x1x8x8 : Shape := ⟨5, ![2, 4096, 1, 8, 8]⟩
abbrev S2x1x4096x8x8 : Shape := ⟨5, ![2, 1, 4096, 8, 8]⟩
abbrev S2x4096x4096x8x8 : Shape := ⟨5, ![2, 4096, 4096, 8, 8]⟩
abbrev S2x8x4096x4096 : Shape := ⟨4, ![2, 8, 4096, 4096]⟩
abbrev S2x4096x4096x8 : Shape := ⟨4, ![2, 4096, 4096, 8]⟩
abbrev S2x4096x4096x8x1 : Shape := ⟨5, ![2, 4096, 4096, 8, 1]⟩
abbrev S2x4096x8x8x1 : Shape := ⟨5, ![2, 4096, 8, 8, 1]⟩
abbrev S2x8x8x64x4096 : Shape := ⟨5, ![2, 8, 8, 64, 4096]⟩
abbrev S8x8x1 : Shape := ⟨3, ![8, 8, 1]⟩
abbrev S1x1x8x8x1 : Shape := ⟨5, ![1, 1, 8, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x128, .f32⟩
  | .hbm, ⟨2, _⟩ => ⟨S2x64, .f32⟩
  | .hbm, ⟨3, _⟩ => ⟨S2x64, .f32⟩
  | .hbm, ⟨4, _⟩ => ⟨S64, .f32⟩
  | .hbm, ⟨5, _⟩ => ⟨S2x4096x6144, .f32⟩
  | .hbm, ⟨6, _⟩ => ⟨S2x4096x4096, .f32⟩
  | .hbm, ⟨7, _⟩ => ⟨S2x4096x8x8x64, .f32⟩
  | .hbm, ⟨8, _⟩ => ⟨S2x4096x1024, .f32⟩
  | .hbm, ⟨9, _⟩ => ⟨S2x4096x8x128, .f32⟩
  | .hbm, ⟨10, _⟩ => ⟨S2x4096x1024, .f32⟩
  | .hbm, ⟨11, _⟩ => ⟨S2x4096x8x128, .f32⟩
  | .hbm, ⟨12, _⟩ => ⟨S2x4096x64, .f32⟩
  | .hbm, ⟨13, _⟩ => ⟨S1x64, .f32⟩
  | .hbm, ⟨14, _⟩ => ⟨S64, .f32⟩
  | .hbm, ⟨15, _⟩ => ⟨S1x1x64, .f32⟩
  | .hbm, ⟨16, _⟩ => ⟨S2x4096x64, .f32⟩
  | .hbm, ⟨17, _⟩ => ⟨S2x4096x64, .f32⟩
  | .hbm, ⟨18, _⟩ => ⟨S_, .f32⟩
  | .hbm, ⟨19, _⟩ => ⟨S2x4096x64, .f32⟩
  | .hbm, ⟨20, _⟩ => ⟨S2x4096x64, .f32⟩
  | .hbm, ⟨21, _⟩ => ⟨S2x4096x64, .f32⟩
  | .hbm, ⟨22, _⟩ => ⟨S2x4096x64, .f32⟩
  | .hbm, ⟨23, _⟩ => ⟨S2x4096x64, .i1⟩
  | .hbm, ⟨24, _⟩ => ⟨S2x4096x64, .f32⟩
  | .hbm, ⟨25, _⟩ => ⟨S2x4096x64, .f32⟩
  | .hbm, ⟨26, _⟩ => ⟨S2x4096x64, .f32⟩
  | .hbm, ⟨27, _⟩ => ⟨S2x4096x64, .f32⟩
  | .hbm, ⟨28, _⟩ => ⟨S2x4096x64, .f32⟩
  | .hbm, ⟨29, _⟩ => ⟨S2x4096x64, .f32⟩
  | .hbm, ⟨30, _⟩ => ⟨S2x4096x64, .f32⟩
  | .hbm, ⟨31, _⟩ => ⟨S2x4096x64, .f32⟩
  | .hbm, ⟨32, _⟩ => ⟨S2x4096x8x8, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S8x8, .f32⟩
  | .hbm, ⟨37, _⟩ => ⟨S8x8, .f32⟩
  | .hbm, ⟨38, _⟩ => ⟨S1x1x8x8, .f32⟩
  | .hbm, ⟨39, _⟩ => ⟨S2x4096x8x8, .f32⟩
  | .hbm, ⟨40, _⟩ => ⟨S2x4096x8x8, .f32⟩
  | .hbm, ⟨41, _⟩ => ⟨S_, .f32⟩
  | .hbm, ⟨42, _⟩ => ⟨S_, .f32⟩
  | .hbm, ⟨43, _⟩ => ⟨S2x4096x8x8, .f32⟩
  | .hbm, ⟨44, _⟩ => ⟨S4096, .i32⟩
  | .hbm, ⟨45, _⟩ => ⟨S4096x1, .i32⟩
  | .hbm, ⟨46, _⟩ => ⟨S4096, .i32⟩
  | .hbm, ⟨47, _⟩ => ⟨S1x4096, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S1x4096x4096x1x1, .i1⟩
  | .hbm, ⟨52, _⟩ => ⟨S2x4096x1x8x8, .f32⟩
  | .hbm, ⟨53, _⟩ => ⟨S2x1x4096x8x8, .f32⟩
  | .hbm, ⟨54, _⟩ => ⟨S2x4096x4096x8x8, .f32⟩
  | .hbm, ⟨55, _⟩ => ⟨S2x4096x4096x8x8, .f32⟩
  | .hbm, ⟨56, _⟩ => ⟨S2x4096x4096x8x8, .f32⟩
  | .hbm, ⟨57, _⟩ => ⟨S_, .f32⟩
  | .hbm, ⟨58, _⟩ => ⟨S_, .f32⟩
  | .hbm, ⟨59, _⟩ => ⟨S2x4096x4096x8x8, .i1⟩
  | .hbm, ⟨60, _⟩ => ⟨S2x4096x4096x8x8, .f32⟩
  | .hbm, ⟨61, _⟩ => ⟨S2x4096x4096x8x8, .f32⟩
  | .hbm, ⟨62, _⟩ => ⟨S2x4096x4096x8x8, .f32⟩
  | .hbm, ⟨63, _⟩ => ⟨S2x8x4096x4096, .f32⟩
  | .hbm, ⟨64, _⟩ => ⟨S2x4096x4096x8, .f32⟩
  | .hbm, ⟨65, _⟩ => ⟨S2x4096x4096x8x1, .f32⟩
  | .hbm, ⟨66, _⟩ => ⟨S2x4096x4096x8x8, .f32⟩
  | .hbm, ⟨67, _⟩ => ⟨S2x4096x4096x8x8, .f32⟩
  | .hbm, ⟨68, _⟩ => ⟨S2x4096x8x8x1, .f32⟩
  | .hbm, ⟨69, _⟩ => ⟨S2x4096x8x8x64, .f32⟩
  | .hbm, ⟨70, _⟩ => ⟨S2x4096x8x8x64, .f32⟩
  | .hbm, ⟨71, _⟩ => ⟨S2x8x8x64x4096, .f32⟩
  | .hbm, ⟨72, _⟩ => ⟨S2x4096x8x8x64, .f32⟩
  | .hbm, ⟨73, _⟩ => ⟨S8x8, .f32⟩
  | .hbm, ⟨74, _⟩ => ⟨S8x8x1, .f32⟩
  | .hbm, ⟨75, _⟩ => ⟨S1x1x8x8x1, .f32⟩
  | .hbm, ⟨76, _⟩ => ⟨S2x4096x8x8x64, .f32⟩
  | .hbm, ⟨77, _⟩ => ⟨S2x4096x8x8x64, .f32⟩
  | .hbm, ⟨78, _⟩ => ⟨S2x4096x8x8x64, .f32⟩
  | .hbm, ⟨79, _⟩ => ⟨S2x4096x4096, .f32⟩
  | _, _ => ⟨S2x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_call0_cst : Ref sig .tc := ⟨.hbm, 41, rfl⟩
abbrev main_call1_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Steps.lean ====
abbrev S2x4096x2048 : Shape := ⟨3, ![2, 4096, 2048]⟩
abbrev S2048x10368 : Shape := ⟨2, ![2048, 10368]⟩
abbrev S8192x2048 : Shape := ⟨2, ![8192, 2048]⟩
abbrev S8192x128 : Shape := ⟨2, ![8192, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2048x10368, .f32⟩
  | .hbm, ⟨2, _⟩ => ⟨S8192x2048, .bf16⟩
  | .hbm, ⟨3, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== StepsReferenceIdeal.lean ====
abbrev S2x4096x2048 : Shape := ⟨3, ![2, 4096, 2048]⟩
abbrev S2048x10368 : Shape := ⟨2, ![2048, 10368]⟩
abbrev S2x4096x10368 : Shape := ⟨3, ![2, 4096, 10368]⟩
abbrev S2x4096x128 : Shape := ⟨3, ![2, 4096, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x10368, .f32⟩
  | .hbm, ⟨2, _⟩ => ⟨S2x4096x2048, .f32⟩
  | .hbm, ⟨3, _⟩ => ⟨S2x4096x10368, .f32⟩
  | .hbm, ⟨4, _⟩ => ⟨S2x4096x128, .f32⟩
  | .hbm, ⟨5, _⟩ => ⟨S8192x128, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormMod.lean ====
abbrev S2x4096x2048 : Shape := ⟨3, ![2, 4096, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S2x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormReferenceIdeal.lean ====
abbrev S2x4096x2048 : Shape := ⟨3, ![2, 4096, 2048]⟩
abbrev S2048 : Shape := ⟨1, ![2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Ada.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x12288x8, .f32⟩
  | .hbm, ⟨13, _⟩ => ⟨S2x8x12288, .f32⟩
  | .hbm, ⟨14, _⟩ => ⟨S2x1x12288, .f32⟩
  | .hbm, ⟨15, _⟩ => ⟨S2x8x12288, .f32⟩
  | .hbm, ⟨16, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Conv.lean ====
abbrev S2x4096x10240 : Shape := ⟨3, ![2, 4096, 10240]⟩
abbrev S5x6144 : Shape := ⟨2, ![5, 6144]⟩
abbrev S6144 : Shape := ⟨1, ![6144]⟩
abbrev S1x6144 : Shape := ⟨2, ![1, 6144]⟩
abbrev S2x4096x6144 : Shape := ⟨3, ![2, 4096, 6144]⟩
abbrev S1x4096x256 : Shape := ⟨3, ![1, 4096, 256]⟩
abbrev S5x256 : Shape := ⟨2, ![5, 256]⟩
abbrev S1x256 : Shape := ⟨2, ![1, 256]⟩
abbrev S4112x256 : Shape := ⟨2, ![4112, 256]⟩
abbrev S8x256 : Shape := ⟨2, ![8, 256]⟩
abbrev S4096x256 : Shape := ⟨2, ![4096, 256]⟩
abbrev S256x256 : Shape := ⟨2, ![256, 256]⟩
abbrev S1x256x256 : Shape := ⟨3, ![1, 256, 256]⟩

abbrev nBuf : Space → Nat
  | .hbm => 5
  | .vmem => 9
  | .smem => 0
  | _ => 0

abbrev bufTy : (tb : Table) → Fin (tcTables nBuf tb) → BufTy
  | .hbm, ⟨0, _⟩ => ⟨S2x4096x10240, .f32⟩
  | .hbm, ⟨1, _⟩ => ⟨S5x6144, .f32⟩
  | .hbm, ⟨2, _⟩ => ⟨S6144, .f32⟩
  | .hbm, ⟨3, _⟩ => ⟨S1x6144, .f32⟩
  | .hbm, ⟨4, _⟩ => ⟨S2x4096x6144, .bf16⟩
  | .local _ .vmem, ⟨0, _⟩ => ⟨S1x4096x256, .f32⟩
  | .local _ .vmem, ⟨1, _⟩ => ⟨S1x4096x256, .f32⟩
  | .local _ .vmem, ⟨2, _⟩ => ⟨S5x256, .f32⟩
  | .local _ .vmem, ⟨3, _⟩ => ⟨S5x256, .f32⟩
  | .local _ .vmem, ⟨4, _⟩ => ⟨S1x256, .f32⟩
  | .local _ .vmem, ⟨5, _⟩ => ⟨S1x256, .f32⟩
  | .local _ .vmem, ⟨6, _⟩ => ⟨S1x4096x256, .bf16⟩
  | .local _ .vmem, ⟨7, _⟩ => ⟨S1x4096x256, .bf16⟩
  | .local _ .vmem, ⟨8, _⟩ => ⟨S4112x256, .f32⟩
  | _, _ => ⟨S2x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvReferenceIdeal.lean ====
abbrev S2x4096x10240 : Shape := ⟨3, ![2, 4096, 10240]⟩
abbrev S5x6144 : Shape := ⟨2, ![5, 6144]⟩
abbrev S6144 : Shape := ⟨1, ![6144]⟩
abbrev S2x4096x6144 : Shape := ⟨3, ![2, 4096, 6144]⟩
abbrev S_ : Shape := ⟨0, ![]⟩
abbrev S2x4100x6144 : Shape := ⟨3, ![2, 4100, 6144]⟩
abbrev S1x6144 : Shape := ⟨2, ![1, 6144]⟩
abbrev S1x1x6144 : Shape := ⟨3, ![1, 1, 6144]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x10240, .f32⟩
  | .hbm, ⟨1, _⟩ => ⟨S5x6144, .f32⟩
  | .hbm, ⟨2, _⟩ => ⟨S6144, .f32⟩
  | .hbm, ⟨3, _⟩ => ⟨S2x4096x6144, .f32⟩
  | .hbm, ⟨4, _⟩ => ⟨S_, .i32⟩
  | .hbm, ⟨5, _⟩ => ⟨S_, .f32⟩
  | .hbm, ⟨6, _⟩ => ⟨S2x4100x6144, .f32⟩
  | .hbm, ⟨7, _⟩ => ⟨S2x4096x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S2x4096x6144, .f32⟩
  | .hbm, ⟨12, _⟩ => ⟨S2x4096x6144, .f32⟩
  | .hbm, ⟨13, _⟩ => ⟨S_, .f32⟩
  | .hbm, ⟨14, _⟩ => ⟨S2x4096x6144, .f32⟩
  | .hbm, ⟨15, _⟩ => ⟨S2x4096x6144, .f32⟩
  | .hbm, ⟨16, _⟩ => ⟨S2x4096x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S2x4096x6144, .f32⟩
  | .hbm, ⟨21, _⟩ => ⟨S2x4096x6144, .f32⟩
  | .hbm, ⟨22, _⟩ => ⟨S2x4096x6144, .f32⟩
  | .hbm, ⟨23, _⟩ => ⟨S2x4096x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S2x4096x6144, .f32⟩
  | .hbm, ⟨28, _⟩ => ⟨S2x4096x6144, .f32⟩
  | .hbm, ⟨29, _⟩ => ⟨S2x4096x6144, .f32⟩
  | .hbm, ⟨30, _⟩ => ⟨S2x4096x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S2x4096x6144, .f32⟩
  | .hbm, ⟨35, _⟩ => ⟨S2x4096x6144, .f32⟩
  | .hbm, ⟨36, _⟩ => ⟨S2x4096x6144, .f32⟩
  | .hbm, ⟨37, _⟩ => ⟨S2x4096x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S2x4096x6144, .f32⟩
  | .hbm, ⟨42, _⟩ => ⟨S2x4096x6144, .f32⟩
  | .hbm, ⟨43, _⟩ => ⟨S2x4096x6144, .f32⟩
  | .hbm, ⟨44, _⟩ => ⟨S1x1x6144, .f32⟩
  | .hbm, ⟨45, _⟩ => ⟨S2x4096x6144, .f32⟩
  | .hbm, ⟨46, _⟩ => ⟨S2x4096x6144, .f32⟩
  | .hbm, ⟨47, _⟩ => ⟨S2x4096x6144, .f32⟩
  | .hbm, ⟨48, _⟩ => ⟨S2x4096x6144, .f32⟩
  | .hbm, ⟨49, _⟩ => ⟨S_, .f32⟩
  | .hbm, ⟨50, _⟩ => ⟨S2x4096x6144, .f32⟩
  | .hbm, ⟨51, _⟩ => ⟨S2x4096x6144, .f32⟩
  | .hbm, ⟨52, _⟩ => ⟨S_, .f32⟩
  | .hbm, ⟨53, _⟩ => ⟨S2x4096x6144, .f32⟩
  | .hbm, ⟨54, _⟩ => ⟨S2x4096x6144, .f32⟩
  | .hbm, ⟨55, _⟩ => ⟨S2x4096x6144, .f32⟩
  | .hbm, ⟨56, _⟩ => ⟨S2x4096x6144, .bf16⟩
  | _, _ => ⟨S2x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.AttnMath.lean ====
/- Attention over a whole block of keys, those outside the window scored −∞, against attention over the window alone. -/
module

public import Idealize.ShloMosaic.PureOps.Ideal

@[expose] public section

noncomputable section

namespace Cert.AttnMath

open Idealize.ShloMosaic

/-- The pattern of −∞. -/
theorem ofBits_negInf : Ideal.ofBits .f32 0xFF800000#32 = ⊥ := by
  simp [Ideal.ofBits, Ideal.ieee]

/-- A finite nonnegative factor moves into a sum. -/
theorem sum_mul_nonneg {ι : Type*} (s : Finset ι) (g : ι → EReal) (c : ℝ) (hc : 0 ≤ c) :
    (∑ i ∈ s, g i) * (c : EReal) = ∑ i ∈ s, g i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of reals, as an extended real. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A softmax-weighted sum over a whole set of keys, all but those the injection `f` names scored −∞, is the softmax-weighted
sum over the named keys alone, whether one divides by the sum of the weights after or before summing. -/
theorem window {κ ι : Type*} [Fintype κ] [Fintype ι] [Nonempty ι] (S : κ → EReal) (f : ι → κ) (hf : Function.Injective f)
    (s : ι → ℝ) (hS : ∀ i, S (f i) = (s i : EReal)) (hout : ∀ l, (∀ i, f i ≠ l) → S l = ⊥) (w : κ → EReal) (c : EReal) (hc : c = ⊥) :
    Ideal.div (∑ l, Ideal.exp (S l - Finset.fold max c S Finset.univ) * w l) (∑ l, Ideal.exp (S l - Finset.fold max c S Finset.univ))
      = ∑ i, Ideal.div (Ideal.exp (S (f i) - max c (Finset.fold max c (fun i => S (f i)) Finset.univ)))
          (∑ i, Ideal.exp (S (f i) - max c (Finset.fold max c (fun i => S (f i)) Finset.univ))) * w (f i) := by
  classical
  subst hc
  have hM : Finset.fold max ⊥ S Finset.univ = Finset.univ.sup S := rfl
  have hm : Finset.fold max ⊥ (fun i => S (f i)) Finset.univ = Finset.univ.sup (fun i => S (f i)) := rfl
  have hle : Finset.univ.sup S = Finset.univ.sup (fun i => S (f i)) := by
    refine le_antisymm (Finset.sup_le fun l _ => ?_) (Finset.sup_le fun i _ => Finset.le_sup (f := S) (Finset.mem_univ (f i)))
    by_cases h : ∃ i, f i = l
    · obtain ⟨i, rfl⟩ := h
      exact Finset.le_sup (f := fun i => S (f i)) (Finset.mem_univ i)
    · rw [hout l fun i hi => h ⟨i, hi⟩]
      exact bot_le
  obtain ⟨i0, -, hi0⟩ := Finset.exists_mem_eq_sup Finset.univ Finset.univ_nonempty (fun i => S (f i))
  rw [hM, hm, hle, max_eq_right bot_le, hi0, hS i0]
  have hexp : ∀ i, Ideal.exp (S (f i) - (s i0 : EReal)) = ((Real.exp (s i - s i0) : ℝ) : EReal) := fun i => by
    rw [hS i, ← EReal.coe_sub]; rfl
  have hzero : ∀ l, (∀ i, f i ≠ l) → Ideal.exp (S l - (s i0 : EReal)) = 0 := fun l hl => by
    rw [hout l hl, EReal.bot_sub]; rfl
  have hsum : ∀ g : κ → EReal, (∀ l, (∀ i, f i ≠ l) → g l = 0) → ∑ l, g l = ∑ i, g (f i) := fun g hg => by
    rw [← Finset.sum_image (s := Finset.univ) (g := f) (f := g) fun a _ b _ h => hf h]
    refine (Finset.sum_subset (Finset.subset_univ _) fun l _ hl => hg l fun i hi => hl ?_).symm
    exact Finset.mem_image.2 ⟨i, Finset.mem_univ _, hi⟩
  rw [hsum (fun l => Ideal.exp (S l - (s i0 : EReal)) * w l) fun l hl => by rw [hzero l hl, zero_mul],
    hsum (fun l => Ideal.exp (S l - (s i0 : EReal))) hzero]
  simp only [hexp]
  rw [← coe_sum]
  have hpos : 0 < ∑ i, Real.exp (s i - s i0) := Finset.sum_pos (fun i _ => Real.exp_pos _) Finset.univ_nonempty
  rw [Ideal.div_coe hpos.ne', sum_mul_nonneg _ _ _ (by positivity)]
  refine Finset.sum_congr rfl fun i _ => ?_
  rw [Ideal.div_coe hpos.ne', mul_assoc, mul_assoc, mul_comm (w (f i))]

end Cert.AttnMath

end
-- ==== Proof.AttnTable.lean ====
/- The index tables of the attention: which row and column of the grid, and which entry of the bias, each of the window’s places reads. -/
module

public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Pointwise

/-- The first row of the window of a query row. -/
def row0 (r : ℕ) : ℕ := min (r - 4) 56
/-- The first column of the window of a query column. -/
def col0 (j : ℕ) : ℕ := min (j - 8) 48

/-- The window's rows, as the table holds them. -/
theorem v20_at (r : Fin 64) (a : Fin 8) : val_main_v20 (F := Ideal) (ix2 r a) = BitVec.ofNat 32 (row0 r.val + a.val) := by
  pointwise [val_main_v20, val_main_v19, val_main_v18, val_main_v17, val_main_v16, val_main_v15, val_main_v14, val_main_call0_v4, val_main_call0_v3, val_main_call0_v2, val_main_call0_v1, val_main_call0_v0, val_main_c_1, val_main_c_0, val_main_v13, val_main_v12, val_main_c, val_main_v10]
  revert r a
  decide +kernel

/-- The window's columns, as the table holds them. -/
theorem v29_at (j : Fin 64) (k : Fin 16) : val_main_v29 (F := Ideal) (ix2 j k) = BitVec.ofNat 32 (col0 j.val + k.val) := by
  pointwise [val_main_v29, val_main_v28, val_main_v27, val_main_v26, val_main_v25, val_main_v24, val_main_v23, val_main_call1_v4, val_main_call1_v3, val_main_call1_v2, val_main_call1_v1, val_main_call1_v0, val_main_c_3, val_main_c_4, val_main_v22, val_main_v21, val_main_c_2, val_main_v11]
  revert j k
  decide +kernel

theorem v52_at (r : Fin 64) (j : Fin 64) (a : Fin 8) (k : Fin 16) :
    val_main_v52 (F := Ideal) (ix4 r j a k) = BitVec.ofNat 32 (row0 r.val + a.val) := by
  pointwise [val_main_v52, val_main_v46, val_main_v45, val_main_v44, val_main_v43, val_main_v42, val_main_v40, val_main_c_7, val_main_c_8, v20_at]
  revert r a
  decide +kernel

theorem v53_at (r : Fin 64) (j : Fin 64) (a : Fin 8) (k : Fin 16) :
    val_main_v53 (F := Ideal) (ix4 r j a k) = BitVec.ofNat 32 (col0 j.val + k.val) := by
  pointwise [val_main_v53, val_main_v51, val_main_v50, val_main_v49, val_main_v48, val_main_v47, val_main_v41, val_main_c_9, val_main_c_10, v29_at]
  revert j k
  decide +kernel

theorem v56_row (r : Fin 64) (j : Fin 64) (a : Fin 8) (k : Fin 16) :
    val_main_v56 (F := Ideal) (ix5 r j a k 0) = BitVec.ofNat 32 (row0 r.val + a.val) := by
  pointwise [val_main_v56, val_main_v54, val_main_v55, v52_at, v53_at]

theorem v56_col (r : Fin 64) (j : Fin 64) (a : Fin 8) (k : Fin 16) :
    val_main_v56 (F := Ideal) (ix5 r j a k 1) = BitVec.ofNat 32 (col0 j.val + k.val) := by
  pointwise [val_main_v56, val_main_v54, val_main_v55, v52_at, v53_at]

theorem v74_eq : val_main_v74 (F := Ideal) = val_main_v56 (F := Ideal) := rfl

theorem v89_at (r : Fin 64) (j : Fin 64) (a : Fin 8) (k : Fin 16) :
    val_main_v89 (F := Ideal) (ix4 r j a k) = BitVec.ofNat 32 (row0 r.val + a.val + 7 - r.val) := by
  pointwise [val_main_v89, val_main_v83, val_main_v82, val_main_v81, val_main_v80, val_main_v79, val_main_v77, val_main_c_15, val_main_c_16, val_main_v34, val_main_v33, val_main_v32, val_main_v31, val_main_v30, val_main_c_5, val_main_v10, v20_at]
  revert r a
  decide +kernel

theorem v90_at (r : Fin 64) (j : Fin 64) (a : Fin 8) (k : Fin 16) :
    val_main_v90 (F := Ideal) (ix4 r j a k) = BitVec.ofNat 32 (col0 j.val + k.val + 15 - j.val) := by
  pointwise [val_main_v90, val_main_v88, val_main_v87, val_main_v86, val_main_v85, val_main_v84, val_main_v78, val_main_c_17, val_main_c_18, val_main_v39, val_main_v38, val_main_v37, val_main_v36, val_main_v35, val_main_c_6, val_main_v11, v29_at]
  revert j k
  decide +kernel

theorem v93_row (r : Fin 64) (j : Fin 64) (a : Fin 8) (k : Fin 16) :
    val_main_v93 (F := Ideal) (ix5 r j a k 0) = BitVec.ofNat 32 (row0 r.val + a.val + 7 - r.val) := by
  pointwise [val_main_v93, val_main_v91, val_main_v92, v89_at, v90_at]

theorem v93_col (r : Fin 64) (j : Fin 64) (a : Fin 8) (k : Fin 16) :
    val_main_v93 (F := Ideal) (ix5 r j a k 1) = BitVec.ofNat 32 (col0 j.val + k.val + 15 - j.val) := by
  pointwise [val_main_v93, val_main_v91, val_main_v92, v89_at, v90_at]

end Cert.ReferenceIdeal.Attn

end
-- ==== Proof.AttnGather.lean ====
/- The two gathers of the attention read element by element: a row and a column of the grid taken from a table. -/
module

public import proofs.«01_k».proof.Proof.Gen.ReferenceIdeal.Run
public import proofs.«01_k».proof.Proof.Gen.ReferenceIdeal.Read
public import Idealize.ShloMosaic.Lib.Pointwise
public import Idealize.ShloMosaic.Lib.StableHlo.Predicate

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Pointwise

/-- A gathered query, key or value: the token at the row and column the table names, same batch, head and channel. -/
theorem gatherTok (y : S2x64x64x32x64.Idx → EReal) (w : S64x64x8x16x2.Idx → BitVec 32) (b : Fin 2) (r j : Fin 64) (a : Fin 8) (k : Fin 16)
    (h : Fin 32) (d : Fin 64) (R C : Fin 64) (hR : w (ix5 r j a k 0) = BitVec.ofNat 32 R.val) (hC : w (ix5 r j a k 1) = BitVec.ofNat 32 C.val) :
    Host.gather gather_S2x64x64x32x64_S64x64x8x16x2_S2x64x64x8x16x32x64_056_12_n_n_12_4_2113264 y w (ix7 b r j a k h d)
      = y (ix5 b R C h d) := by
  have e0 : ∀ X : Fin 7, X = 0 → (ix7 b r j a k h d X).val = b.val := fun X h => by subst h; rfl
  have e1 : ∀ X : Fin 7, X = 1 → (ix7 b r j a k h d X).val = r.val := fun X h => by subst h; rfl
  have e2 : ∀ X : Fin 7, X = 2 → (ix7 b r j a k h d X).val = j.val := fun X h => by subst h; rfl
  have e3 : ∀ X : Fin 7, X = 3 → (ix7 b r j a k h d X).val = a.val := fun X h => by subst h; rfl
  have e4 : ∀ X : Fin 7, X = 4 → (ix7 b r j a k h d X).val = k.val := fun X h => by subst h; rfl
  have e5 : ∀ X : Fin 7, X = 5 → (ix7 b r j a k h d X).val = h.val := fun X h => by subst h; rfl
  have e6 : ∀ X : Fin 7, X = 6 → (ix7 b r j a k h d X).val = d.val := fun X h => by subst h; rfl
  unfold Host.gather
  refine congrArg y (funext fun c => Fin.ext ?_)
  have si : ∀ (n : Fin 2) (p : n.val < gather_S2x64x64x32x64_S64x64x8x16x2_S2x64x64x8x16x32x64_056_12_n_n_12_4_2113264.startIndexMap.length),
      GatherDims.siIdx gather_S2x64x64x32x64_S64x64x8x16x2_S2x64x64x8x16x32x64_056_12_n_n_12_4_2113264 (ix7 b r j a k h d) ⟨n.val, p⟩ = ix5 r j a k n := by
    intro n p
    funext b'
    apply Fin.ext
    match b' with
    | ⟨0, _⟩ =>
      unfold GatherDims.siIdx
      rw [dif_neg (by show ¬ (0 : ℕ) = 4; decide)]
      unfold GatherDims.siCoord
      simp only [Fin.val_cast]
      exact e1 _ (by decide +kernel +revert)
    | ⟨1, _⟩ =>
      unfold GatherDims.siIdx
      rw [dif_neg (by show ¬ (1 : ℕ) = 4; decide)]
      unfold GatherDims.siCoord
      simp only [Fin.val_cast]
      exact e2 _ (by decide +kernel +revert)
    | ⟨2, _⟩ =>
      unfold GatherDims.siIdx
      rw [dif_neg (by show ¬ (2 : ℕ) = 4; decide)]
      unfold GatherDims.siCoord
      simp only [Fin.val_cast]
      exact e3 _ (by decide +kernel +revert)
    | ⟨3, _⟩ =>
      unfold GatherDims.siIdx
      rw [dif_neg (by show ¬ (3 : ℕ) = 4; decide)]
      unfold GatherDims.siCoord
      simp only [Fin.val_cast]
      exact e4 _ (by decide +kernel +revert)
    | ⟨4, _⟩ =>
      unfold GatherDims.siIdx
      rw [dif_pos (by show (4 : ℕ) = 4; rfl)]
      rfl
  match c with
  | ⟨0, _⟩ =>
    show GatherDims.start _ _ w 0 + GatherDims.batchCoord _ _ 0 + GatherDims.offCoord _ _ 0 = b.val
    rw [GatherDims.batchCoord_eq_zero _ _ _ List.not_mem_nil, Nat.add_zero]
    unfold GatherDims.start GatherDims.offCoord
    rw [dif_neg (by decide), dif_pos (by decide +kernel), Nat.zero_add]
    exact e0 _ (by decide +kernel)
  | ⟨1, _⟩ =>
    show GatherDims.start _ _ w 1 + GatherDims.batchCoord _ _ 1 + GatherDims.offCoord _ _ 1 = R.val
    rw [GatherDims.batchCoord_eq_zero _ _ _ List.not_mem_nil, GatherDims.offCoord_eq_zero _ _ _ (by decide +kernel)]
    simp only [Nat.add_zero]
    unfold GatherDims.start
    rw [dif_pos (by decide)]
    have := R.isLt
    refine (congrArg (fun z => min (BitVec.toInt z).toNat 63) ((congrArg w (si 0 (by decide))).trans hR)).trans ?_
    rw [StableHlo.Predicate.toInt_ofNat_small _ (by omega)]
    show min ((R.val : Int)).toNat 63 = R.val
    omega
  | ⟨2, _⟩ =>
    show GatherDims.start _ _ w 2 + GatherDims.batchCoord _ _ 2 + GatherDims.offCoord _ _ 2 = C.val
    rw [GatherDims.batchCoord_eq_zero _ _ _ List.not_mem_nil, GatherDims.offCoord_eq_zero _ _ _ (by decide +kernel)]
    simp only [Nat.add_zero]
    unfold GatherDims.start
    rw [dif_pos (by decide)]
    have := C.isLt
    refine (congrArg (fun z => min (BitVec.toInt z).toNat 63) ((congrArg w (si 1 (by decide))).trans hC)).trans ?_
    rw [StableHlo.Predicate.toInt_ofNat_small _ (by omega)]
    show min ((C.val : Int)).toNat 63 = C.val
    omega
  | ⟨3, _⟩ =>
    show GatherDims.start _ _ w 3 + GatherDims.batchCoord _ _ 3 + GatherDims.offCoord _ _ 3 = h.val
    rw [GatherDims.batchCoord_eq_zero _ _ _ List.not_mem_nil, Nat.add_zero]
    unfold GatherDims.start GatherDims.offCoord
    rw [dif_neg (by decide), dif_pos (by decide +kernel), Nat.zero_add]
    exact e5 _ (by decide +kernel)
  | ⟨4, _⟩ =>
    show GatherDims.start _ _ w 4 + GatherDims.batchCoord _ _ 4 + GatherDims.offCoord _ _ 4 = d.val
    rw [GatherDims.batchCoord_eq_zero _ _ _ List.not_mem_nil, Nat.add_zero]
    unfold GatherDims.start GatherDims.offCoord
    rw [dif_neg (by decide), dif_pos (by decide +kernel), Nat.zero_add]
    exact e6 _ (by decide +kernel)

/-- A gathered bias: the entry of the head's table at the row and column the index table names. -/
theorem gatherBias (y : S32x15x31.Idx → EReal) (w : S64x64x8x16x2.Idx → BitVec 32) (r j : Fin 64) (a : Fin 8) (k : Fin 16)
    (h : Fin 32) (R : Fin 15) (C : Fin 31) (hR : w (ix5 r j a k 0) = BitVec.ofNat 32 R.val) (hC : w (ix5 r j a k 1) = BitVec.ofNat 32 C.val) :
    Host.gather gather_S32x15x31_S64x64x8x16x2_S32x64x64x8x16_0_12_n_n_12_4_3211 y w (ix5 h r j a k)
      = y (ix3 h R C) := by
  have e0 : ∀ X : Fin 5, X = 0 → (ix5 h r j a k X).val = h.val := fun X h => by subst h; rfl
  have e1 : ∀ X : Fin 5, X = 1 → (ix5 h r j a k X).val = r.val := fun X h => by subst h; rfl
  have e2 : ∀ X : Fin 5, X = 2 → (ix5 h r j a k X).val = j.val := fun X h => by subst h; rfl
  have e3 : ∀ X : Fin 5, X = 3 → (ix5 h r j a k X).val = a.val := fun X h => by subst h; rfl
  have e4 : ∀ X : Fin 5, X = 4 → (ix5 h r j a k X).val = k.val := fun X h => by subst h; rfl
  unfold Host.gather
  refine congrArg y (funext fun c => Fin.ext ?_)
  have si : ∀ (n : Fin 2) (p : n.val < gather_S32x15x31_S64x64x8x16x2_S32x64x64x8x16_0_12_n_n_12_4_3211.startIndexMap.length),
      GatherDims.siIdx gather_S32x15x31_S64x64x8x16x2_S32x64x64x8x16_0_12_n_n_12_4_3211 (ix5 h r j a k) ⟨n.val, p⟩ = ix5 r j a k n := by
    intro n p
    funext b'
    apply Fin.ext
    match b' with
    | ⟨0, _⟩ =>
      unfold GatherDims.siIdx
      rw [dif_neg (by show ¬ (0 : ℕ) = 4; decide)]
      unfold GatherDims.siCoord
      simp only [Fin.val_cast]
      exact e1 _ (by decide +kernel +revert)
    | ⟨1, _⟩ =>
      unfold GatherDims.siIdx
      rw [dif_neg (by show ¬ (1 : ℕ) = 4; decide)]
      unfold GatherDims.siCoord
      simp only [Fin.val_cast]
      exact e2 _ (by decide +kernel +revert)
    | ⟨2, _⟩ =>
      unfold GatherDims.siIdx
      rw [dif_neg (by show ¬ (2 : ℕ) = 4; decide)]
      unfold GatherDims.siCoord
      simp only [Fin.val_cast]
      exact e3 _ (by decide +kernel +revert)
    | ⟨3, _⟩ =>
      unfold GatherDims.siIdx
      rw [dif_neg (by show ¬ (3 : ℕ) = 4; decide)]
      unfold GatherDims.siCoord
      simp only [Fin.val_cast]
      exact e4 _ (by decide +kernel +revert)
    | ⟨4, _⟩ =>
      unfold GatherDims.siIdx
      rw [dif_pos (by show (4 : ℕ) = 4; rfl)]
      rfl
  match c with
  | ⟨0, _⟩ =>
    show GatherDims.start _ _ w 0 + GatherDims.batchCoord _ _ 0 + GatherDims.offCoord _ _ 0 = h.val
    rw [GatherDims.batchCoord_eq_zero _ _ _ List.not_mem_nil, Nat.add_zero]
    unfold GatherDims.start GatherDims.offCoord
    rw [dif_neg (by decide), dif_pos (by decide +kernel), Nat.zero_add]
    exact e0 _ (by decide +kernel)
  | ⟨1, _⟩ =>
    show GatherDims.start _ _ w 1 + GatherDims.batchCoord _ _ 1 + GatherDims.offCoord _ _ 1 = R.val
    rw [GatherDims.batchCoord_eq_zero _ _ _ List.not_mem_nil, GatherDims.offCoord_eq_zero _ _ _ (by decide +kernel)]
    simp only [Nat.add_zero]
    unfold GatherDims.start
    rw [dif_pos (by decide)]
    have := R.isLt
    refine (congrArg (fun z => min (BitVec.toInt z).toNat 14) ((congrArg w (si 0 (by decide))).trans hR)).trans ?_
    rw [StableHlo.Predicate.toInt_ofNat_small _ (by omega)]
    show min ((R.val : Int)).toNat 14 = R.val
    omega
  | ⟨2, _⟩ =>
    show GatherDims.start _ _ w 2 + GatherDims.batchCoord _ _ 2 + GatherDims.offCoord _ _ 2 = C.val
    rw [GatherDims.batchCoord_eq_zero _ _ _ List.not_mem_nil, GatherDims.offCoord_eq_zero _ _ _ (by decide +kernel)]
    simp only [Nat.add_zero]
    unfold GatherDims.start
    rw [dif_pos (by decide)]
    have := C.isLt
    refine (congrArg (fun z => min (BitVec.toInt z).toNat 30) ((congrArg w (si 1 (by decide))).trans hC)).trans ?_
    rw [StableHlo.Predicate.toInt_ofNat_small _ (by omega)]
    show min ((C.val : Int)).toNat 30 = C.val
    omega

end Cert.ReferenceIdeal.Attn

end
-- ==== Proof.AttnScore.lean ====
/- The scores of the attention and its values, element by element. -/
module

public import proofs.«01_k».proof.Proof.AttnTable
public import proofs.«01_k».proof.Proof.AttnGather

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Pointwise

variable (x0 : S2x4096x6144.Idx → EReal) (x1 : S32x15x31.Idx → EReal)

/-- The token of a window's place: row `row0 r + a`, column `col0 j + k`. -/
def keyTok (r j : Fin 64) (a : Fin 8) (k : Fin 16) : Fin 4096 :=
  ⟨(row0 r.val + a.val) * 64 + (col0 j.val + k.val), by unfold row0 col0; omega⟩

/-- The bias of a window's place for a head. -/
def biasAt (h : Fin 32) (r j : Fin 64) (a : Fin 8) (k : Fin 16) : EReal :=
  x1 (ix3 h ⟨row0 r.val + a.val + 7 - r.val, by unfold row0; omega⟩ ⟨col0 j.val + k.val + 15 - j.val, by unfold col0; omega⟩)

/-- The score of a window's place. -/
def score (b : Fin 2) (h : Fin 32) (r j : Fin 64) (a : Fin 8) (k : Fin 16) : EReal :=
  (∑ d : Fin 64, x0 (ix3 b ⟨r.val * 64 + j.val, by omega⟩ ⟨h.val * 64 + d.val, by omega⟩) * Ideal.ofBits .f32 0x3E000000#32
      * x0 (ix3 b (keyTok r j a k) ⟨2048 + h.val * 64 + d.val, by omega⟩))
    + biasAt x1 h r j a k

theorem v5_at (b : Fin 2) (r j : Fin 64) (h : Fin 32) (d : Fin 64) :
    val_main_v5 (F := Ideal) x0 (ix5 b r j h d)
      = x0 (ix3 b ⟨r.val * 64 + j.val, by omega⟩ ⟨h.val * 64 + d.val, by omega⟩) * Ideal.ofBits .f32 0x3E000000#32 := by
  pointwise [val_main_v5, val_main_v4, val_main_v3, val_main_v2, val_main_v1, val_main_v0, val_main_cst]

theorem v7_at (b : Fin 2) (r j : Fin 64) (h : Fin 32) (d : Fin 64) :
    val_main_v7 (F := Ideal) x0 (ix5 b r j h d)
      = x0 (ix3 b ⟨r.val * 64 + j.val, by omega⟩ ⟨2048 + h.val * 64 + d.val, by omega⟩) := by
  pointwise [val_main_v7, val_main_v6, val_main_v1, val_main_v0]

theorem v9_at (b : Fin 2) (r j : Fin 64) (h : Fin 32) (d : Fin 64) :
    val_main_v9 (F := Ideal) x0 (ix5 b r j h d)
      = x0 (ix3 b ⟨r.val * 64 + j.val, by omega⟩ ⟨4096 + h.val * 64 + d.val, by omega⟩) := by
  pointwise [val_main_v9, val_main_v8, val_main_v1, val_main_v0]

theorem v57_at (b : Fin 2) (r j : Fin 64) (a : Fin 8) (k : Fin 16) (h : Fin 32) (d : Fin 64) :
    val_main_v57 (F := Ideal) x0 (ix7 b r j a k h d) = x0 (ix3 b (keyTok r j a k) ⟨2048 + h.val * 64 + d.val, by omega⟩) := by
  unfold val_main_v57
  rw [gatherTok _ _ b r j a k h d ⟨row0 r.val + a.val, by unfold row0; omega⟩ ⟨col0 j.val + k.val, by unfold col0; omega⟩
    (v56_row r j a k) (v56_col r j a k), v7_at]
  rfl

theorem v75_at (b : Fin 2) (r j : Fin 64) (a : Fin 8) (k : Fin 16) (h : Fin 32) (d : Fin 64) :
    val_main_v75 (F := Ideal) x0 (ix7 b r j a k h d) = x0 (ix3 b (keyTok r j a k) ⟨4096 + h.val * 64 + d.val, by omega⟩) := by
  unfold val_main_v75
  rw [v74_eq, gatherTok _ _ b r j a k h d ⟨row0 r.val + a.val, by unfold row0; omega⟩ ⟨col0 j.val + k.val, by unfold col0; omega⟩
    (v56_row r j a k) (v56_col r j a k), v9_at]
  rfl

theorem v94_at (r j : Fin 64) (a : Fin 8) (k : Fin 16) (h : Fin 32) :
    val_main_v94 (F := Ideal) x1 (ix5 h r j a k) = biasAt x1 h r j a k := by
  unfold val_main_v94
  rw [gatherBias _ _ r j a k h ⟨row0 r.val + a.val + 7 - r.val, by unfold row0; omega⟩ ⟨col0 j.val + k.val + 15 - j.val, by unfold col0; omega⟩
    (v93_row r j a k) (v93_col r j a k)]
  rfl

theorem v76_at (b : Fin 2) (h : Fin 32) (r j : Fin 64) (a : Fin 8) (k : Fin 16) :
    val_main_v76 (F := Ideal) x0 (ix6 b h r j a k)
      = ∑ d : Fin 64, val_main_v5 (F := Ideal) x0 (ix5 b r j h d) * val_main_v57 (F := Ideal) x0 (ix7 b r j a k h d) := by
  pointwise [val_main_v76]

theorem v96_at (b : Fin 2) (h : Fin 32) (r j : Fin 64) (a : Fin 8) (k : Fin 16) :
    val_main_v96 (F := Ideal) x1 (ix6 b h r j a k) = val_main_v94 (F := Ideal) x1 (ix5 h r j a k) := by
  pointwise [val_main_v96, val_main_v95]

theorem v97_at (b : Fin 2) (h : Fin 32) (r j : Fin 64) (a : Fin 8) (k : Fin 16) :
    val_main_v97 (F := Ideal) x0 x1 (ix6 b h r j a k) = score x0 x1 b h r j a k := by
  show val_main_v76 (F := Ideal) x0 (ix6 b h r j a k) + val_main_v96 (F := Ideal) x1 (ix6 b h r j a k) = _
  rw [v76_at, v96_at, v94_at]
  simp only [v5_at, v57_at]
  rfl

end Cert.ReferenceIdeal.Attn

end
-- ==== Proof.AttnSoft.lean ====
/- The softmax of the attention, one step at a time. -/
module

public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Pointwise

variable (x0 : S2x4096x6144.Idx → EReal) (x1 : S32x15x31.Idx → EReal)

theorem v98_at (b : Fin 2) (h : Fin 32) (r j : Fin 64) (m : Fin 128) :
    val_main_v98 (F := Ideal) x0 x1 (ix5 b h r j m) = val_main_v97 (F := Ideal) x0 x1 (ix6 b h r j ⟨m.val / 16, by omega⟩ ⟨m.val % 16, by omega⟩) := by
  pointwise [val_main_v98]

/-- The host's maximum over the last of five axes. -/
theorem hostMax5 {n0 n1 n2 n3 n4 : ℕ} {t u : Shape} (h : (⟨5, ![n0, n1, n2, n3, n4]⟩ : Shape).ReducesTo [4] t)
    (v : (⟨5, ![n0, n1, n2, n3, n4]⟩ : Shape).Idx → EReal) (c : u.Idx → EReal) (hu : 0 < u.numel) (j : t.Idx) :
    Host.reduce (FloatOps.maximumf (F := Ideal) (φ := .f32)) v c h hu j
      = Finset.fold max (c (Shape.Idx.first hu)) (fun k : Fin n4 => v (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) Finset.univ := by
  rw [Host.reduce_eq_fold]
  exact h.fold_fiber_r5_a4 j _ _ v

/-- The largest score of a query. -/
theorem v99_at (b : Fin 2) (h : Fin 32) (r j : Fin 64) :
    val_main_v99 (F := Ideal) x0 x1 (ix4 b h r j) = Finset.fold max (Ideal.ofBits .f32 0xFF800000#32) (fun m : Fin 128 => val_main_v98 (F := Ideal) x0 x1 (ix5 b h r j m)) Finset.univ := by
  unfold val_main_v99
  generalize val_main_v98 (F := Ideal) x0 x1 = v
  exact hostMax5 reducesTo_S2x32x64x64x128_S2x32x64x64_d4 v _ h_S_ (ix4 b h r j)

theorem v101_at (b : Fin 2) (h : Fin 32) (r j : Fin 64) :
    val_main_v101 (F := Ideal) x0 x1 (ix4 b h r j) = max (Ideal.ofBits .f32 0xFF800000#32) (val_main_v99 (F := Ideal) x0 x1 (ix4 b h r j)) := by
  rw [val_main_v101_apply, Ideal.maximumf_eq_max]
  exact congrArg (fun z => max z (val_main_v99 (F := Ideal) x0 x1 (ix4 b h r j))) (by pointwise [val_main_v100, val_main_cst_20])

theorem v105_at (b : Fin 2) (h : Fin 32) (r j : Fin 64) (m : Fin 128) :
    val_main_v105 (F := Ideal) x0 x1 (ix5 b h r j m) = Ideal.exp (val_main_v98 (F := Ideal) x0 x1 (ix5 b h r j m) - val_main_v101 (F := Ideal) x0 x1 (ix4 b h r j)) := by
  pointwise [val_main_v105, val_main_v104, val_main_v103, val_main_v102]

theorem v106_at (b : Fin 2) (h : Fin 32) (r j : Fin 64) :
    val_main_v106 (F := Ideal) x0 x1 (ix4 b h r j) = ∑ m : Fin 128, val_main_v105 (F := Ideal) x0 x1 (ix5 b h r j m) := by
  pointwise [val_main_v106, val_main_cst_21]

theorem v109_at (b : Fin 2) (h : Fin 32) (r j : Fin 64) (m : Fin 128) :
    val_main_v109 (F := Ideal) x0 x1 (ix5 b h r j m) = Ideal.div (val_main_v105 (F := Ideal) x0 x1 (ix5 b h r j m)) (val_main_v106 (F := Ideal) x0 x1 (ix4 b h r j)) := by
  pointwise [val_main_v109, val_main_v108, val_main_v107]

theorem v110_at (b : Fin 2) (h : Fin 32) (r j : Fin 64) (a : Fin 8) (k : Fin 16) :
    val_main_v110 (F := Ideal) x0 x1 (ix6 b h r j a k) = val_main_v109 (F := Ideal) x0 x1 (ix5 b h r j ⟨a.val * 16 + k.val, by omega⟩) := by
  pointwise [val_main_v110]

end Cert.ReferenceIdeal.Attn

end
-- ==== Proof.AttnRef.lean ====
/- The result of the reference attention, element by element. -/
module

public import proofs.«01_k».proof.Proof.AttnScore
public import proofs.«01_k».proof.Proof.AttnSoft

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Pointwise

variable (x0 : S2x4096x6144.Idx → EReal) (x1 : S32x15x31.Idx → EReal)

/-- A sum over rows and columns of the window, as one over its places. -/
theorem sum_pairs (g : Fin 8 → Fin 16 → EReal) :
    ∑ a, ∑ k, g a k = ∑ m : Fin 128, g ⟨m.val / 16, by omega⟩ ⟨m.val % 16, by omega⟩ := by
  rw [← Fintype.sum_prod_type', ← (finProdFinEquiv (m := 8) (n := 16)).symm.sum_comp]
  rfl

/-- The score of the window's place `m`. -/
def scoreAt (b : Fin 2) (h : Fin 32) (r j : Fin 64) (m : Fin 128) : EReal :=
  score x0 x1 b h r j ⟨m.val / 16, by omega⟩ ⟨m.val % 16, by omega⟩

theorem v98_eq (b : Fin 2) (h : Fin 32) (r j : Fin 64) (m : Fin 128) :
    val_main_v98 (F := Ideal) x0 x1 (ix5 b h r j m) = scoreAt x0 x1 b h r j m := by
  rw [v98_at, v97_at]
  rfl

/-- The largest score of a query, as the reference takes it. -/
def top (b : Fin 2) (h : Fin 32) (r j : Fin 64) : EReal :=
  max (Ideal.ofBits .f32 0xFF800000#32) (Finset.fold max (Ideal.ofBits .f32 0xFF800000#32) (fun m => scoreAt x0 x1 b h r j m) Finset.univ)

theorem v101_eq (b : Fin 2) (h : Fin 32) (r j : Fin 64) :
    val_main_v101 (F := Ideal) x0 x1 (ix4 b h r j) = top x0 x1 b h r j := by
  rw [v101_at, v99_at]
  simp only [v98_eq]
  rfl

theorem v105_eq (b : Fin 2) (h : Fin 32) (r j : Fin 64) (m : Fin 128) :
    val_main_v105 (F := Ideal) x0 x1 (ix5 b h r j m) = Ideal.exp (scoreAt x0 x1 b h r j m - top x0 x1 b h r j) := by
  rw [v105_at, v98_eq, v101_eq]

theorem v106_eq (b : Fin 2) (h : Fin 32) (r j : Fin 64) :
    val_main_v106 (F := Ideal) x0 x1 (ix4 b h r j) = ∑ m : Fin 128, Ideal.exp (scoreAt x0 x1 b h r j m - top x0 x1 b h r j) := by
  rw [v106_at]
  simp only [v105_eq]

theorem v110_eq (b : Fin 2) (h : Fin 32) (r j : Fin 64) (m : Fin 128) :
    val_main_v110 (F := Ideal) x0 x1 (ix6 b h r j ⟨m.val / 16, by omega⟩ ⟨m.val % 16, by omega⟩)
      = Ideal.div (Ideal.exp (scoreAt x0 x1 b h r j m - top x0 x1 b h r j)) (∑ m : Fin 128, Ideal.exp (scoreAt x0 x1 b h r j m - top x0 x1 b h r j)) := by
  have e : (⟨m.val / 16 * 16 + m.val % 16, by omega⟩ : Fin 128) = m := Fin.ext (by show m.val / 16 * 16 + m.val % 16 = m.val; omega)
  rw [v110_at]
  show val_main_v109 (F := Ideal) x0 x1 (ix5 b h r j (⟨m.val / 16 * 16 + m.val % 16, by omega⟩ : Fin 128)) = _
  rw [e, v109_at, v105_eq, v106_eq]

theorem v113_at (b : Fin 2) (l : Fin 4096) (ch : Fin 2048) :
    val_main_v113 (F := Ideal) x0 x1 (ix3 b l ch)
      = ∑ a : Fin 8, ∑ k : Fin 16, val_main_v110 (F := Ideal) x0 x1 (ix6 b ⟨ch.val / 64, by omega⟩ ⟨l.val / 64, by omega⟩ ⟨l.val % 64, by omega⟩ a k)
          * val_main_v75 (F := Ideal) x0 (ix7 b ⟨l.val / 64, by omega⟩ ⟨l.val % 64, by omega⟩ a k ⟨ch.val / 64, by omega⟩ ⟨ch.val % 64, by omega⟩) := by
  pointwise [val_main_v113, val_main_v112, val_main_v111]

/-- The value of the window's place `m` at a channel. -/
def valueAt (b : Fin 2) (r j : Fin 64) (h : Fin 32) (d : Fin 64) (m : Fin 128) : EReal :=
  x0 (ix3 b (keyTok r j ⟨m.val / 16, by omega⟩ ⟨m.val % 16, by omega⟩) ⟨4096 + h.val * 64 + d.val, by omega⟩)

/-- The reference's result: the values of the window weighted by the softmax of its scores. -/
theorem result (b : Fin 2) (r j : Fin 64) (h : Fin 32) (d : Fin 64) :
    val_main_v113 (F := Ideal) x0 x1 (ix3 b ⟨r.val * 64 + j.val, by omega⟩ ⟨h.val * 64 + d.val, by omega⟩)
      = ∑ m : Fin 128, Ideal.div (Ideal.exp (scoreAt x0 x1 b h r j m - top x0 x1 b h r j)) (∑ m : Fin 128, Ideal.exp (scoreAt x0 x1 b h r j m - top x0 x1 b h r j))
          * valueAt x0 b r j h d m := by
  have er : (⟨(r.val * 64 + j.val) / 64, by omega⟩ : Fin 64) = r := Fin.ext (by show (r.val * 64 + j.val) / 64 = r.val; omega)
  have ej : (⟨(r.val * 64 + j.val) % 64, by omega⟩ : Fin 64) = j := Fin.ext (by show (r.val * 64 + j.val) % 64 = j.val; omega)
  have eh : (⟨(h.val * 64 + d.val) / 64, by omega⟩ : Fin 32) = h := Fin.ext (by show (h.val * 64 + d.val) / 64 = h.val; omega)
  have ed : (⟨(h.val * 64 + d.val) % 64, by omega⟩ : Fin 64) = d := Fin.ext (by show (h.val * 64 + d.val) % 64 = d.val; omega)
  rw [v113_at]
  simp only [er, ej, eh, ed]
  rw [sum_pairs]
  refine Finset.sum_congr rfl fun m _ => ?_
  rw [v110_eq, v75_at]
  rfl

end Cert.ReferenceIdeal.Attn

end
-- ==== Proof.AttnPair.lean ====
/- The scores of a pair of heads, which the kernel takes in one product with the other head's lanes masked out. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The lane mask of the first head of a pair. -/
theorem sel_lt {α : Type} (n : Fin 128) (a b : α) :
    Scalar.select (IntOp.cmpi CmpIPredicate.slt (BitVec.ofNat 32 n.val) 64#32) a b = if n.val < 64 then a else b := by
  have h : ∀ n : Fin 128, (IntOp.cmpi CmpIPredicate.slt (BitVec.ofNat 32 n.val) 64#32 = 1) ↔ n.val < 64 := by decide +kernel
  unfold Scalar.select
  simp only [h]

/-- A product over 128 lanes, the upper half masked out on the left. -/
theorem sum_lo (A B : Fin 128 → EReal) :
    ∑ n : Fin 128, (if n.val < 64 then A n else 0) * B n = ∑ d : Fin 64, A ⟨d.val, by omega⟩ * B ⟨d.val, by omega⟩ := by
  rw [show (∑ n : Fin 128, (if n.val < 64 then A n else 0) * B n) = ∑ n : Fin (64 + 64), (if n.val < 64 then A n else 0) * B n from rfl,
    Fin.sum_univ_add]
  rw [Finset.sum_eq_zero (s := Finset.univ) (f := fun i : Fin 64 => (if (Fin.natAdd 64 i).val < 64 then A (Fin.natAdd 64 i) else 0) * B (Fin.natAdd 64 i))
    fun i _ => by rw [if_neg (by show ¬ (64 + i.val < 64); omega), zero_mul], add_zero]
  refine Finset.sum_congr rfl fun i _ => ?_
  rw [if_pos (by show i.val < 64; omega)]
  rfl

/-- A product over 128 lanes, the lower half masked out on the left. -/
theorem sum_hi (A B : Fin 128 → EReal) :
    ∑ n : Fin 128, (if n.val < 64 then 0 else A n) * B n = ∑ d : Fin 64, A ⟨64 + d.val, by omega⟩ * B ⟨64 + d.val, by omega⟩ := by
  rw [show (∑ n : Fin 128, (if n.val < 64 then 0 else A n) * B n) = ∑ n : Fin (64 + 64), (if n.val < 64 then 0 else A n) * B n from rfl,
    Fin.sum_univ_add]
  rw [Finset.sum_eq_zero (s := Finset.univ) (f := fun i : Fin 64 => (if (Fin.castAdd 64 i).val < 64 then 0 else A (Fin.castAdd 64 i)) * B (Fin.castAdd 64 i))
    fun i _ => by rw [if_pos (by show i.val < 64; omega), zero_mul], zero_add]
  refine Finset.sum_congr rfl fun i _ => ?_
  rw [if_neg (by show ¬ (64 + i.val < 64); omega)]
  rfl

variable (q : S1x64x512.Idx → EReal) (k : S1x512x512.Idx → EReal)

/-- The score of a query of head `n` of the block's eight: the scaled product over the head's 64 channels. -/
def qk (x : Fin 64) (n : Fin 8) (l : Fin 512) : EReal :=
  ∑ d : Fin 64, q (ix3 0 x ⟨n.val * 64 + d.val, by omega⟩) * Ideal.ofBits .bf16 0x3E00#16 * k (ix3 0 l ⟨n.val * 64 + d.val, by omega⟩)

/-- A pair's product as the kernel forms it: the first head's rows with its lanes kept, then the second's. -/
def masked (c : Fin 128 → Fin 512) (x : Fin 128) (l : Fin 512) : EReal :=
  ∑ n : Fin 128,
      (if h : x.val < 64 then (if n.val < 64 then q (ix3 0 ⟨x.val, h⟩ (c n)) * Ideal.ofBits .bf16 0x3E00#16 else 0)
        else (if n.val < 64 then 0 else q (ix3 0 ⟨x.val - 64, by omega⟩ (c n)) * Ideal.ofBits .bf16 0x3E00#16))
        * k (ix3 0 l (c n))

/-- The product of a pair of heads at its first head's rows and at its second's. -/
theorem pair (P : S128x512.Idx → EReal) (p : Fin 4) (c : Fin 128 → Fin 512) (hc : ∀ n, (c n).val = p.val * 128 + n.val)
    (hP : ∀ (x : Fin 128) (l : Fin 512), P (ix2 x l) = masked q k c x l)
    (x : Fin 128) (l : Fin 512) : P (ix2 x l) = qk q k ⟨x.val % 64, by omega⟩ ⟨p.val * 2 + x.val / 64, by omega⟩ l := by
  rw [hP]
  unfold qk masked
  by_cases h : x.val < 64
  · simp only [dif_pos h]
    rw [sum_lo (fun n => q (ix3 0 ⟨x.val, h⟩ (c n)) * Ideal.ofBits .bf16 0x3E00#16) (fun n => k (ix3 0 l (c n)))]
    refine Finset.sum_congr rfl fun d _ => ?_
    have e1 : (⟨x.val, h⟩ : Fin 64) = ⟨x.val % 64, by omega⟩ := Fin.ext (by show x.val = x.val % 64; omega)
    have e2 : c ⟨d.val, by omega⟩ = ⟨(p.val * 2 + x.val / 64) * 64 + d.val, by omega⟩ :=
      Fin.ext ((hc _).trans (by show p.val * 128 + d.val = (p.val * 2 + x.val / 64) * 64 + d.val; omega))
    rw [e1, e2]
  · simp only [dif_neg h]
    rw [sum_hi (fun n => q (ix3 0 ⟨x.val - 64, by omega⟩ (c n)) * Ideal.ofBits .bf16 0x3E00#16) (fun n => k (ix3 0 l (c n)))]
    refine Finset.sum_congr rfl fun d _ => ?_
    have e1 : (⟨x.val - 64, by omega⟩ : Fin 64) = ⟨x.val % 64, by omega⟩ := Fin.ext (by show x.val - 64 = x.val % 64; omega)
    have e2 : c ⟨64 + d.val, by omega⟩ = ⟨(p.val * 2 + x.val / 64) * 64 + d.val, by omega⟩ :=
      Fin.ext ((hc _).trans (by show p.val * 128 + (64 + d.val) = (p.val * 2 + x.val / 64) * 64 + d.val; omega))
    rw [e1, e2]

theorem pay7 (x : Fin 128) (l : Fin 512) :
    k1_pay7 (F := Ideal) k1_pay1 q k (ix2 x l) = qk q k ⟨x.val % 64, by omega⟩ ⟨0 * 2 + x.val / 64, by omega⟩ l := by
  refine pair q k _ (0 : Fin 4) (fun n => ⟨n.val, by omega⟩) (fun n => by show n.val = 0 * 128 + n.val; omega) (fun x l => ?_) x l
  pointwise [k1_pay7, k1_pay1, k1_pay3, k1_pay4, k1_pay6]
  unfold masked
  refine Finset.sum_congr rfl fun n _ => ?_
  simp only [sel_lt]

theorem pay8 (x : Fin 128) (l : Fin 512) :
    k1_pay8 (F := Ideal) k1_pay1 q k (ix2 x l) = qk q k ⟨x.val % 64, by omega⟩ ⟨1 * 2 + x.val / 64, by omega⟩ l := by
  refine pair q k _ (1 : Fin 4) (fun n => ⟨128 + n.val, by omega⟩) (fun n => by show 128 + n.val = 1 * 128 + n.val; omega) (fun x l => ?_) x l
  pointwise [k1_pay8, k1_pay1, k1_pay3, k1_pay4, k1_pay6]
  unfold masked
  refine Finset.sum_congr rfl fun n _ => ?_
  simp only [sel_lt]

theorem pay11 (x : Fin 128) (l : Fin 512) :
    k1_pay11 (F := Ideal) (k1_pay9 k1_pay1 q) (k1_pay10 k) (ix2 x l) = qk q k ⟨x.val % 64, by omega⟩ ⟨2 * 2 + x.val / 64, by omega⟩ l := by
  refine pair q k _ (2 : Fin 4) (fun n => ⟨256 + n.val, by omega⟩) (fun n => by show 256 + n.val = 2 * 128 + n.val; omega) (fun x l => ?_) x l
  pointwise [k1_pay11, k1_pay9, k1_pay10, k1_pay1, k1_pay3, k1_pay4, k1_pay6]
  unfold masked
  refine Finset.sum_congr rfl fun n _ => ?_
  simp only [sel_lt]

theorem pay12 (x : Fin 128) (l : Fin 512) :
    k1_pay12 (F := Ideal) k1_pay1 (k1_pay3 q) (k1_pay4 k) k1_pay6 (ix2 x l) = qk q k ⟨x.val % 64, by omega⟩ ⟨3 * 2 + x.val / 64, by omega⟩ l := by
  refine pair q k _ (3 : Fin 4) (fun n => ⟨384 + n.val, by omega⟩) (fun n => by show 384 + n.val = 3 * 128 + n.val; omega) (fun x l => ?_) x l
  pointwise [k1_pay12, k1_pay1, k1_pay3, k1_pay4, k1_pay6]
  unfold masked
  refine Finset.sum_congr rfl fun n _ => ?_
  simp only [sel_lt]

end Cert.KernelIdeal.Attn

end
-- ==== Proof.AttnRow.lean ====
/- One grid row of queries: what the kernel writes for it, element by element. -/
module

public import proofs.«01_k».proof.Proof.Gen.KernelIdeal.Skeleton
public import Idealize.ShloMosaic.Lib.Pipeline.ValueKit
public import Idealize.ShloMosaic.Lib.Pointwise
public import proofs.«01_k».proof.Proof.AttnPair

@[expose] public section

set_option maxRecDepth 16384

noncomputable section

namespace Cert.KernelIdeal.Attn

open Cert.KernelIdeal Cert.KernelIdeal.Gen Idealize.ShloMosaic Idealize.ShloMosaic.TcCoe Idealize.SL.Sem

variable (q : S1x64x512.Idx → EReal) (k v : S1x512x512.Idx → EReal) (β : Fin 8 → Fin 4 → S1x1x64x128.Idx → EReal)

/-- Four bias blocks side by side. -/
theorem cat4 (o0 o1 o2 o3 : S1x1x64x128.Idx → EReal) (P : S64x512.Idx → EReal) (f : Fin 4 → S1x1x64x128.Idx → EReal)
    (h0 : f 0 = o0) (h1 : f 1 = o1) (h2 : f 2 = o2) (h3 : f 3 = o3) (x : Fin 64) (l : Fin 512)
    (hP : P (ix2 x l) = if h : l.val < 128 then o0 (ix4 0 0 x ⟨l.val, h⟩) else if h1 : l.val - 128 < 128 then o1 (ix4 0 0 x ⟨l.val - 128, h1⟩)
      else if h2 : l.val - 128 - 128 < 128 then o2 (ix4 0 0 x ⟨l.val - 128 - 128, h2⟩) else o3 (ix4 0 0 x ⟨l.val - 128 - 128 - 128, by omega⟩)) :
    P (ix2 x l) = f ⟨l.val / 128, by omega⟩ (ix4 0 0 x ⟨l.val % 128, by omega⟩) := by
  rw [hP]
  subst h0 h1 h2 h3
  split
  · rename_i h
    exact congrArg₂ (fun (a : Fin 4) (y : Fin 128) => f a (ix4 0 0 x y)) (Fin.ext (by show 0 = l.val / 128; omega)) (Fin.ext (by show l.val = l.val % 128; omega))
  · split
    · rename_i h h'
      exact congrArg₂ (fun (a : Fin 4) (y : Fin 128) => f a (ix4 0 0 x y)) (Fin.ext (by show 1 = l.val / 128; omega)) (Fin.ext (by show l.val - 128 = l.val % 128; omega))
    · split
      · rename_i h h' h''
        exact congrArg₂ (fun (a : Fin 4) (y : Fin 128) => f a (ix4 0 0 x y)) (Fin.ext (by show 2 = l.val / 128; omega)) (Fin.ext (by show l.val - 128 - 128 = l.val % 128; omega))
      · rename_i h h' h''
        exact congrArg₂ (fun (a : Fin 4) (y : Fin 128) => f a (ix4 0 0 x y)) (Fin.ext (by show 3 = l.val / 128; omega)) (Fin.ext (by show l.val - 128 - 128 - 128 = l.val % 128; omega))

theorem bias0 (x : Fin 64) (l : Fin 512) : k1_pay13 (F := Ideal) (β 0 0) (β 0 1) (β 0 2) (β 0 3) (ix2 x l) = β 0 ⟨l.val / 128, by omega⟩ (ix4 0 0 x ⟨l.val % 128, by omega⟩) := by
  refine cat4 _ _ _ _ _ (β 0) rfl rfl rfl rfl x l ?_
  pointwise [k1_pay13]

theorem bias1 (x : Fin 64) (l : Fin 512) : k1_pay16 (F := Ideal) (k1_pay14 (β 1 0)) (k1_pay15 (β 1 1)) (β 1 2) (β 1 3) (ix2 x l) = β 1 ⟨l.val / 128, by omega⟩ (ix4 0 0 x ⟨l.val % 128, by omega⟩) := by
  refine cat4 _ _ _ _ _ (β 1) rfl rfl rfl rfl x l ?_
  pointwise [k1_pay16, k1_pay14, k1_pay15]

theorem bias2 (x : Fin 64) (l : Fin 512) : k1_pay17 (F := Ideal) (β 2 0) (β 2 1) (β 2 2) (β 2 3) (ix2 x l) = β 2 ⟨l.val / 128, by omega⟩ (ix4 0 0 x ⟨l.val % 128, by omega⟩) := by
  refine cat4 _ _ _ _ _ (β 2) rfl rfl rfl rfl x l ?_
  pointwise [k1_pay17]

theorem bias3 (x : Fin 64) (l : Fin 512) : k1_pay19 (F := Ideal) (k1_pay18 (β 3 0)) (β 3 1) (β 3 2) (β 3 3) (ix2 x l) = β 3 ⟨l.val / 128, by omega⟩ (ix4 0 0 x ⟨l.val % 128, by omega⟩) := by
  refine cat4 _ _ _ _ _ (β 3) rfl rfl rfl rfl x l ?_
  pointwise [k1_pay19, k1_pay18]

theorem bias4 (x : Fin 64) (l : Fin 512) : k1_pay20 (F := Ideal) (β 4 0) (β 4 1) (β 4 2) (β 4 3) (ix2 x l) = β 4 ⟨l.val / 128, by omega⟩ (ix4 0 0 x ⟨l.val % 128, by omega⟩) := by
  refine cat4 _ _ _ _ _ (β 4) rfl rfl rfl rfl x l ?_
  pointwise [k1_pay20]

theorem bias5 (x : Fin 64) (l : Fin 512) : k1_pay21 (F := Ideal) (β 5 0) (β 5 1) (β 5 2) (β 5 3) (ix2 x l) = β 5 ⟨l.val / 128, by omega⟩ (ix4 0 0 x ⟨l.val % 128, by omega⟩) := by
  refine cat4 _ _ _ _ _ (β 5) rfl rfl rfl rfl x l ?_
  pointwise [k1_pay21]

theorem bias6 (x : Fin 64) (l : Fin 512) : k1_pay22 (F := Ideal) (β 6 0) (β 6 1) (β 6 2) (β 6 3) (ix2 x l) = β 6 ⟨l.val / 128, by omega⟩ (ix4 0 0 x ⟨l.val % 128, by omega⟩) := by
  refine cat4 _ _ _ _ _ (β 6) rfl rfl rfl rfl x l ?_
  pointwise [k1_pay22]

theorem bias7 (x : Fin 64) (l : Fin 512) : k1_pay13 (F := Ideal) (β 7 0) (β 7 1) (β 7 2) (β 7 3) (ix2 x l) = β 7 ⟨l.val / 128, by omega⟩ (ix4 0 0 x ⟨l.val % 128, by omega⟩) := by
  refine cat4 _ _ _ _ _ (β 7) rfl rfl rfl rfl x l ?_
  pointwise [k1_pay13]

/-- The eight heads' bias, one above the other. -/
def biasCat (b0 b1 b2 b3 b4 b5 b6 b7 : S64x512.Idx → EReal) : S512x512.Idx → EReal :=
  concatenate S512x512 0 [⟨S64x512, b0⟩, ⟨S64x512, b1⟩, ⟨S64x512, b2⟩, ⟨S64x512, b3⟩, ⟨S64x512, b4⟩, ⟨S64x512, b5⟩, ⟨S64x512, b6⟩, ⟨S64x512, b7⟩] concatenates_S64x512_S64x512_S64x512_S64x512_S64x512_S64x512_S64x512_S64x512_S512x512_d0

/-- The four pairs' scores, one above the other. -/
def scoreCat (s0 s1 s2 s3 : S128x512.Idx → EReal) : S512x512.Idx → EReal :=
  concatenate S512x512 0 [⟨S128x512, s0⟩, ⟨S128x512, s1⟩, ⟨S128x512, s2⟩, ⟨S128x512, s3⟩] concatenates_S128x512_S128x512_S128x512_S128x512_S512x512_d0

/-- The exponentials of a matrix less its row maxima. -/
def softExp (s : FVec Ideal S512x512 .f32) : FVec Ideal S512x512 .f32 :=
  exp (subf s (broadcastTo S512x512 (shapeCast S512x1 (multiReduction .maximumf [1] S512 s 0xFF800000#32 reduces_S512x512_S512 (.inl rfl) rfl) shapeCasts_S512_S512x1) broadcasts_S512x1_S512x512))

theorem biasCat_at (b : Fin 8 → S64x512.Idx → EReal) (R l : Fin 512) :
    biasCat (b 0) (b 1) (b 2) (b 3) (b 4) (b 5) (b 6) (b 7) (ix2 R l) = b ⟨R.val / 64, by omega⟩ (ix2 ⟨R.val % 64, by omega⟩ l) := by
  pointwise [biasCat]
  repeat' split
  all_goals first
    | (exact congrArg₂ (fun (a : Fin 8) (y : Fin 64) => b a (ix2 y l)) (Fin.ext (by first | (show 0 = R.val / 64; omega) | (show 1 = R.val / 64; omega) | (show 2 = R.val / 64; omega) | (show 3 = R.val / 64; omega) | (show 4 = R.val / 64; omega) | (show 5 = R.val / 64; omega) | (show 6 = R.val / 64; omega) | (show 7 = R.val / 64; omega))) (Fin.ext (by simp only []; omega)))

theorem scoreCat_at (s : Fin 4 → S128x512.Idx → EReal) (R l : Fin 512) :
    scoreCat (s 0) (s 1) (s 2) (s 3) (ix2 R l) = s ⟨R.val / 128, by omega⟩ (ix2 ⟨R.val % 128, by omega⟩ l) := by
  pointwise [scoreCat]
  repeat' split
  all_goals first
    | (exact congrArg₂ (fun (a : Fin 4) (y : Fin 128) => s a (ix2 y l)) (Fin.ext (by first | (show 0 = R.val / 128; omega) | (show 1 = R.val / 128; omega) | (show 2 = R.val / 128; omega) | (show 3 = R.val / 128; omega))) (Fin.ext (by simp only []; omega)))

theorem softExp_at (s : S512x512.Idx → EReal) (R l : Fin 512) :
    softExp s (ix2 R l) = Ideal.exp (s (ix2 R l) - Finset.fold max (Ideal.ofBits .f32 0xFF800000#32) (fun l => s (ix2 R l)) Finset.univ) := by
  pointwise [softExp]

end Cert.KernelIdeal.Attn

end
-- ==== Proof.AttnOut.lean ====
/- One grid row of queries, continued: the weighted values over the weights' sum. -/
module

public import proofs.«01_k».proof.Proof.Gen.KernelIdeal.Skeleton
public import Idealize.ShloMosaic.Lib.Pipeline.ValueKit
public import Idealize.ShloMosaic.Lib.Pointwise
public import proofs.«01_k».proof.Proof.AttnRow

@[expose] public section

set_option maxRecDepth 16384

noncomputable section

namespace Cert.KernelIdeal.Attn

open Cert.KernelIdeal Cert.KernelIdeal.Gen Idealize.ShloMosaic Idealize.ShloMosaic.TcCoe Idealize.SL.Sem

/-- The row sums of a matrix, as a column. -/
def sumCol (E : FVec Ideal S512x512 .f32) : FVec Ideal S512x1 .f32 :=
  shapeCast S512x1 (multiReduction .add [1] S512 E 0x00000000#32 reduces_S512x512_S512 (.inl rfl) rfl) shapeCasts_S512_S512x1

theorem sumCol_at (E : S512x512.Idx → EReal) (R : Fin 512) (z : Fin 1) : sumCol E (ix2 R z) = ∑ l, E (ix2 R l) := by
  pointwise [sumCol]

/-- The first pair's weights times its values, each head's lanes from its own rows. -/
def firstPair (E : FVec Ideal S512x512 .bf16) (D : FVec Ideal S512x1 .f32) (V : FVec Ideal S512x512 .bf16) : FVec Ideal S64x128 .f32 :=
  have o : FVec Ideal S128x128 .f32 := divf (matmul dot_S128x512_S512x128_S128x128_1_0_0_1_n_n none (extractStridedSlice S128x512 ![0, 0] E slices_S512x512_o0_0_S128x512) (extractStridedSlice S512x128 ![0, 0] V slices_S512x512_o0_0_S512x128) (constant S128x128 .f32 0x00000000#32))
    (broadcastTo S128x128 (extractStridedSlice S128x1 ![0, 0] D slices_S512x1_o0_0_S128x1) broadcasts_S128x1_S128x128)
  select k1_pay1 (extractStridedSlice S64x128 ![0, 0] o slices_S128x128_o0_0_S64x128) (extractStridedSlice S64x128 ![64, 0] o slices_S128x128_o64_0_S64x128)

/-- The second pair's weights times its values. -/
def secondPair (E V : FVec Ideal S512x512 .bf16) : FVec Ideal S128x128 .f32 :=
  matmul dot_S128x512_S512x128_S128x128_1_0_0_1_n_n none (extractStridedSlice S128x512 ![128, 0] E slices_S512x512_o128_0_S128x512) (extractStridedSlice S512x128 ![0, 128] V slices_S512x512_o0_128_S512x128) (constant S128x128 .f32 0x00000000#32)

/-- A channel of a query: its head's weights (row `R`) times the channel's values over the weights' sum. -/
def quot (E V : S512x512.Idx → EReal) (D : S512x1.Idx → EReal) (R c : Fin 512) : EReal :=
  Ideal.div (∑ l, E (ix2 R l) * V (ix2 l c)) (D (ix2 R 0))

theorem firstPair_at (E V : S512x512.Idx → EReal) (D : S512x1.Idx → EReal) (j : Fin 64) (y : Fin 128) :
    firstPair E D V (ix2 j y) = if y.val < 64 then quot E V D ⟨j.val, by omega⟩ ⟨y.val, by omega⟩ else quot E V D ⟨64 + j.val, by omega⟩ ⟨y.val, by omega⟩ := by
  pointwise [firstPair, k1_pay1]
  rw [sel_lt]
  rfl

theorem secondPair_at (E V : S512x512.Idx → EReal) (x y : Fin 128) :
    secondPair E V (ix2 x y) = ∑ l, E (ix2 ⟨128 + x.val, by omega⟩ l) * V (ix2 l ⟨128 + y.val, by omega⟩) := by
  pointwise [secondPair]

theorem pay2_at (E V : S512x512.Idx → EReal) (D : S512x1.Idx → EReal) (O : S64x128.Idx → EReal) (P : S128x128.Idx → EReal) (j : Fin 64) (ch : Fin 512) :
    k1_pay2 (F := Ideal) V D E O P (ix3 0 j ch) = if h : ch.val < 128 then O (ix2 j ⟨ch.val, h⟩)
      else if h1 : ch.val - 128 < 128 then
        (if ch.val - 128 < 64 then Ideal.div (P (ix2 ⟨j.val, by omega⟩ ⟨ch.val - 128, h1⟩)) (D (ix2 ⟨128 + j.val, by omega⟩ 0)) else Ideal.div (P (ix2 ⟨64 + j.val, by omega⟩ ⟨ch.val - 128, h1⟩)) (D (ix2 ⟨128 + (64 + j.val), by omega⟩ 0)))
      else if h2 : ch.val - 128 - 128 < 128 then
        (if ch.val - 128 - 128 < 64 then quot E V D ⟨256 + j.val, by omega⟩ ⟨256 + (ch.val - 128 - 128), by omega⟩ else quot E V D ⟨256 + (64 + j.val), by omega⟩ ⟨256 + (ch.val - 128 - 128), by omega⟩)
      else
        (if ch.val - 128 - 128 - 128 < 64 then quot E V D ⟨384 + j.val, by omega⟩ ⟨384 + (ch.val - 128 - 128 - 128), by omega⟩ else quot E V D ⟨384 + (64 + j.val), by omega⟩ ⟨384 + (ch.val - 128 - 128 - 128), by omega⟩) := by
  pointwise [k1_pay2, k1_pay1]
  refine dite_congr rfl (fun h => rfl) fun h => dite_congr rfl (fun h1 => ?_) fun h1 => dite_congr rfl (fun h2 => ?_) fun h2 => ?_
  · exact sel_lt ⟨ch.val - 128, h1⟩ _ _
  · exact sel_lt ⟨ch.val - 128 - 128, h2⟩ _ _
  · exact sel_lt ⟨ch.val - 128 - 128 - 128, by omega⟩ _ _

/-- What the kernel writes for a row of queries, from its exponentials and values. -/
theorem out_at (E V : S512x512.Idx → EReal) (j : Fin 64) (n : Fin 8) (d : Fin 64) :
    k1_pay2 (F := Ideal) V (sumCol E) E (firstPair E (sumCol E) V) (secondPair E V) (ix3 0 j ⟨n.val * 64 + d.val, by omega⟩)
      = Ideal.div (∑ l, E (ix2 ⟨n.val * 64 + j.val, by omega⟩ l) * V (ix2 l ⟨n.val * 64 + d.val, by omega⟩)) (∑ l, E (ix2 ⟨n.val * 64 + j.val, by omega⟩ l)) := by
  have key : ∀ (R R' c c' : Fin 512), R.val = R'.val → c.val = c'.val → quot E V (sumCol E) R c
      = Ideal.div (∑ l, E (ix2 R' l) * V (ix2 l c')) (∑ l, E (ix2 R' l)) := by
    intro R R' c c' h h'
    obtain rfl := Fin.ext h
    obtain rfl := Fin.ext h'
    unfold quot
    rw [sumCol_at]
  have key2 : ∀ (x y : Fin 128) (R R' c' : Fin 512), R.val = 128 + x.val → R'.val = 128 + x.val → c'.val = 128 + y.val →
      Ideal.div (secondPair E V (ix2 x y)) (sumCol E (ix2 R 0)) = Ideal.div (∑ l, E (ix2 R' l) * V (ix2 l c')) (∑ l, E (ix2 R' l)) := by
    intro x y R R' c' h h' h''
    have e1 : R = ⟨128 + x.val, by have := x.isLt; omega⟩ := Fin.ext h
    have e2 : R' = ⟨128 + x.val, by have := x.isLt; omega⟩ := Fin.ext h'
    have e3 : c' = ⟨128 + y.val, by have := y.isLt; omega⟩ := Fin.ext h''
    rw [secondPair_at, sumCol_at, e1]
    simp only [e2, e3]
  have hj := j.isLt
  have hd := d.isLt
  have hn := n.isLt
  rw [pay2_at]
  split
  · rename_i h
    rw [firstPair_at]
    split <;> rename_i h' <;> refine key _ _ _ _ ?_ ?_ <;> simp only [] at h h' ⊢ <;> omega
  · split
    · rename_i h h1
      split <;> rename_i h' <;> refine key2 _ _ _ _ _ ?_ ?_ ?_ <;> simp only [] at h h1 h' ⊢ <;> omega
    · split
      · rename_i h h1 h2
        split <;> rename_i h' <;> refine key _ _ _ _ ?_ ?_ <;> simp only [] at h h1 h2 h' ⊢ <;> omega
      · rename_i h h1 h2
        split <;> rename_i h' <;> refine key _ _ _ _ ?_ ?_ <;> simp only [] at h h1 h2 h' ⊢ <;> omega

variable (q : S1x64x512.Idx → EReal) (k v : S1x512x512.Idx → EReal) (β : Fin 8 → Fin 4 → S1x1x64x128.Idx → EReal)

/-- A row's scores with their bias: of query `R % 64` of head `R / 64` against the window row's places. -/
def rowScore : S512x512.Idx → EReal :=
  addf (F := Ideal) (φ := .f32) (scoreCat (k1_pay7 (F := Ideal) k1_pay1 q k) (k1_pay8 (F := Ideal) k1_pay1 q k) (k1_pay11 (F := Ideal) (k1_pay9 k1_pay1 q) (k1_pay10 k)) (k1_pay12 (F := Ideal) k1_pay1 (k1_pay3 q) (k1_pay4 k) k1_pay6))
    (biasCat (k1_pay13 (F := Ideal) (β 0 0) (β 0 1) (β 0 2) (β 0 3)) (k1_pay16 (F := Ideal) (k1_pay14 (β 1 0)) (k1_pay15 (β 1 1)) (β 1 2) (β 1 3)) (k1_pay17 (F := Ideal) (β 2 0) (β 2 1) (β 2 2) (β 2 3)) (k1_pay19 (F := Ideal) (k1_pay18 (β 3 0)) (β 3 1) (β 3 2) (β 3 3)) (k1_pay20 (F := Ideal) (β 4 0) (β 4 1) (β 4 2) (β 4 3)) (k1_pay21 (F := Ideal) (β 5 0) (β 5 1) (β 5 2) (β 5 3)) (k1_pay22 (F := Ideal) (β 6 0) (β 6 1) (β 6 2) (β 6 3)) (k1_pay13 (F := Ideal) (β 7 0) (β 7 1) (β 7 2) (β 7 3)))

theorem rowScore_at (n : Fin 8) (j : Fin 64) (l : Fin 512) :
    rowScore q k β (ix2 ⟨n.val * 64 + j.val, by omega⟩ l) = qk q k j n l + β n ⟨l.val / 128, by omega⟩ (ix4 0 0 j ⟨l.val % 128, by omega⟩) := by
  have hj := j.isLt
  have hn := n.isLt
  refine congrArg₂ (· + ·) ?_ ?_
  · refine (scoreCat_at (fun p => match p with | 0 => k1_pay7 (F := Ideal) k1_pay1 q k | 1 => k1_pay8 (F := Ideal) k1_pay1 q k | 2 => k1_pay11 (F := Ideal) (k1_pay9 k1_pay1 q) (k1_pay10 k) | 3 => k1_pay12 (F := Ideal) k1_pay1 (k1_pay3 q) (k1_pay4 k) k1_pay6) _ l).trans ?_
    have key : ∀ (x : Fin 128) (p : Fin 4), x.val + 128 * p.val = n.val * 64 + j.val → (match p with | 0 => k1_pay7 (F := Ideal) k1_pay1 q k | 1 => k1_pay8 (F := Ideal) k1_pay1 q k | 2 => k1_pay11 (F := Ideal) (k1_pay9 k1_pay1 q) (k1_pay10 k) | 3 => k1_pay12 (F := Ideal) k1_pay1 (k1_pay3 q) (k1_pay4 k) k1_pay6 : S128x512.Idx → EReal) (ix2 x l) = qk q k j n l := by
      intro x p h
      have hx := x.isLt
      match p, h with
      | 0, h => exact (pay7 q k x l).trans (congrArg₂ (fun a b => qk q k a b l) (Fin.ext (by simp only [Fin.val_zero] at h ⊢; omega)) (Fin.ext (by simp only [Fin.val_zero] at h ⊢; omega)))
      | 1, h => exact (pay8 q k x l).trans (congrArg₂ (fun a b => qk q k a b l) (Fin.ext (by simp only [Fin.val_one] at h ⊢; omega)) (Fin.ext (by simp only [Fin.val_one] at h ⊢; omega)))
      | 2, h => exact (pay11 q k x l).trans (congrArg₂ (fun a b => qk q k a b l) (Fin.ext (by simp only [Fin.val_two] at h ⊢; omega)) (Fin.ext (by simp only [Fin.val_two] at h ⊢; omega)))
      | 3, h => exact (pay12 q k x l).trans (congrArg₂ (fun a b => qk q k a b l) (Fin.ext (by have h' : x.val + 128 * 3 = n.val * 64 + j.val := h; show x.val % 64 = j.val; omega)) (Fin.ext (by have h' : x.val + 128 * 3 = n.val * 64 + j.val := h; show 3 * 2 + x.val / 64 = n.val; omega)))
    exact key _ _ (by show (n.val * 64 + j.val) % 128 + 128 * ((n.val * 64 + j.val) / 128) = _; omega)
  · refine (biasCat_at (fun p => match p with | 0 => k1_pay13 (F := Ideal) (β 0 0) (β 0 1) (β 0 2) (β 0 3) | 1 => k1_pay16 (F := Ideal) (k1_pay14 (β 1 0)) (k1_pay15 (β 1 1)) (β 1 2) (β 1 3) | 2 => k1_pay17 (F := Ideal) (β 2 0) (β 2 1) (β 2 2) (β 2 3) | 3 => k1_pay19 (F := Ideal) (k1_pay18 (β 3 0)) (β 3 1) (β 3 2) (β 3 3) | 4 => k1_pay20 (F := Ideal) (β 4 0) (β 4 1) (β 4 2) (β 4 3) | 5 => k1_pay21 (F := Ideal) (β 5 0) (β 5 1) (β 5 2) (β 5 3) | 6 => k1_pay22 (F := Ideal) (β 6 0) (β 6 1) (β 6 2) (β 6 3) | 7 => k1_pay13 (F := Ideal) (β 7 0) (β 7 1) (β 7 2) (β 7 3)) _ l).trans ?_
    have e1 : (⟨(n.val * 64 + j.val) / 64, by omega⟩ : Fin 8) = n := Fin.ext (by show (n.val * 64 + j.val) / 64 = n.val; omega)
    have e2 : (⟨(n.val * 64 + j.val) % 64, by omega⟩ : Fin 64) = j := Fin.ext (by show (n.val * 64 + j.val) % 64 = j.val; omega)
    simp only [e1, e2]
    match n with
    | 0 => exact bias0 β j l
    | 1 => exact bias1 β j l
    | 2 => exact bias2 β j l
    | 3 => exact bias3 β j l
    | 4 => exact bias4 β j l
    | 5 => exact bias5 β j l
    | 6 => exact bias6 β j l
    | 7 => exact bias7 β j l

/-- What the kernel writes for a row of queries. -/
def rowOut : S1x64x512.Idx → EReal :=
  k1_pay2 (F := Ideal) (k1_pay5 v) (k1_pay24 (k1_pay7 k1_pay1 q k) (k1_pay8 k1_pay1 q k) (k1_pay11 (k1_pay9 k1_pay1 q) (k1_pay10 k)) (k1_pay12 k1_pay1 (k1_pay3 q) (k1_pay4 k) k1_pay6) (k1_pay13 (β 0 0) (β 0 1) (β 0 2) (β 0 3)) (k1_pay16 (k1_pay14 (β 1 0)) (k1_pay15 (β 1 1)) (β 1 2) (β 1 3)) (k1_pay17 (β 2 0) (β 2 1) (β 2 2) (β 2 3)) (k1_pay19 (k1_pay18 (β 3 0)) (β 3 1) (β 3 2) (β 3 3)) (k1_pay20 (β 4 0) (β 4 1) (β 4 2) (β 4 3)) (k1_pay21 (β 5 0) (β 5 1) (β 5 2) (β 5 3)) (k1_pay22 (β 6 0) (β 6 1) (β 6 2) (β 6 3)) (β 7 0) (β 7 1) (β 7 2) (β 7 3)) (k1_pay25 (k1_pay7 k1_pay1 q k) (k1_pay8 k1_pay1 q k) (k1_pay11 (k1_pay9 k1_pay1 q) (k1_pay10 k)) (k1_pay12 k1_pay1 (k1_pay3 q) (k1_pay4 k) k1_pay6) (k1_pay13 (β 0 0) (β 0 1) (β 0 2) (β 0 3)) (k1_pay16 (k1_pay14 (β 1 0)) (k1_pay15 (β 1 1)) (β 1 2) (β 1 3)) (k1_pay17 (β 2 0) (β 2 1) (β 2 2) (β 2 3)) (k1_pay19 (k1_pay18 (β 3 0)) (β 3 1) (β 3 2) (β 3 3)) (k1_pay20 (β 4 0) (β 4 1) (β 4 2) (β 4 3)) (k1_pay21 (β 5 0) (β 5 1) (β 5 2) (β 5 3)) (k1_pay22 (β 6 0) (β 6 1) (β 6 2) (β 6 3)) (β 7 0) (β 7 1) (β 7 2) (β 7 3)) (k1_pay26 k1_pay1 (k1_pay5 v) (k1_pay7 k1_pay1 q k) (k1_pay8 k1_pay1 q k) (k1_pay11 (k1_pay9 k1_pay1 q) (k1_pay10 k)) (k1_pay12 k1_pay1 (k1_pay3 q) (k1_pay4 k) k1_pay6) (k1_pay13 (β 0 0) (β 0 1) (β 0 2) (β 0 3)) (k1_pay16 (k1_pay14 (β 1 0)) (k1_pay15 (β 1 1)) (β 1 2) (β 1 3)) (k1_pay17 (β 2 0) (β 2 1) (β 2 2) (β 2 3)) (k1_pay19 (k1_pay18 (β 3 0)) (β 3 1) (β 3 2) (β 3 3)) (k1_pay20 (β 4 0) (β 4 1) (β 4 2) (β 4 3)) (k1_pay21 (β 5 0) (β 5 1) (β 5 2) (β 5 3)) (k1_pay22 (β 6 0) (β 6 1) (β 6 2) (β 6 3)) (β 7 0) (β 7 1) (β 7 2) (β 7 3)) (k1_pay27 (k1_pay5 v) (k1_pay7 k1_pay1 q k) (k1_pay8 k1_pay1 q k) (k1_pay11 (k1_pay9 k1_pay1 q) (k1_pay10 k)) (k1_pay12 k1_pay1 (k1_pay3 q) (k1_pay4 k) k1_pay6) (k1_pay13 (β 0 0) (β 0 1) (β 0 2) (β 0 3)) (k1_pay16 (k1_pay14 (β 1 0)) (k1_pay15 (β 1 1)) (β 1 2) (β 1 3)) (k1_pay17 (β 2 0) (β 2 1) (β 2 2) (β 2 3)) (k1_pay19 (k1_pay18 (β 3 0)) (β 3 1) (β 3 2) (β 3 3)) (k1_pay20 (β 4 0) (β 4 1) (β 4 2) (β 4 3)) (k1_pay21 (β 5 0) (β 5 1) (β 5 2) (β 5 3)) (k1_pay22 (β 6 0) (β 6 1) (β 6 2) (β 6 3)) (β 7 0) (β 7 1) (β 7 2) (β 7 3))

theorem rowOut_eq : rowOut q k v β = k1_pay2 (F := Ideal) (k1_pay5 (F := Ideal) v) (sumCol (softExp (rowScore q k β))) (softExp (rowScore q k β)) (firstPair (softExp (rowScore q k β)) (sumCol (softExp (rowScore q k β))) (k1_pay5 (F := Ideal) v)) (secondPair (softExp (rowScore q k β)) (k1_pay5 (F := Ideal) v)) := rfl

theorem pay5_at (l c : Fin 512) : k1_pay5 (F := Ideal) v (ix2 l c) = v (ix3 0 l c) := by
  pointwise [k1_pay5]

/-- The score with its bias of a query `j` of head `n` against place `l`. -/
def biased (n : Fin 8) (j : Fin 64) (l : Fin 512) : EReal :=
  qk q k j n l + β n ⟨l.val / 128, by omega⟩ (ix4 0 0 j ⟨l.val % 128, by omega⟩)

/-- A row's output: the softmax of its scores times its values, the division last. -/
theorem rowOut_at (j : Fin 64) (n : Fin 8) (d : Fin 64) :
    rowOut q k v β (ix3 0 j ⟨n.val * 64 + d.val, by omega⟩)
      = Ideal.div (∑ l, Ideal.exp (biased q k β n j l - Finset.fold max (Ideal.ofBits .f32 0xFF800000#32) (biased q k β n j) Finset.univ) * v (ix3 0 l ⟨n.val * 64 + d.val, by omega⟩))
          (∑ l, Ideal.exp (biased q k β n j l - Finset.fold max (Ideal.ofBits .f32 0xFF800000#32) (biased q k β n j) Finset.univ)) := by
  have hE : ∀ l, softExp (rowScore q k β) (ix2 ⟨n.val * 64 + j.val, by omega⟩ l) = Ideal.exp (biased q k β n j l - Finset.fold max (Ideal.ofBits .f32 0xFF800000#32) (biased q k β n j) Finset.univ) := by
    intro l
    rw [softExp_at]
    simp only [rowScore_at]
    rfl
  rw [rowOut_eq, out_at]
  simp only [hE, pay5_at]

end Cert.KernelIdeal.Attn

end
-- ==== Proof.AttnTrip.lean ====
/- What one trip of the kernel's loop writes: a row of queries' output, from what the trip reads. -/
module

public import proofs.«01_k».proof.Proof.Gen.KernelIdeal.Frame
public import proofs.«01_k».proof.Proof.AttnOut
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- What a trip reads of the bias table for head `n` of the block, quarter `m` of the window row's places. -/
def biasRead (i : grid1.Coords) (k : Fin k1_t1_loop.trips) (arg6 : Memref sig .tc .vmem S8x14x64x128 .f32) (X : BufTy.Contents (Elt Ideal) arg6.view.ty) (n : Fin 8) (m : Fin 4) : S1x1x64x128.Idx → EReal :=
  match n with
  | 0 => View.readAt (Elt Ideal) arg6.view (Rect.unit (s := S8x14x64x128) (k1_off3 i k (BitVec.ofNat 32 (2 * m.val))) S1x1x64x128.size (k1_off3_inb i k m)).toLoadRect X
  | 1 => View.readAt (Elt Ideal) arg6.view (Rect.unit (s := S8x14x64x128) (k1_off4 i k (BitVec.ofNat 32 (2 * m.val))) S1x1x64x128.size (k1_off4_inb i k m)).toLoadRect X
  | 2 => View.readAt (Elt Ideal) arg6.view (Rect.unit (s := S8x14x64x128) (k1_off5 i k (BitVec.ofNat 32 (2 * m.val))) S1x1x64x128.size (k1_off5_inb i k m)).toLoadRect X
  | 3 => View.readAt (Elt Ideal) arg6.view (Rect.unit (s := S8x14x64x128) (k1_off6 i k (BitVec.ofNat 32 (2 * m.val))) S1x1x64x128.size (k1_off6_inb i k m)).toLoadRect X
  | 4 => View.readAt (Elt Ideal) arg6.view (Rect.unit (s := S8x14x64x128) (k1_off7 i k (BitVec.ofNat 32 (2 * m.val))) S1x1x64x128.size (k1_off7_inb i k m)).toLoadRect X
  | 5 => View.readAt (Elt Ideal) arg6.view (Rect.unit (s := S8x14x64x128) (k1_off8 i k (BitVec.ofNat 32 (2 * m.val))) S1x1x64x128.size (k1_off8_inb i k m)).toLoadRect X
  | 6 => View.readAt (Elt Ideal) arg6.view (Rect.unit (s := S8x14x64x128) (k1_off9 i k (BitVec.ofNat 32 (2 * m.val))) S1x1x64x128.size (k1_off9_inb i k m)).toLoadRect X
  | 7 => View.readAt (Elt Ideal) arg6.view (Rect.unit (s := S8x14x64x128) (k1_off10 i k (BitVec.ofNat 32 (2 * m.val))) S1x1x64x128.size (k1_off10_inb i k m)).toLoadRect X

/-- A trip writes one piece: its row of queries' output. -/
theorem trip_eq (𝒱 : Variants) (c : Dev nD) (bd : Option 𝒱.V) (i : grid1.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S8x14x64x128 .f32) (harg6 : arg6.IsWhole) (arg7 : Memref sig .tc .vmem S1x512x512 .bf16) (harg7 : arg7.IsWhole) (arg2 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k1_t1_loop.trips) :
   tripL_k1_t1 (F := Ideal) 𝒱 c bd i arg3 harg3 arg4 harg4 arg5 harg5 arg6 harg6 arg7 harg7 arg2 X_arg3 X_arg4 X_arg5 X_arg6 k
     = [⟨Rect.unit (s := S1x512x512) (k1_off1 k) S1x64x512.size (k1_off1_inb k),
          rowOut (View.readAt (Elt Ideal) arg3.view (Rect.unit (s := S1x512x512) (k1_off1 k) S1x64x512.size (k1_off1_inb k)).toLoadRect X_arg3)
            (View.readAt (Elt Ideal) arg4.view (Rect.unit (s := S1x4096x512) (k1_off2 i k) S1x512x512.size (k1_off2_inb i k)).toLoadRect X_arg4)
            (View.readAt (Elt Ideal) arg5.view (Rect.unit (s := S1x4096x512) (k1_off2 i k) S1x512x512.size (k1_off2_inb i k)).toLoadRect X_arg5)
            (biasRead i k arg6 X_arg6)⟩] := by
  unfold tripL_k1_t1 trip_k1_t1
  rfl

/-- The pieces of the trips before `n` agree with one function, where every trip's does. -/
theorem pieces_agree (𝒱 : Variants) (c : Dev nD) (bd : Option 𝒱.V) (i : grid1.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S8x14x64x128 .f32) (harg6 : arg6.IsWhole) (arg7 : Memref sig .tc .vmem S1x512x512 .bf16) (harg7 : arg7.IsWhole) (arg2 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G : S1x512x512.Idx → EReal)
    (h : ∀ (k : Fin k1_t1_loop.trips) (p : View.Piece (Elt Ideal) S1x512x512 .bf16), p ∈ tripL_k1_t1 (F := Ideal) 𝒱 c bd i arg3 harg3 arg4 harg4 arg5 harg5 arg6 harg6 arg7 harg7 arg2 X_arg3 X_arg4 X_arg5 X_arg6 k → ∀ x, p.2 x = G (p.1.emb x)) :
    ∀ (n : ℕ), n ≤ k1_t1_loop.trips → ∀ p ∈ pb_k1_t1 (F := Ideal) 𝒱 c bd i arg3 harg3 arg4 harg4 arg5 harg5 arg6 harg6 arg7 harg7 arg2 X_arg3 X_arg4 X_arg5 X_arg6 n, ∀ x, p.2 x = G (p.1.emb x) := by
  intro n
  induction n with
  | zero =>
    intro _ p hp
    exact absurd hp List.not_mem_nil
  | succ n ih =>
    intro hn p hp
    rw [pb_k1_t1_succ (k := ⟨n, hn⟩)] at hp
    rcases List.mem_append.mp hp with hp | hp
    · exact h ⟨n, hn⟩ p hp
    · exact ih (Nat.le_of_succ_le hn) p hp

end Cert.KernelIdeal.Attn

end
-- ==== Proof.AttnBlock.lean ====
/- One block of the attention: eight rows of queries for eight heads, element by element. -/
module

public import proofs.«01_k».proof.Proof.Gen.KernelIdeal.Frame
public import proofs.«01_k».proof.Proof.AttnTrip
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The first key row of the window of row `r` of the grid. -/
def row0 (r : ℕ) : ℕ := min (r - 4) 56

/-- The first key row as the kernel computes it, on words. -/
def row0W (a k : ℕ) : BitVec 32 :=
  Scalar.minsi 56#32 (Scalar.maxsi 0#32 (Scalar.subi (Scalar.addi (Scalar.muli (BitVec.ofNat 32 a) 8#32) (Scf.iv 0#32 1#32 k)) 4#32))

/-- The bias row of the window's first key row less the query's, as the kernel computes it. -/
def diffW (a k : ℕ) : BitVec 32 :=
  Scalar.subi (Scalar.addi (Scalar.subi (row0W a k) (Scalar.addi (Scalar.muli (BitVec.ofNat 32 a) 8#32) (Scf.iv 0#32 1#32 k))) 8#32) 1#32

theorem row0W_at : ∀ (a k : Fin 8), (Scalar.indexCast (Scalar.muli (row0W a.val k.val) 64#32)).toNat = 64 * row0 (8 * a.val + k.val) := by
  decide +kernel

theorem diffW_at : ∀ (a k : Fin 8) (m : Fin 4), (Scalar.indexCast (Scalar.addi (diffW a.val k.val) (BitVec.ofNat 32 (2 * m.val)))).toNat
    = row0 (8 * a.val + k.val) + 7 - (8 * a.val + k.val) + 2 * m.val := by
  decide +kernel

theorem off1W_at : ∀ k : Fin 8, (Scalar.indexCast (Scalar.muli (Scf.iv 0#32 1#32 k.val) 64#32)).toNat = 64 * k.val := by
  decide +kernel

theorem trips_eq : k1_t1_loop.trips = 8 := by decide +kernel

theorem off1_eq (k : Fin k1_t1_loop.trips) : k1_off1 k = ![0, 64 * k.val, 0] := by
  have h := off1W_at ⟨k.val, trips_eq ▸ k.isLt⟩
  exact congrArg (fun n : ℕ => (![0, n, 0] : Fin 3 → ℕ)) h

theorem off2_eq (i : grid1.Coords) (k : Fin k1_t1_loop.trips) : k1_off2 i k = ![0, 64 * row0 (8 * (i 2).val + k.val), 0] := by
  have h := row0W_at ⟨(i 2).val, (i 2).isLt⟩ ⟨k.val, trips_eq ▸ k.isLt⟩
  exact congrArg (fun n : ℕ => (![0, n, 0] : Fin 3 → ℕ)) h

theorem off3_eq (i : grid1.Coords) (k : Fin k1_t1_loop.trips) (m : Fin 4) :
    k1_off3 i k (BitVec.ofNat 32 (2 * m.val)) = ![0, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![0, n, 0, 0] : Fin 4 → ℕ)) h

theorem off4_eq (i : grid1.Coords) (k : Fin k1_t1_loop.trips) (m : Fin 4) :
    k1_off4 i k (BitVec.ofNat 32 (2 * m.val)) = ![1, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![1, n, 0, 0] : Fin 4 → ℕ)) h

theorem off5_eq (i : grid1.Coords) (k : Fin k1_t1_loop.trips) (m : Fin 4) :
    k1_off5 i k (BitVec.ofNat 32 (2 * m.val)) = ![2, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![2, n, 0, 0] : Fin 4 → ℕ)) h

theorem off6_eq (i : grid1.Coords) (k : Fin k1_t1_loop.trips) (m : Fin 4) :
    k1_off6 i k (BitVec.ofNat 32 (2 * m.val)) = ![3, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![3, n, 0, 0] : Fin 4 → ℕ)) h

theorem off7_eq (i : grid1.Coords) (k : Fin k1_t1_loop.trips) (m : Fin 4) :
    k1_off7 i k (BitVec.ofNat 32 (2 * m.val)) = ![4, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![4, n, 0, 0] : Fin 4 → ℕ)) h

theorem off8_eq (i : grid1.Coords) (k : Fin k1_t1_loop.trips) (m : Fin 4) :
    k1_off8 i k (BitVec.ofNat 32 (2 * m.val)) = ![5, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![5, n, 0, 0] : Fin 4 → ℕ)) h

theorem off9_eq (i : grid1.Coords) (k : Fin k1_t1_loop.trips) (m : Fin 4) :
    k1_off9 i k (BitVec.ofNat 32 (2 * m.val)) = ![6, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![6, n, 0, 0] : Fin 4 → ℕ)) h

theorem off10_eq (i : grid1.Coords) (k : Fin k1_t1_loop.trips) (m : Fin 4) :
    k1_off10 i k (BitVec.ofNat 32 (2 * m.val)) = ![7, row0 (8 * (i 2).val + k.val) + 7 - (8 * (i 2).val + k.val) + 2 * m.val, 0, 0] := by
  have h := diffW_at ⟨(i 2).val, (i 2).isLt⟩ ⟨k.val, trips_eq ▸ k.isLt⟩ m
  exact congrArg (fun n : ℕ => (![7, n, 0, 0] : Fin 4 → ℕ)) h

theorem read_q (arg3 : Memref sig .tc .vmem S1x512x512 .bf16) (harg3 : arg3.IsWhole) (x : Vec Ideal S1x512x512 .bf16)
    (off : Fin S1x512x512.rank → ℕ) (inb : ∀ a, off a + S1x64x512.size a ≤ S1x512x512.size a) (o : ℕ) (ho : o + 64 ≤ 512) (hoff : off = ![0, o, 0]) (j : Fin 64) (ch : Fin 512) :
    View.readAt (Elt Ideal) arg3.view (Rect.unit (s := S1x512x512) off S1x64x512.size inb).toLoadRect (harg3.unread x) (ix3 0 j ch) = x (ix3 0 ⟨o + j.val, by omega⟩ ch) := by
  subst hoff
  rw [View.readAt_eq_ld, Memref.IsWhole.read_unread]
  pointwise

theorem read_kv (arg4 : Memref sig .tc .vmem S1x4096x512 .bf16) (harg4 : arg4.IsWhole) (x : Vec Ideal S1x4096x512 .bf16)
    (off : Fin S1x4096x512.rank → ℕ) (inb : ∀ a, off a + S1x512x512.size a ≤ S1x4096x512.size a) (o : ℕ) (ho : o + 512 ≤ 4096) (hoff : off = ![0, o, 0]) (l ch : Fin 512) :
    View.readAt (Elt Ideal) arg4.view (Rect.unit (s := S1x4096x512) off S1x512x512.size inb).toLoadRect (harg4.unread x) (ix3 0 l ch) = x (ix3 0 ⟨o + l.val, by omega⟩ ch) := by
  subst hoff
  rw [View.readAt_eq_ld, Memref.IsWhole.read_unread]
  pointwise

theorem read_bias (arg6 : Memref sig .tc .vmem S8x14x64x128 .f32) (harg6 : arg6.IsWhole) (x : Vec Ideal S8x14x64x128 .f32)
    (off : Fin S8x14x64x128.rank → ℕ) (inb : ∀ a, off a + S1x1x64x128.size a ≤ S8x14x64x128.size a) (n : Fin 8) (o : ℕ) (ho : o < 14) (hoff : off = ![n.val, o, 0, 0]) (j : Fin 64) (l : Fin 128) :
    View.readAt (Elt Ideal) arg6.view (Rect.unit (s := S8x14x64x128) off S1x1x64x128.size inb).toLoadRect (harg6.unread x) (ix4 0 0 j l) = x (ix4 n ⟨o, ho⟩ j l) := by
  subst hoff
  rw [View.readAt_eq_ld, Memref.IsWhole.read_unread]
  pointwise

theorem row0_le (r : ℕ) : row0 r ≤ 56 := Nat.min_le_right _ _

theorem diff_lt (r : ℕ) (hr : r < 64) (m : Fin 4) : row0 r + 7 - r + 2 * m.val < 14 := by
  unfold row0
  omega

variable (x0 : S1x512x512.Idx → EReal) (x1 x2 : S1x4096x512.Idx → EReal) (x3 : S8x14x64x128.Idx → EReal)

/-- The score with its bias: of the query in column `j` of row `k` of the block, head `n`, against place `l` of its window row. -/
def blockScore (rb k : Fin 8) (n : Fin 8) (j : Fin 64) (l : Fin 512) : EReal :=
  (∑ d : Fin 64, x0 (ix3 0 ⟨64 * k.val + j.val, by omega⟩ ⟨n.val * 64 + d.val, by omega⟩) * Ideal.ofBits .bf16 0x3E00#16
      * x1 (ix3 0 ⟨64 * row0 (8 * rb.val + k.val) + l.val, by have := row0_le (8 * rb.val + k.val); omega⟩ ⟨n.val * 64 + d.val, by omega⟩))
    + x3 (ix4 n ⟨row0 (8 * rb.val + k.val) + 7 - (8 * rb.val + k.val) + 2 * (l.val / 128), diff_lt _ (by omega) ⟨l.val / 128, by omega⟩⟩ j ⟨l.val % 128, by omega⟩)

/-- One element of the block's output. -/
def blockOut (rb k : Fin 8) (n : Fin 8) (j d : Fin 64) : EReal :=
  Ideal.div (∑ l, Ideal.exp (blockScore x0 x1 x3 rb k n j l - Finset.fold max (Ideal.ofBits .f32 0xFF800000#32) (blockScore x0 x1 x3 rb k n j) Finset.univ)
      * x2 (ix3 0 ⟨64 * row0 (8 * rb.val + k.val) + l.val, by have := row0_le (8 * rb.val + k.val); omega⟩ ⟨n.val * 64 + d.val, by omega⟩))
    (∑ l, Ideal.exp (blockScore x0 x1 x3 rb k n j l - Finset.fold max (Ideal.ofBits .f32 0xFF800000#32) (blockScore x0 x1 x3 rb k n j) Finset.univ))

/-- The block's output. -/
def blockFn (rb : Fin 8) (y : S1x512x512.Idx) : EReal :=
  blockOut x0 x1 x2 x3 rb ⟨(y 1).val / 64, by have := (y 1).isLt; change _ < 512 at this; omega⟩ ⟨(y 2).val / 64, by have := (y 2).isLt; change _ < 512 at this; omega⟩
    ⟨(y 1).val % 64, Nat.mod_lt _ (by decide)⟩ ⟨(y 2).val % 64, Nat.mod_lt _ (by decide)⟩

theorem bias_at (i : grid1.Coords) (k : Fin k1_t1_loop.trips) (arg6 : Memref sig .tc .vmem S8x14x64x128 .f32) (harg6 : arg6.IsWhole) (n : Fin 8) (m : Fin 4) (j : Fin 64) (l : Fin 128) :
    biasRead i k arg6 (harg6.unread x3) n m (ix4 0 0 j l) = x3 (ix4 n ⟨row0 (8 * (i 2).val + k.val) + 7 - (8 * (i 2).val + k.val) + 2 * m.val,
      diff_lt _ (by have h1 : (i 2).val < 8 := (i 2).isLt; have h2 : k.val < 8 := trips_eq ▸ k.isLt; omega) m⟩ j l) := by
  match n with
  | 0 => exact read_bias arg6 harg6 x3 _ _ (0 : Fin 8) _ _ (off3_eq i k m) j l
  | 1 => exact read_bias arg6 harg6 x3 _ _ (1 : Fin 8) _ _ (off4_eq i k m) j l
  | 2 => exact read_bias arg6 harg6 x3 _ _ (2 : Fin 8) _ _ (off5_eq i k m) j l
  | 3 => exact read_bias arg6 harg6 x3 _ _ (3 : Fin 8) _ _ (off6_eq i k m) j l
  | 4 => exact read_bias arg6 harg6 x3 _ _ (4 : Fin 8) _ _ (off7_eq i k m) j l
  | 5 => exact read_bias arg6 harg6 x3 _ _ (5 : Fin 8) _ _ (off8_eq i k m) j l
  | 6 => exact read_bias arg6 harg6 x3 _ _ (6 : Fin 8) _ _ (off9_eq i k m) j l
  | 7 => exact read_bias arg6 harg6 x3 _ _ (7 : Fin 8) _ _ (off10_eq i k m) j l

theorem trip_row (i : grid1.Coords) (k : Fin k1_t1_loop.trips) (rb k' : Fin 8) (hrb : rb.val = (i 2).val) (hk : k'.val = k.val)
    (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S8x14x64x128 .f32) (harg6 : arg6.IsWhole)
    (n : Fin 8) (j d : Fin 64) :
    rowOut (View.readAt (Elt Ideal) arg3.view (Rect.unit (s := S1x512x512) (k1_off1 k) S1x64x512.size (k1_off1_inb k)).toLoadRect (harg3.unread x0))
            (View.readAt (Elt Ideal) arg4.view (Rect.unit (s := S1x4096x512) (k1_off2 i k) S1x512x512.size (k1_off2_inb i k)).toLoadRect (harg4.unread x1))
            (View.readAt (Elt Ideal) arg5.view (Rect.unit (s := S1x4096x512) (k1_off2 i k) S1x512x512.size (k1_off2_inb i k)).toLoadRect (harg5.unread x2))
            (biasRead i k arg6 (harg6.unread x3)) (ix3 0 j ⟨n.val * 64 + d.val, by omega⟩)
      = blockOut x0 x1 x2 x3 rb k' n j d := by
  have h1 : (i 2).val < 8 := (i 2).isLt
  have h2 : k.val < 8 := trips_eq ▸ k.isLt
  have h3 := row0_le (8 * (i 2).val + k.val)
  have hq : ∀ (j : Fin 64) (ch : Fin 512), _ = _ := fun j ch => read_q arg3 harg3 x0 _ (k1_off1_inb k) (64 * k.val) (by omega) (off1_eq k) j ch
  have hk4 : ∀ (l ch : Fin 512), _ = _ := fun l ch => read_kv arg4 harg4 x1 _ (k1_off2_inb i k) (64 * row0 (8 * (i 2).val + k.val)) (by omega) (off2_eq i k) l ch
  have hk5 : ∀ (l ch : Fin 512), _ = _ := fun l ch => read_kv arg5 harg5 x2 _ (k1_off2_inb i k) (64 * row0 (8 * (i 2).val + k.val)) (by omega) (off2_eq i k) l ch
  have hS : ∀ (n : Fin 8) (j : Fin 64) (l : Fin 512), biased (View.readAt (Elt Ideal) arg3.view (Rect.unit (s := S1x512x512) (k1_off1 k) S1x64x512.size (k1_off1_inb k)).toLoadRect (harg3.unread x0))
            (View.readAt (Elt Ideal) arg4.view (Rect.unit (s := S1x4096x512) (k1_off2 i k) S1x512x512.size (k1_off2_inb i k)).toLoadRect (harg4.unread x1))
            (biasRead i k arg6 (harg6.unread x3)) n j l = blockScore x0 x1 x3 rb k' n j l := by
    intro n j l
    unfold biased qk blockScore
    refine congrArg₂ (· + ·) (Finset.sum_congr rfl fun d _ => ?_) ?_
    · rw [hq, hk4]
      simp only [hrb, hk]
    · rw [bias_at]
      simp only [hrb, hk]
  rw [rowOut_at]
  simp only [hS, hk5]
  unfold blockOut
  simp only [hrb, hk]

/-- The block's body leaves the block's output. -/
theorem out_eq (c : Dev nD) (i : grid1.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S8x14x64x128 .f32) (harg6 : arg6.IsWhole) (arg7 : Memref sig .tc .vmem S1x512x512 .bf16) (harg7 : arg7.IsWhole) :
    out1_A_4 (F := Ideal) c i arg3 harg3 arg4 harg4 arg5 harg5 arg6 harg6 arg7 harg7 x0 x1 x2 x3 = blockFn x0 x1 x2 x3 ⟨(i 2).val, (i 2).isLt⟩ := by
  funext y
  unfold out1_A_4
  refine View.read_writes_apply_of_pieces _ _ (blockFn x0 x1 x2 x3 ⟨(i 2).val, (i 2).isLt⟩) _ ?_ y (cover1_A_4 (F := Ideal) c i arg3 harg3 arg4 harg4 arg5 harg5 arg6 harg6 arg7 harg7 x0 x1 x2 x3 y)
  have h := pieces_agree Variants.none c none i arg3 harg3 arg4 harg4 arg5 harg5 arg6 harg6 arg7 harg7 (BitVec.ofNat 32 (i 2).val) (harg3.unread x0) (harg4.unread x1) (harg5.unread x2) (harg6.unread x3)
    (blockFn x0 x1 x2 x3 ⟨(i 2).val, (i 2).isLt⟩) ?_ k1_t1_loop.trips (Nat.le_refl _)
  · unfold kernelRun1_A
    exact h
  intro k p hp
  rw [trip_eq] at hp
  obtain rfl := List.mem_singleton.mp hp
  intro (x : S1x64x512.Idx)
  have hx0 : (x 0 : Fin 1) = (0 : Fin 1) := Subsingleton.elim (α := Fin 1) _ _
  have hx1 : (x 1).val < 64 := (x 1).isLt
  have hx2 : (x 2).val < 512 := (x 2).isLt
  have hk : k.val < 8 := trips_eq ▸ k.isLt
  have e : x = ix3 0 ⟨(x 1).val, hx1⟩ ⟨(⟨(x 2).val / 64, by omega⟩ : Fin 8).val * 64 + (⟨(x 2).val % 64, by omega⟩ : Fin 64).val, by show (x 2).val / 64 * 64 + (x 2).val % 64 < 512; omega⟩ := by
    funext a
    match a with
    | 0 => exact hx0
    | 1 => rfl
    | 2 => exact Fin.ext (by show (x 2).val = (x 2).val / 64 * 64 + (x 2).val % 64; omega)
  have hoff : ∀ a, k1_off1 k a = (![0, 64 * k.val, 0] : Fin 3 → ℕ) a := fun a => congrFun (off1_eq k) a
  refine (congrArg _ e).trans ((trip_row x0 x1 x2 x3 i k ⟨(i 2).val, (i 2).isLt⟩ ⟨k.val, hk⟩ rfl rfl arg3 harg3 arg4 harg4 arg5 harg5 arg6 harg6 _ _ _).trans ?_)
  unfold blockFn
  have v1 : ((Rect.unit (s := S1x512x512) (k1_off1 k) S1x64x512.size (k1_off1_inb k)).emb x 1).val = 64 * k.val + (x 1).val := by
    show k1_off1 k 1 + 1 * (x 1).val = _
    rw [hoff]
    show 64 * k.val + 1 * (x 1).val = _
    omega
  have v2 : ((Rect.unit (s := S1x512x512) (k1_off1 k) S1x64x512.size (k1_off1_inb k)).emb x 2).val = (x 2).val := by
    show k1_off1 k 2 + 1 * (x 2).val = _
    rw [hoff]
    show 0 + 1 * (x 2).val = _
    omega
  congr 1 <;> refine Fin.ext ?_
  · show k.val = ((Rect.unit (s := S1x512x512) (k1_off1 k) S1x64x512.size (k1_off1_inb k)).emb x 1).val / 64
    rw [v1]; omega
  · show (x 2).val / 64 = ((Rect.unit (s := S1x512x512) (k1_off1 k) S1x64x512.size (k1_off1_inb k)).emb x 2).val / 64
    rw [v2]
  · show (x 1).val = ((Rect.unit (s := S1x512x512) (k1_off1 k) S1x64x512.size (k1_off1_inb k)).emb x 1).val % 64
    rw [v1]; omega
  · show (x 2).val % 64 = ((Rect.unit (s := S1x512x512) (k1_off1 k) S1x64x512.size (k1_off1_inb k)).emb x 2).val % 64
    rw [v2]

end Cert.KernelIdeal.Attn

end
-- ==== Proof.AttnRegion.lean ====
/- The attention's result array, from the array of queries, keys and values and the bias table. -/
module

public import proofs.«01_k».proof.Proof.Gen.KernelIdeal.Frame
public import proofs.«01_k».proof.Proof.AttnBlock
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable (Q : S2x4096x6144.Idx → EReal) (T : S32x14x64x128.Idx → EReal)

/-- The score with its bias of the query at row `r`, column `j` of the grid, head `h`, against place `l` of its window's rows. -/
def attnScore (b : Fin 2) (h : Fin 32) (r j : Fin 64) (l : Fin 512) : EReal :=
  (∑ d : Fin 64, Q (ix3 b ⟨r.val * 64 + j.val, by omega⟩ ⟨h.val * 64 + d.val, by omega⟩) * Ideal.ofBits .bf16 0x3E00#16
      * Q (ix3 b ⟨64 * row0 r.val + l.val, by have := row0_le r.val; omega⟩ ⟨2048 + h.val * 64 + d.val, by omega⟩))
    + T (ix4 h ⟨row0 r.val + 7 - r.val + 2 * (l.val / 128), diff_lt _ r.isLt ⟨l.val / 128, by omega⟩⟩ j ⟨l.val % 128, by omega⟩)

/-- One element of the attention. -/
def attnOut (b : Fin 2) (h : Fin 32) (r j d : Fin 64) : EReal :=
  Ideal.div (∑ l, Ideal.exp (attnScore Q T b h r j l - Finset.fold max (Ideal.ofBits .f32 0xFF800000#32) (attnScore Q T b h r j) Finset.univ)
      * Q (ix3 b ⟨64 * row0 r.val + l.val, by have := row0_le r.val; omega⟩ ⟨4096 + h.val * 64 + d.val, by omega⟩))
    (∑ l, Ideal.exp (attnScore Q T b h r j l - Finset.fold max (Ideal.ofBits .f32 0xFF800000#32) (attnScore Q T b h r j) Finset.univ))

/-- The attention's result. -/
def attnArr (i : S2x4096x2048.Idx) : EReal :=
  attnOut Q T ⟨(i 0).val, (i 0).isLt⟩ ⟨(i 2).val / 64, by have := (i 2).isLt; change _ < 2048 at this; omega⟩ ⟨(i 1).val / 64, by have := (i 1).isLt; change _ < 4096 at this; omega⟩
    ⟨(i 1).val % 64, Nat.mod_lt _ (by decide)⟩ ⟨(i 2).val % 64, Nat.mod_lt _ (by decide)⟩

section
variable (x0 : S1x512x512.Idx → EReal) (x1 x2 : S1x4096x512.Idx → EReal) (x3 : S8x14x64x128.Idx → EReal) (b : Fin 2) (g : Fin 4) (rb : Fin 8)

theorem score_of_block
    (h0 : ∀ y ch : Fin 512, x0 (ix3 0 y ch) = Q (ix3 b ⟨512 * rb.val + y.val, by omega⟩ ⟨512 * g.val + ch.val, by omega⟩))
    (h1 : ∀ (l : Fin 4096) (ch : Fin 512), x1 (ix3 0 l ch) = Q (ix3 b l ⟨2048 + 512 * g.val + ch.val, by omega⟩))
    (h3 : ∀ (n : Fin 8) (y : Fin 14) (j : Fin 64) (l : Fin 128), x3 (ix4 n y j l) = T (ix4 ⟨8 * g.val + n.val, by omega⟩ y j l))
    (k n : Fin 8) (j : Fin 64) (l : Fin 512) :
    blockScore x0 x1 x3 rb k n j l = attnScore Q T b ⟨8 * g.val + n.val, by omega⟩ ⟨8 * rb.val + k.val, by omega⟩ j l := by
  unfold blockScore attnScore
  refine congrArg₂ (· + ·) (Finset.sum_congr rfl fun d _ => ?_) (h3 _ _ _ _)
  rw [h0, h1]
  refine congrArg₂ (fun y z => y * _ * z) (congrArg Q ?_) (congrArg Q ?_)
  · exact congrArg₂ (fun y z => ix3 b y z) (Fin.ext (by show 512 * rb.val + (64 * k.val + j.val) = (8 * rb.val + k.val) * 64 + j.val; omega))
      (Fin.ext (by show 512 * g.val + (n.val * 64 + d.val) = (8 * g.val + n.val) * 64 + d.val; omega))
  · exact congrArg (fun z => ix3 b _ z) (Fin.ext (by show 2048 + 512 * g.val + (n.val * 64 + d.val) = 2048 + (8 * g.val + n.val) * 64 + d.val; omega))

theorem out_of_block
    (h0 : ∀ y ch : Fin 512, x0 (ix3 0 y ch) = Q (ix3 b ⟨512 * rb.val + y.val, by omega⟩ ⟨512 * g.val + ch.val, by omega⟩))
    (h1 : ∀ (l : Fin 4096) (ch : Fin 512), x1 (ix3 0 l ch) = Q (ix3 b l ⟨2048 + 512 * g.val + ch.val, by omega⟩))
    (h2 : ∀ (l : Fin 4096) (ch : Fin 512), x2 (ix3 0 l ch) = Q (ix3 b l ⟨4096 + 512 * g.val + ch.val, by omega⟩))
    (h3 : ∀ (n : Fin 8) (y : Fin 14) (j : Fin 64) (l : Fin 128), x3 (ix4 n y j l) = T (ix4 ⟨8 * g.val + n.val, by omega⟩ y j l))
    (k n : Fin 8) (j d : Fin 64) :
    blockOut x0 x1 x2 x3 rb k n j d = attnOut Q T b ⟨8 * g.val + n.val, by omega⟩ ⟨8 * rb.val + k.val, by omega⟩ j d := by
  have hS : blockScore x0 x1 x3 rb k n j = attnScore Q T b ⟨8 * g.val + n.val, by omega⟩ ⟨8 * rb.val + k.val, by omega⟩ j :=
    funext fun l => score_of_block Q T x0 x1 x3 b g rb h0 h1 h3 k n j l
  unfold blockOut attnOut
  rw [hS]
  refine congrArg (fun z => Ideal.div z _) (Finset.sum_congr rfl fun l _ => ?_)
  rw [h2]
  refine congrArg (fun z => _ * Q (ix3 b _ z)) (Fin.ext ?_)
  show 4096 + 512 * g.val + (n.val * 64 + d.val) = 4096 + (8 * g.val + n.val) * 64 + d.val
  omega
end

/-- Which block each window is at. -/
theorem idx1 : ∀ t : Fin cfg1.N, win1_0.index t = ![t.val / 32, t.val % 8, t.val / 8 % 4] ∧ win1_1.index t = ![t.val / 32, 0, 4 + t.val / 8 % 4]
    ∧ win1_2.index t = ![t.val / 32, 0, 8 + t.val / 8 % 4] ∧ win1_3.index t = ![t.val / 8 % 4, 0, 0, 0]
    ∧ win1_4.index t = ![t.val / 32, t.val % 8, t.val / 8 % 4] ∧ (grid1.coords t 2).val = t.val % 8 ∧ t.val < 64 :=
  (by decide +kernel : ∀ t : Fin grid1.N, _)

variable (V : (c : Dev nD) → (b : Ref sig .tc) → Buf (Elt Ideal) ((c : Thread nD τ).loc b))

theorem blk_q (c : Dev nD) (t : Fin cfg1.N) (y ch : Fin 512) : iblk1 (F := Ideal) V c 0 t (ix3 0 y ch)
    = V c main_arg0 (ix3 ⟨t.val / 32, by have := (idx1 t).2.2.2.2.2.2; omega⟩ ⟨512 * (t.val % 8) + y.val, by omega⟩ ⟨512 * (t.val / 8 % 4) + ch.val, by omega⟩) := by
  obtain ⟨e, -⟩ := idx1 t
  blk_ext [iblk1, e]

theorem blk_k (c : Dev nD) (t : Fin cfg1.N) (l : Fin 4096) (ch : Fin 512) : iblk1 (F := Ideal) V c 1 t (ix3 0 l ch)
    = V c main_arg0 (ix3 ⟨t.val / 32, by have := (idx1 t).2.2.2.2.2.2; omega⟩ l ⟨2048 + 512 * (t.val / 8 % 4) + ch.val, by omega⟩) := by
  obtain ⟨-, e, -⟩ := idx1 t
  blk_ext [iblk1, e]

theorem blk_v (c : Dev nD) (t : Fin cfg1.N) (l : Fin 4096) (ch : Fin 512) : iblk1 (F := Ideal) V c 2 t (ix3 0 l ch)
    = V c main_arg0 (ix3 ⟨t.val / 32, by have := (idx1 t).2.2.2.2.2.2; omega⟩ l ⟨4096 + 512 * (t.val / 8 % 4) + ch.val, by omega⟩) := by
  obtain ⟨-, -, e, -⟩ := idx1 t
  blk_ext [iblk1, e]

theorem blk_t (c : Dev nD) (t : Fin cfg1.N) (n : Fin 8) (y : Fin 14) (j : Fin 64) (l : Fin 128) : iblk1 (F := Ideal) V c 3 t (ix4 n y j l)
    = V c main_v1 (ix4 ⟨8 * (t.val / 8 % 4) + n.val, by omega⟩ y j l) := by
  obtain ⟨-, -, -, e, -⟩ := idx1 t
  blk_ext [iblk1, e]

theorem attn_final (c : Dev nD) : (dat1 (F := Ideal) V c).arrAt 4 cfg1.N = attnArr (V c main_arg0) (V c main_v1) := by
  refine (dat1 (F := Ideal) V c).arrAt_eq_of_covers 4 _ (by decide +kernel) fun t hf y => ?_
  obtain ⟨-, -, -, -, e4, e5, ht⟩ := idx1 t
  blk_simp
  rw [after1_4]
  unfold outsAt1
  rw [out_eq]
  have hy1 : (y 1).val < 512 := (y 1).isLt
  have hy2 : (y 2).val < 512 := (y 2).isLt
  have hy0 : (y 0).val < 1 := (y 0).isLt
  have hb : t.val / 32 < 2 := by omega
  have hg : t.val / 8 % 4 < 4 := by omega
  have hr : t.val % 8 < 8 := by omega
  have hc : (⟨(grid1.coords t 2).val, (grid1.coords t 2).isLt⟩ : Fin 8) = ⟨t.val % 8, hr⟩ := Fin.ext e5
  unfold blockFn
  refine (congrArg (fun z => blockOut _ _ _ _ z _ _ _ _) hc).trans ?_
  refine (out_of_block (V c main_arg0) (V c main_v1) _ _ _ _ ⟨t.val / 32, hb⟩ ⟨t.val / 8 % 4, hg⟩ ⟨t.val % 8, hr⟩ (blk_q V c t) (blk_k V c t) (blk_v V c t) (blk_t V c t) _ _ _ _).trans ?_
  unfold attnArr
  have v0 : ((((View.whole main_v2).slice (win1_4.rect t)).emb y) 0).val = t.val / 32 := by blk_simp [e4]; try omega
  have v1 : ((((View.whole main_v2).slice (win1_4.rect t)).emb y) 1).val = 512 * (t.val % 8) + (y 1).val := by blk_simp [e4]; try omega
  have v2 : ((((View.whole main_v2).slice (win1_4.rect t)).emb y) 2).val = 512 * (t.val / 8 % 4) + (y 2).val := by blk_simp [e4]; try omega
  congr 1 <;> refine Fin.ext ?_ <;> dsimp only
  · exact v0.symm
  · rw [v2]; omega
  · rw [v1]; omega
  · rw [v1]; omega
  · rw [v2]; omega

end Cert.KernelIdeal.Attn

end
-- ==== Proof.AttnMask.lean ====
/- The window mask of the table of biases. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- Whether lane `l` of a pair of key rows is in the window of the query at column `j`. -/
def inWin (j : Fin 64) (l : Fin 128) : Bool := decide (min (j.val - 8) 48 ≤ l.val % 64) && decide (l.val % 64 < min (j.val - 8) 48 + 16)

theorem mask_at (j : Fin 64) (l : Fin 128) : (k0_pay2 : IVec S64x128 1) (ix2 j l) = if inWin j l then 1#1 else 0#1 := by
  revert j l
  decide +kernel

end Cert.KernelIdeal.Attn

end
-- ==== Proof.AttnBias.lean ====
/- The table of biases the attention reads, row by row and query column by query column. -/
module

public import proofs.«01_k».proof.Proof.Gen.KernelIdeal.Frame
public import proofs.«01_k».proof.Proof.AttnMask
public import proofs.«01_k».proof.Proof.AttnPair
public import Idealize.ShloMosaic.Lib.Pipeline.ValueKit.Held
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- One row of the table for a query column: the padded biases of two rows, turned to the query's column. -/
def tableRow (u v : Fin 128 → EReal) (j : Fin 64) (l : Fin 128) : EReal :=
  if inWin j l then
    (if l.val < 64 then u ⟨(l.val + 128 - (65 + j.val) % 128) % 128, Nat.mod_lt _ (by decide)⟩
      else v ⟨(l.val + 128 - (1 + j.val) % 128) % 128, Nat.mod_lt _ (by decide)⟩)
  else ⊥

theorem pay7_row (x0 : S1x16x128.Idx → EReal) (u v : S1x1x128.Idx → EReal) (j : Fin 64) (l : Fin 128) :
    k0_pay7 (F := Ideal) (k0_pay27 (F := Ideal) x0) (k0_pay28 (F := Ideal) x0) u v (ix4 0 0 j l)
      = tableRow (fun c => u (ix3 0 0 c)) (fun c => v (ix3 0 0 c)) j l := by
  have hn : Named.named (F := Ideal) (φ := .f32) κ "mask" 0xF149F2CA#32 = (⊥ : EReal) := IdealRules.named_const.ideal_named_scalar _ _ _ _ rfl
  unfold k0_pay28
  pointwise [k0_pay7, k0_pay27]
  rw [sel_lt, hn, mask_at]
  unfold tableRow
  cases inWin j l <;> rfl

/-- A head's table, from the head's padded biases. -/
def tableOf (x : S1x16x128.Idx → EReal) (y : S1x14x64x128.Idx) : EReal :=
  tableRow (fun c => x (ix3 0 ⟨(y 1).val, Nat.lt_of_lt_of_le (y 1).isLt (by decide)⟩ c)) (fun c => x (ix3 0 ⟨(y 1).val + 1, Nat.lt_of_le_of_lt (Nat.succ_le_of_lt (y 1).isLt) (by decide)⟩ c))
    ⟨(y 2).val, (y 2).isLt⟩ ⟨(y 3).val, (y 3).isLt⟩

theorem ld_row (x : S1x16x128.Idx → EReal) (o : Fin S1x16x128.rank → ℕ) (inb : ∀ a, o a + S1x1x128.size a ≤ S1x16x128.size a) (s : Fin 16) (ho : o = ![0, s.val, 0]) (c : Fin 128) :
    View.ld (Val := Elt Ideal) (e' := .f32) x (Rect.unit (s := S1x16x128) o S1x1x128.size inb) (ix3 0 0 c) = x (ix3 0 s c) := by
  subst ho
  refine congrArg x ?_
  funext a
  match a with
  | 0 => rfl
  | 1 => exact Fin.ext (by show s.val + 1 * 0 = s.val; omega)
  | 2 => exact Fin.ext (by show 0 + 1 * c.val = c.val; omega)

theorem tablePiece (x : S1x16x128.Idx → EReal) (s : Fin 14) (o : Fin S1x14x64x128.rank → ℕ) (inb : ∀ a, o a + S1x1x64x128.size a ≤ S1x14x64x128.size a) (ho : o = ![0, s.val, 0, 0])
    (o1 o2 : Fin S1x16x128.rank → ℕ) (inb1 : ∀ a, o1 a + S1x1x128.size a ≤ S1x16x128.size a) (inb2 : ∀ a, o2 a + S1x1x128.size a ≤ S1x16x128.size a)
    (h1 : o1 = ![0, s.val, 0]) (h2 : o2 = ![0, s.val + 1, 0]) (p : S1x1x64x128.Idx → EReal)
    (hp : p = k0_pay7 (F := Ideal) (k0_pay27 (F := Ideal) x) (k0_pay28 (F := Ideal) x) (View.ld (Val := Elt Ideal) (e' := .f32) x (Rect.unit (s := S1x16x128) o1 S1x1x128.size inb1)) (View.ld (Val := Elt Ideal) (e' := .f32) x (Rect.unit (s := S1x16x128) o2 S1x1x128.size inb2)))
    (y : S1x1x64x128.Idx) : p y = tableOf x ((Rect.unit (s := S1x14x64x128) o S1x1x64x128.size inb).emb y) := by
  subst ho hp
  have e : y = ix4 0 0 ⟨(y 2).val, (y 2).isLt⟩ ⟨(y 3).val, (y 3).isLt⟩ := by
    funext a
    match a with
    | 0 => exact Subsingleton.elim (α := Fin 1) _ _
    | 1 => exact Subsingleton.elim (α := Fin 1) _ _
    | 2 => rfl
    | 3 => rfl
  refine (congrArg _ e).trans ((pay7_row x _ _ _ _).trans ?_)
  simp only [ld_row x o1 inb1 ⟨s.val, by omega⟩ h1, ld_row x o2 inb2 ⟨s.val + 1, by omega⟩ h2]
  have hy1 : (y 1).val < 1 := (y 1).isLt
  have v1 : (((Rect.unit (s := S1x14x64x128) ![0, s.val, 0, 0] S1x1x64x128.size inb).emb y) 1).val = s.val := by
    show s.val + 1 * (y 1).val = s.val
    omega
  have v2 : (((Rect.unit (s := S1x14x64x128) ![0, s.val, 0, 0] S1x1x64x128.size inb).emb y) 2).val = (y 2).val := by
    show 0 + 1 * (y 2).val = _
    omega
  have v3 : (((Rect.unit (s := S1x14x64x128) ![0, s.val, 0, 0] S1x1x64x128.size inb).emb y) 3).val = (y 3).val := by
    show 0 + 1 * (y 3).val = _
    omega
  unfold tableOf
  simp only [v1, v2, v3]
  rfl

/-- What the table's body leaves for a head. -/
theorem table_out (x : S1x16x128.Idx → EReal) : out0_1 (F := Ideal) x = tableOf x := by
  funext y
  refine View.canon_apply_of_pieces (tableOf x) _ ?_ y (cover0_1 (F := Ideal) _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl
  · exact tablePiece x 13 _ inb_S1x14x64x128_S1x1x64x128_0_13_0_0 rfl _ _ inb_S1x16x128_S1x1x128_0_13_0 inb_S1x16x128_S1x1x128_0_14_0 rfl rfl _ rfl
  · exact tablePiece x 12 _ inb_S1x14x64x128_S1x1x64x128_0_12_0_0 rfl _ _ inb_S1x16x128_S1x1x128_0_12_0 inb_S1x16x128_S1x1x128_0_13_0 rfl rfl _ rfl
  · exact tablePiece x 11 _ inb_S1x14x64x128_S1x1x64x128_0_11_0_0 rfl _ _ inb_S1x16x128_S1x1x128_0_11_0 inb_S1x16x128_S1x1x128_0_12_0 rfl rfl _ rfl
  · exact tablePiece x 10 _ inb_S1x14x64x128_S1x1x64x128_0_10_0_0 rfl _ _ inb_S1x16x128_S1x1x128_0_10_0 inb_S1x16x128_S1x1x128_0_11_0 rfl rfl _ rfl
  · exact tablePiece x 9 _ inb_S1x14x64x128_S1x1x64x128_0_9_0_0 rfl _ _ inb_S1x16x128_S1x1x128_0_9_0 inb_S1x16x128_S1x1x128_0_10_0 rfl rfl _ rfl
  · exact tablePiece x 8 _ inb_S1x14x64x128_S1x1x64x128_0_8_0_0 rfl _ _ inb_S1x16x128_S1x1x128_0_8_0 inb_S1x16x128_S1x1x128_0_9_0 rfl rfl _ rfl
  · exact tablePiece x 7 _ inb_S1x14x64x128_S1x1x64x128_0_7_0_0 rfl _ _ inb_S1x16x128_S1x1x128_0_7_0 inb_S1x16x128_S1x1x128_0_8_0 rfl rfl _ rfl
  · exact tablePiece x 6 _ inb_S1x14x64x128_S1x1x64x128_0_6_0_0 rfl _ _ inb_S1x16x128_S1x1x128_0_6_0 inb_S1x16x128_S1x1x128_0_7_0 rfl rfl _ rfl
  · exact tablePiece x 5 _ inb_S1x14x64x128_S1x1x64x128_0_5_0_0 rfl _ _ inb_S1x16x128_S1x1x128_0_5_0 inb_S1x16x128_S1x1x128_0_6_0 rfl rfl _ rfl
  · exact tablePiece x 4 _ inb_S1x14x64x128_S1x1x64x128_0_4_0_0 rfl _ _ inb_S1x16x128_S1x1x128_0_4_0 inb_S1x16x128_S1x1x128_0_5_0 rfl rfl _ rfl
  · exact tablePiece x 3 _ inb_S1x14x64x128_S1x1x64x128_0_3_0_0 rfl _ _ inb_S1x16x128_S1x1x128_0_3_0 inb_S1x16x128_S1x1x128_0_4_0 rfl rfl _ rfl
  · exact tablePiece x 2 _ inb_S1x14x64x128_S1x1x64x128_0_2_0_0 rfl _ _ inb_S1x16x128_S1x1x128_0_2_0 inb_S1x16x128_S1x1x128_0_3_0 rfl rfl _ rfl
  · exact tablePiece x 1 _ inb_S1x14x64x128_S1x1x64x128_0_1_0_0 rfl _ _ inb_S1x16x128_S1x1x128_0_1_0 inb_S1x16x128_S1x1x128_0_2_0 rfl rfl _ rfl
  · exact tablePiece x 0 _ inb_S1x14x64x128_S1x1x64x128_0_0_0_0 rfl _ _ inb_S1x16x128_S1x1x128_0_0_0 inb_S1x16x128_S1x1x128_0_1_0 rfl rfl _ rfl

variable (V : (c : Dev nD) → (b : Ref sig .tc) → Buf (Elt Ideal) ((c : Thread nD τ).loc b))

/-- Which block each window of the table's call is at. -/
theorem idx0 : ∀ t : Fin cfg0.N, win0_0.index t = ![t.val, 0, 0] ∧ win0_1.index t = ![t.val, 0, 0, 0] ∧ t.val < 32 :=
  (by decide +kernel : ∀ t : Fin grid0.N, _)

/-- The table, from the padded biases. -/
def tableArr (P : S32x16x128.Idx → EReal) (y : S32x14x64x128.Idx) : EReal :=
  tableRow (fun c => P (ix3 ⟨(y 0).val, (y 0).isLt⟩ ⟨(y 1).val, Nat.lt_of_lt_of_le (y 1).isLt (by decide)⟩ c))
    (fun c => P (ix3 ⟨(y 0).val, (y 0).isLt⟩ ⟨(y 1).val + 1, Nat.lt_of_le_of_lt (Nat.succ_le_of_lt (y 1).isLt) (by decide)⟩ c))
    ⟨(y 2).val, (y 2).isLt⟩ ⟨(y 3).val, (y 3).isLt⟩

theorem blk_p (c : Dev nD) (t : Fin cfg0.N) (s : Fin 16) (l : Fin 128) : iblk0 (F := Ideal) V c 0 t (ix3 0 s l)
    = V c main_v0 (ix3 ⟨t.val, (idx0 t).2.2⟩ s l) := by
  obtain ⟨e, -⟩ := idx0 t
  blk_ext [iblk0, e]

theorem table_final (c : Dev nD) : (dat0 (F := Ideal) V c).arrAt 1 cfg0.N = tableArr (V c main_v0) := by
  refine (dat0 (F := Ideal) V c).arrAt_eq_of_covers 1 _ (by decide +kernel) fun t hf y => ?_
  obtain ⟨-, e1, ht⟩ := idx0 t
  blk_simp
  rw [after0_1, table_out]
  have hy0 : (y 0).val < 1 := (y 0).isLt
  unfold tableOf
  simp only [blk_p V c t]
  unfold tableArr
  have v0 : ((((View.whole main_v1).slice (win0_1.rect t)).emb y) 0).val = t.val := by blk_simp [e1]; try omega
  have v1 : ((((View.whole main_v1).slice (win0_1.rect t)).emb y) 1).val = (y 1).val := by blk_simp [e1]; try omega
  have v2 : ((((View.whole main_v1).slice (win0_1.rect t)).emb y) 2).val = (y 2).val := by blk_simp [e1]; try omega
  have v3 : ((((View.whole main_v1).slice (win0_1.rect t)).emb y) 3).val = (y 3).val := by blk_simp [e1]; try omega
  simp only [v0, v1, v2, v3]

end Cert.KernelIdeal.Attn

end
-- ==== Proof.AttnSame.lean ====
/- The attention over the rows of the window, those columns outside it biased by −∞, is the attention over the window. -/
module

public import proofs.«01_k».proof.Proof.AttnMath
public import proofs.«01_k».proof.Proof.AttnRef
public import proofs.«01_k».proof.Proof.AttnRegion
public import proofs.«01_k».proof.Proof.AttnBias

@[expose] public section

set_option maxRecDepth 16384

noncomputable section

namespace Cert.AttnSame

open Idealize.ShloMosaic Cert.KernelIdeal.Attn
open Cert.ReferenceIdeal.Attn (scoreAt biasAt valueAt keyTok top score)

variable (Q : KernelIdeal.S2x4096x6144.Idx → EReal) (B : KernelIdeal.S32x15x31.Idx → EReal) (P : KernelIdeal.S32x16x128.Idx → EReal)

/-- The scale, an eighth, in the kernel's format. -/
theorem scale_bf16 : Ideal.ofBits .bf16 0x3E00#16 = (((1 : ℝ) / 8 : ℝ) : EReal) := by
  simp [Ideal.ofBits, Ideal.ieee, -EReal.coe_mul]
  norm_num

/-- The scale, an eighth, in the reference's format. -/
theorem scale_f32 : Ideal.ofBits .f32 0x3E000000#32 = (((1 : ℝ) / 8 : ℝ) : EReal) := by
  simp [Ideal.ofBits, Ideal.ieee, -EReal.coe_mul]
  norm_num

/-- The first key column of the window. -/
def colLo (j : Fin 64) : ℕ := min (j.val - 8) 48

/-- Where the window's place `m` lies among the 512 keys of the window's rows. -/
def place (j : Fin 64) (m : Fin 128) : Fin 512 := ⟨m.val / 16 * 64 + (colLo j + m.val % 16), by unfold colLo; omega⟩

theorem place_injective (j : Fin 64) : Function.Injective (place j) := fun m n h => by
  have h' : m.val / 16 * 64 + (colLo j + m.val % 16) = n.val / 16 * 64 + (colLo j + n.val % 16) := congrArg Fin.val h
  unfold colLo at h'
  exact Fin.ext (by omega)

theorem inWin_iff (j : Fin 64) (l : Fin 128) : inWin j l = true ↔ colLo j ≤ l.val % 64 ∧ l.val % 64 < colLo j + 16 := by
  unfold inWin colLo
  simp only [Bool.and_eq_true, decide_eq_true_eq]

/-- The biases stand at lanes 48 to 78 of the padded ones. -/
def Padded : Prop :=
  ∀ (h : Fin 32) (s : Fin 15) (k : Fin 31), P (ix3 h ⟨s.val, by omega⟩ ⟨48 + k.val, by omega⟩) = B (ix3 h s k)

section Table
variable (hP : Padded B P)
include hP

/-- Inside the window the table holds the bias. -/
theorem table_in (h : Fin 32) (r j : Fin 64) (m : Fin 128) (hs : row0 r.val + 7 - r.val + 2 * ((place j m).val / 128) < 14) :
    tableArr P (ix4 h ⟨row0 r.val + 7 - r.val + 2 * ((place j m).val / 128), hs⟩ j ⟨(place j m).val % 128, Nat.mod_lt _ (by decide)⟩)
      = biasAt B h r j ⟨m.val / 16, by omega⟩ ⟨m.val % 16, by omega⟩ := by
  have hp : (place j m).val = m.val / 16 * 64 + (colLo j + m.val % 16) := rfl
  have hc : colLo j = min (j.val - 8) 48 := rfl
  have hr : row0 r.val = min (r.val - 4) 56 := rfl
  have key : ∀ (s : Fin 16) (c : Fin 128), s.val = row0 r.val + m.val / 16 + 7 - r.val → c.val = 48 + (colLo j + m.val % 16 + 15 - j.val) →
      P (ix3 h s c) = biasAt B h r j ⟨m.val / 16, by omega⟩ ⟨m.val % 16, by omega⟩ := by
    intro s c h1 h2
    have e1 : s = ⟨(⟨row0 r.val + m.val / 16 + 7 - r.val, by omega⟩ : Fin 15).val, by show row0 r.val + m.val / 16 + 7 - r.val < 16; omega⟩ := Fin.ext h1
    have e2 : c = ⟨48 + (⟨colLo j + m.val % 16 + 15 - j.val, by omega⟩ : Fin 31).val, by show 48 + (colLo j + m.val % 16 + 15 - j.val) < 128; omega⟩ := Fin.ext h2
    exact (congrArg₂ (fun s c => P (ix3 h s c)) e1 e2).trans (hP h _ _)
  have hin : inWin j ⟨(place j m).val % 128, Nat.mod_lt _ (by decide)⟩ = true := by
    rw [inWin_iff]
    show colLo j ≤ (place j m).val % 128 % 64 ∧ (place j m).val % 128 % 64 < colLo j + 16
    omega
  unfold tableArr tableRow
  refine (if_pos hin).trans ?_
  by_cases hl : (place j m).val % 128 < 64
  · refine (if_pos hl).trans (key _ _ ?_ ?_)
    · show row0 r.val + 7 - r.val + 2 * ((place j m).val / 128) = _
      omega
    · show ((place j m).val % 128 + 128 - (65 + j.val) % 128) % 128 = _
      omega
  · refine (if_neg hl).trans (key _ _ ?_ ?_)
    · show row0 r.val + 7 - r.val + 2 * ((place j m).val / 128) + 1 = _
      omega
    · show ((place j m).val % 128 + 128 - (1 + j.val) % 128) % 128 = _
      omega

/-- The kernel's score of a place of the window is the reference's. -/
theorem score_in (b : Fin 2) (h : Fin 32) (r j : Fin 64) (m : Fin 128) :
    attnScore Q (tableArr P) b h r j (place j m) = scoreAt Q B b h r j m := by
  have hscale : Ideal.ofBits .bf16 0x3E00#16 = Ideal.ofBits .f32 0x3E000000#32 := scale_bf16.trans scale_f32.symm
  unfold attnScore scoreAt score
  refine congrArg₂ (· + ·) (Finset.sum_congr rfl fun d _ => ?_) (table_in B P hP h r j m _)
  rw [hscale]
  refine congrArg (fun y => _ * _ * Q (ix3 b y _)) (Fin.ext ?_)
  show 64 * row0 r.val + (m.val / 16 * 64 + (colLo j + m.val % 16)) = (row0 r.val + m.val / 16) * 64 + (colLo j + m.val % 16)
  omega
end Table

/-- Outside the window the score is −∞. -/
theorem score_out (b : Fin 2) (h : Fin 32) (r j : Fin 64) (l : Fin 512) (hl : ∀ m, place j m ≠ l) :
    attnScore Q (tableArr P) b h r j l = ⊥ := by
  have hn : ¬ inWin j ⟨l.val % 128, Nat.mod_lt _ (by decide)⟩ = true := fun hin => by
    rw [inWin_iff] at hin
    have h1 : colLo j ≤ l.val % 128 % 64 ∧ l.val % 128 % 64 < colLo j + 16 := hin
    refine hl ⟨l.val / 64 * 16 + (l.val % 64 - colLo j), by omega⟩ (Fin.ext ?_)
    show (l.val / 64 * 16 + (l.val % 64 - colLo j)) / 16 * 64 + (colLo j + (l.val / 64 * 16 + (l.val % 64 - colLo j)) % 16) = l.val
    omega
  unfold attnScore
  have ht : ∀ s : Fin 14, tableArr P (ix4 h s j ⟨l.val % 128, Nat.mod_lt _ (by decide)⟩) = ⊥ := fun s => by
    unfold tableArr tableRow
    exact if_neg hn
  rw [ht, EReal.add_bot]

section Finite
variable (hQ : ∀ (b : Fin 2) (t : Fin 4096) (ch : Fin 6144), ch.val < 4096 → ∃ x : ℝ, Q (ix3 b t ch) = (x : EReal))
  (hB : ∀ (h : Fin 32) (s : Fin 15) (k : Fin 31), ∃ x : ℝ, B (ix3 h s k) = (x : EReal))
include hQ hB

/-- With finite queries, keys and biases every score is finite. -/
theorem score_real (b : Fin 2) (h : Fin 32) (r j : Fin 64) (m : Fin 128) : ∃ s : ℝ, scoreAt Q B b h r j m = (s : EReal) := by
  choose q hq using hQ
  obtain ⟨v, hv⟩ : ∃ v : ℝ, biasAt B h r j ⟨m.val / 16, by omega⟩ ⟨m.val % 16, by omega⟩ = (v : EReal) := by
    unfold biasAt
    exact hB _ _ _
  unfold scoreAt score
  rw [hv, scale_f32]
  refine ⟨(∑ d : Fin 64, q b ⟨r.val * 64 + j.val, by omega⟩ ⟨h.val * 64 + d.val, by omega⟩ (by show h.val * 64 + d.val < 4096; omega) * (1 / 8)
    * q b (keyTok r j ⟨m.val / 16, by omega⟩ ⟨m.val % 16, by omega⟩) ⟨2048 + h.val * 64 + d.val, by omega⟩ (by show 2048 + h.val * 64 + d.val < 4096; omega)) + v, ?_⟩
  rw [EReal.coe_add, AttnMath.coe_sum]
  refine congrArg₂ (· + ·) (Finset.sum_congr rfl fun d _ => ?_) rfl
  rw [EReal.coe_mul, EReal.coe_mul, hq, hq]

variable (hP : Padded B P)
include hP

/-- One element of the attention is the reference's. -/
theorem out_same (b : Fin 2) (h : Fin 32) (r j d : Fin 64) :
    attnOut Q (tableArr P) b h r j d = ReferenceIdeal.Read.val_main_v113 (F := Ideal) Q B (ix3 b ⟨r.val * 64 + j.val, by omega⟩ ⟨h.val * 64 + d.val, by omega⟩) := by
  choose s hs using score_real Q B hQ hB b h r j
  rw [ReferenceIdeal.Attn.result]
  unfold attnOut
  refine (AttnMath.window (attnScore Q (tableArr P) b h r j) (place j) (place_injective j) s (fun m => (score_in Q B P hP b h r j m).trans (hs m))
    (score_out Q P b h r j) (fun l => Q (ix3 b ⟨64 * row0 r.val + l.val, by have := row0_le r.val; omega⟩ ⟨4096 + h.val * 64 + d.val, by omega⟩)) _ AttnMath.ofBits_negInf).trans ?_
  simp only [score_in Q B P hP]
  unfold top
  refine Finset.sum_congr rfl fun m _ => congrArg₂ (· * ·) rfl ?_
  unfold valueAt
  refine congrArg (fun y => Q (ix3 b y _)) (Fin.ext ?_)
  show 64 * row0 r.val + (m.val / 16 * 64 + (colLo j + m.val % 16)) = (row0 r.val + m.val / 16) * 64 + (colLo j + m.val % 16)
  omega

/-- The kernel's attention is the reference's. -/
theorem arr_same : attnArr Q (tableArr P) = ReferenceIdeal.Read.val_main_v113 (F := Ideal) Q B := by
  funext i
  have h1 : (i 1).val < 4096 := (i 1).isLt
  have h2 : (i 2).val < 2048 := (i 2).isLt
  unfold attnArr
  rw [out_same Q B P hQ hB hP]
  refine congrArg _ ?_
  funext a
  match a with
  | 0 => rfl
  | 1 => exact Fin.ext (by show (i 1).val / 64 * 64 + (i 1).val % 64 = (i 1).val; omega)
  | 2 => exact Fin.ext (by show (i 2).val / 64 * 64 + (i 2).val % 64 = (i 2).val; omega)
end Finite

end Cert.AttnSame

end
-- ==== Proof.AttnRun.lean ====
/- The run of the attention's two calls. -/
module

public import proofs.«01_k».proof.Proof.Gen.KernelIdeal.Frame
public import proofs.«01_k».proof.Proof.AttnRegion
public import proofs.«01_k».proof.Proof.AttnBias
public import Idealize.ShloMosaic.Lib.Pipeline.ValueKit.Held
public import Idealize.ShloMosaic.Lib.Pipeline.ReadBack
public import Idealize.ShloMosaic.Lib.KernelVsHost
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

local notation "𝕄" => MT nD τ sig Unit (Elt Ideal) ℕ (UR sig nD τ) ℕ
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The padded biases the table is made of. -/
theorem pad_at (c : Dev nD) (h : Fin 32) (s : Fin 15) (k : Fin 31) : V2 (F := Ideal) m ρ c main_v0 (ix3 h ⟨s.val, by omega⟩ ⟨48 + k.val, by omega⟩) = m (c.tc.loc main_arg1) (ix3 h s k) := by
  change StableHlo.after hostOps0_1 (W1 (F := Ideal) m ρ c) (Proc.devRef .tc main_v0) _ = _
  entry_read
  refine pad_apply_of_inside _ _ _ (m (c.tc.loc main_arg1)) _ pads_S32x15x31_S32x16x128_000_010_48490 h_S_ (ix3 h ⟨s.val, by omega⟩ ⟨48 + k.val, by omega⟩) (ix3 h s k) fun a => ?_
  match a with
  | 0 => show h.val = 0 + h.val * 1; omega
  | 1 => show s.val = 0 + s.val * 1; omega
  | 2 => show 48 + k.val = 48 + k.val * 1; omega

theorem result_eq (c : Dev nD) : W4 (F := Ideal) m ρ c (Proc.devRef .tc main_v2) = attnArr (m (c.tc.loc main_arg0)) (tableArr (V2 (F := Ideal) m ρ c main_v0)) := by
  have h0 : V3 (F := Ideal) m ρ c main_arg0 = m (c.tc.loc main_arg0) := W3_args m ρ c main_arg0 (by decide)
  have h1 : V3 (F := Ideal) m ρ c main_v1 = tableArr (V2 (F := Ideal) m ρ c main_v0) := (W3_arr m ρ c 1).trans (table_final (V2 m ρ) c)
  refine (W4_arr m ρ c 4).trans ((attn_final (V3 m ρ) c).trans ?_)
  rw [h0, h1]

/-- The run of the attention: the result is the attention of the argument, and the arguments end as they began. -/
theorem run : θ_run defs (onTc (τ := τ) (main (F := Ideal))) ⟨m, fun _ => 0, ρ⟩ (fun r => ∀ c : Dev nD,
      r.2.mem ((c.tc : Thread nD τ).loc main_v2) = attnArr (m (c.tc.loc main_arg0)) (tableArr (V2 (F := Ideal) m ρ c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v2 (by decide))).trans (result_eq m ρ c),
       (h c _ (mem_uc main_arg0 (by decide))).trans (W4_main_arg0 m ρ c),
       (h c _ (mem_uc main_arg1 (by decide))).trans (W4_main_arg1 m ρ c)⟩)

end Cert.KernelIdeal.Attn

end
-- ==== Proof.AttnClaim.lean ====
/- The attention: the kernel's result is the reference's, where queries, keys and biases are finite. -/
module

public import proofs.«01_k».proof.Defs
public import proofs.«01_k».proof.Proof.AttnSame
public import proofs.«01_k».proof.Proof.AttnRun
public import proofs.«01_k».proof.Proof.Gen.ReferenceIdeal.Run
public import proofs.«01_k».proof.Proof.Gen.ReferenceIdeal.Read

@[expose] public section

set_option maxRecDepth 16384

noncomputable section

namespace Cert.KernelIdeal.Attn

open Idealize.ShloMosaic Idealize.ShloMosaic.TcCoe Idealize.SL.Sem

/-- The precondition's side conditions. -/
theorem pre_facts : Cert.Pre_finite_scores.Facts where
  slices_S2x4096x6144_S2x4096x4096_0_0_0 := by decide
  bcast_S_S2x4096x4096 := by decide
  bcast_S_S32x15x31 := by decide

theorem inf_bf16 : Ideal.ofBits .bf16 0x7F80#16 = ⊤ := by
  simp [Ideal.ofBits, Ideal.ieee]

theorem inf_f32 : Ideal.ofBits .f32 0x7F800000#32 = ⊤ := by
  simp [Ideal.ofBits, Ideal.ieee]

/-- A number of finite size is a real. -/
theorem real_of_lt (x t : EReal) (ht : t = ⊤) (h : Ideal.cmp .olt (max x (-x)) t = 1#1) : ∃ r : ℝ, x = (r : EReal) := by
  subst ht
  have h' : max x (-x) < ⊤ := by
    by_contra hn
    have : Ideal.cmp .olt (max x (-x)) ⊤ = 0#1 := by
      unfold Ideal.cmp
      simp only [decide_eq_false hn]
      rfl
    rw [this] at h
    exact absurd h (by decide)
  induction x using EReal.rec with
  | bot => exact absurd h' (by simp)
  | coe r => exact ⟨r, rfl⟩
  | top => exact absurd h' (by simp)

section
attribute [local instance] pre_facts

variable (Q : S2x4096x6144.Idx → EReal) (B : S32x15x31.Idx → EReal)

theorem finite_qk (h : (Cert.Pre_finite_scores.fn (F := Ideal) Q B).1 = fun _ => 1#1) (b : Fin 2) (t : Fin 4096) (ch : Fin 6144) (hc : ch.val < 4096) :
    ∃ x : ℝ, Q (ix3 b t ch) = (x : EReal) := by
  have h1 := congrFun h (ix3 b t ⟨ch.val, hc⟩)
  have e : (Cert.Pre_finite_scores.fn (F := Ideal) Q B).1 (ix3 b t ⟨ch.val, hc⟩) = Ideal.cmp .olt (max (Q (ix3 b t ch)) (-Q (ix3 b t ch))) (Ideal.ofBits .bf16 0x7F80#16) := by
    pointwise [Cert.Pre_finite_scores.fn]
    try rfl
  exact real_of_lt _ _ inf_bf16 (e.symm.trans h1)

theorem finite_bias (h : (Cert.Pre_finite_scores.fn (F := Ideal) Q B).2 = fun _ => 1#1) (n : Fin 32) (s : Fin 15) (k : Fin 31) :
    ∃ x : ℝ, B (ix3 n s k) = (x : EReal) := by
  have h1 := congrFun h (ix3 n s k)
  have e : (Cert.Pre_finite_scores.fn (F := Ideal) Q B).2 (ix3 n s k) = Ideal.cmp .olt (max (B (ix3 n s k)) (-B (ix3 n s k))) (Ideal.ofBits .f32 0x7F800000#32) := by
    pointwise [Cert.Pre_finite_scores.fn]
    try rfl
  exact real_of_lt _ _ inf_f32 (e.symm.trans h1)
end

/-- The attention's value claim. -/
theorem value : algebraic_KernelIdeal_ReferenceIdeal_pre_finite_scores (hKernelIdeal := Cert.KernelIdeal.Gen.facts)
    (hReferenceIdeal := Cert.ReferenceIdeal.Gen.facts) (hPre_finite_scores := pre_facts) := by
  intro m ρ m' ρ' hpre hargs
  refine ⟨fun c => attnArr (m (c.tc.loc Cert.KernelIdeal.main_arg0)) (tableArr (Gen.V2 (F := Ideal) m ρ c Cert.KernelIdeal.main_v0)), ?_, ?_⟩
  · exact run m ρ
  · refine (θ_run _ _ _).mono (fun r h c => ?_) (Cert.ReferenceIdeal.Value.run m' ρ')
    refine ⟨(h c).1.trans ?_, (h c).2⟩
    rw [Cert.ReferenceIdeal.Read.val_main_v113_eq, (hargs c).1, (hargs c).2]
    exact (AttnSame.arr_same _ _ _ (finite_qk _ _ (hpre c).1) (finite_bias _ _ (hpre c).2) (pad_at m ρ c)).symm

end Cert.KernelIdeal.Attn

end
-- ==== Proof.QkvTile.lean ====
/- The projection of the attention's queries, keys and values: what the kernel's result holds, element by element. -/
module

public import proofs.«01_k».proof.Proof.Gen.QkvIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.QkvIdeal.Tile

open Cert.QkvIdeal Cert.QkvIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the column tile after it. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The weight tile carried in the scratch: what the first row tile of the column wrote. -/
theorem held (c : Dev nD) (t : Fin cfg0.N) (y : S2048x1024.Idx) :
    (outsAt0 m c t.val t.isLt).2 y
      = k0_pay1 (iblk m c 1 ⟨8 * (t.val / 8), Pipeline.run_start_lt t⟩) y := by
  refine Pipeline.eq_of_write_hold_apply (fun n h => (outsAt0 m c n h).2) 8
    (fun t => k0_pay1 (iblk m c 1 t)) (fun t h i => ?_) (fun t h i => ?_) t y
  · rw [outsAt0_A m c t h]
    frame_out
  · rw [outsAt0_B m c t h]
    rfl

/-- One element of the product of the activations and the weight. -/
def cell (x : S2x4096x2048.Idx → EReal) (w : S2048x6144.Idx → EReal) : S8192x6144.Idx → EReal := fun i =>
  ∑ k : Fin 2048, x (ix3 ⟨(i 0).val / 4096, by have := (i 0).isLt; change _ < 8192 at this; omega⟩ ⟨(i 0).val % 4096, Nat.mod_lt _ (by decide)⟩ k)
    * w (ix2 k ⟨(i 1).val, (i 1).isLt⟩)

theorem final (c : Dev nD) :
    (dats m 0 c).arrAt 2 cfg0.N = cell (m ((c : Thread nD τ).loc main_arg0)) (m ((c : Thread nD τ).loc main_arg1)) := by
  refine (dats m 0 c).arrAt_eq_of_covers 2 _ (by decide +kernel) fun t hf y => ?_
  blk_simp
  rw [after0_2]
  have tile : ∀ u : Fin cfg0.N, u.val / 8 = t.val / 8 →
      k0_pay2 (iblk m c 0 t) (k0_pay1 (iblk m c 1 u)) y
        = cell (m ((c : Thread nD τ).loc main_arg0)) (m ((c : Thread nD τ).loc main_arg1))
            (((View.whole main_v1).slice (win0_2.rect t)).emb y) := by
    intro u hu
    obtain ⟨e0, -, e2⟩ := idx t
    obtain ⟨-, e1, -⟩ := idx u
    unfold cell
    pointwise [k0_pay1, k0_pay2]
    refine Finset.sum_congr rfl fun k _ => ?_
    refine Ideal.mul_congr ?_ ?_
    · blk_simp [iblk]
      entry_read
      pointwise
      refine congrArg (m (c.tc.loc main_arg0)) ?_
      blk_simp [e0, e2]
      refine congrArg (ix3 _ _) (Fin.ext ?_)
      blk_simp [e0]
      try omega
    · blk_ext [iblk, e1, e2, hu]
  by_cases h : t.val % 8 = 0
  · rw [outsAt0_A m c t h]
    frame_out
    exact tile t rfl
  · rw [outsAt0_B m c t h]
    frame_out
    simp only [read_unread_whole]
    rw [funext (held m c ⟨t.val - 1, Nat.lt_of_le_of_lt (Nat.sub_le _ _) t.isLt⟩)]
    refine tile _ ?_
    dsimp only
    omega

end Cert.QkvIdeal.Tile

end
-- ==== Proof.QkvClaim.lean ====
/- The product of the activations with the query, key and value weight: the kernel's result is the reference's. -/
module

public import proofs.«01_k».proof.Defs
public import proofs.«01_k».proof.Proof.QkvTile
public import proofs.«01_k».proof.Proof.Gen.QkvReferenceIdeal.Run
public import proofs.«01_k».proof.Proof.Gen.QkvReferenceIdeal.Read
public import Idealize.ShloMosaic.Lib.Pointwise

@[expose] public section

set_option maxRecDepth 16384

noncomputable section

namespace Cert.QkvIdeal.Tile

open Idealize.ShloMosaic Idealize.ShloMosaic.TcCoe Idealize.SL.Sem

open Cert.QkvReferenceIdeal.Read in
/-- The reference's result, element by element. -/
theorem ref (x : QkvReferenceIdeal.S2x4096x2048.Idx → EReal) (w : QkvReferenceIdeal.S2048x6144.Idx → EReal) :
    val_main_v3 (F := Ideal) x w = cell x w := by
  funext i
  unfold cell
  pointwise [val_main_v3, val_main_v2, val_main_v1, val_main_v0]

theorem value : algebraic_QkvIdeal_QkvReferenceIdeal (hQkvIdeal := Cert.QkvIdeal.Gen.facts)
    (hQkvReferenceIdeal := Cert.QkvReferenceIdeal.Gen.facts) := by
  intro m ρ m' ρ' _ hargs
  refine ⟨fun c => cell (m (c.tc.loc Cert.QkvIdeal.main_arg0)) (m (c.tc.loc Cert.QkvIdeal.main_arg1)), ?_, ?_⟩
  · refine (θ_run _ _ _).mono (fun r h c => ?_) (Cert.QkvIdeal.Value.run_blocks m ρ)
    exact ⟨(h c).1.trans (final m c), (h c).2⟩
  · refine (θ_run _ _ _).mono (fun r h c => ?_) (Cert.QkvReferenceIdeal.Value.run m' ρ')
    refine ⟨(h c).1.trans ?_, (h c).2⟩
    rw [(hargs c).1, (hargs c).2]
    exact ref _ _

end Cert.QkvIdeal.Tile

end
-- ==== Proof.InProjTile.lean ====
/- The state-space mixer's input projection: what the kernel's result holds, element by element. -/
module

public import proofs.«01_k».proof.Proof.Gen.InProjIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.InProjIdeal.Tile

open Cert.InProjIdeal Cert.InProjIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the column tile after it. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The weight tile carried in the scratch: what the first row tile of the column wrote. -/
theorem held (c : Dev nD) (t : Fin cfg0.N) (y : S2048x1280.Idx) :
    (outsAt0 m c t.val t.isLt).2 y
      = k0_pay1 (X0_1 m c ⟨8 * (t.val / 8), Pipeline.run_start_lt t⟩) y := by
  refine Pipeline.eq_of_write_hold_apply (fun n h => (outsAt0 m c n h).2) 8
    (fun t => k0_pay1 (X0_1 m c t)) (fun t h i => ?_) (fun t h i => ?_) t y
  · rw [outsAt0_A m c t h]
    frame_out
  · rw [outsAt0_B m c t h]
    rfl

/-- One element of the product of the activations and the weight. -/
def cell (x : S2x4096x2048.Idx → EReal) (w : S2048x10368.Idx → EReal) : S8192x10240.Idx → EReal := fun i =>
  ∑ k : Fin 2048, x (ix3 ⟨(i 0).val / 4096, by have := (i 0).isLt; change _ < 8192 at this; omega⟩ ⟨(i 0).val % 4096, Nat.mod_lt _ (by decide)⟩ k)
    * w (ix2 k ⟨(i 1).val, by have := (i 1).isLt; change _ < 10240 at this; omega⟩)

theorem final (c : Dev nD) :
    (dats m 0 c).arrAt 2 cfg0.N = cell (m ((c : Thread nD τ).loc main_arg0)) (m ((c : Thread nD τ).loc main_arg1)) := by
  refine (dats m 0 c).arrAt_eq_of_covers 2 _ (by decide +kernel) fun t hf y => ?_
  blk_simp
  rw [after0_2]
  have tile : ∀ u : Fin cfg0.N, u.val / 8 = t.val / 8 →
      k0_pay2 (iblk m c 0 t) (k0_pay1 (X0_1 m c u)) y
        = cell (m ((c : Thread nD τ).loc main_arg0)) (m ((c : Thread nD τ).loc main_arg1))
            (((View.whole main_v1).slice (win0_2.rect t)).emb y) := by
    intro u hu
    obtain ⟨e0, -, e2⟩ := idx t
    obtain ⟨-, e1, -⟩ := idx u
    unfold cell
    pointwise [k0_pay1, k0_pay2]
    refine Finset.sum_congr rfl fun k _ => ?_
    refine Ideal.mul_congr ?_ ?_
    · blk_simp [iblk]
      entry_read
      pointwise
      refine congrArg (m (c.tc.loc main_arg0)) ?_
      blk_simp [e0, e2]
      refine congrArg (ix3 _ _) (Fin.ext ?_)
      blk_simp [e0]
      try omega
    · unfold X0_1 Pipeline.Window.fill
      rw [dif_pos (moved0_1 u _)]
      blk_ext [iblk, e1, e2, hu]
  by_cases h : t.val % 8 = 0
  · rw [outsAt0_A m c t h]
    frame_out
    exact tile t rfl
  · rw [outsAt0_B m c t h]
    frame_out
    simp only [read_unread_whole]
    rw [funext (held m c ⟨t.val - 1, Nat.lt_of_le_of_lt (Nat.sub_le _ _) t.isLt⟩)]
    refine tile _ ?_
    dsimp only
    omega

end Cert.InProjIdeal.Tile

end
-- ==== Proof.InProjClaim.lean ====
/- The state-space mixer's input projection: the kernel's result is the reference's. -/
module

public import proofs.«01_k».proof.Defs
public import proofs.«01_k».proof.Proof.InProjTile
public import proofs.«01_k».proof.Proof.Gen.InReferenceIdeal.Run
public import proofs.«01_k».proof.Proof.Gen.InReferenceIdeal.Read
public import Idealize.ShloMosaic.Lib.Pointwise

@[expose] public section

set_option maxRecDepth 16384

noncomputable section

namespace Cert.InProjIdeal.Tile

open Idealize.ShloMosaic Idealize.ShloMosaic.TcCoe Idealize.SL.Sem

open Cert.InReferenceIdeal.Read in
/-- The reference's result, element by element. -/
theorem ref (x : InReferenceIdeal.S2x4096x2048.Idx → EReal) (w : InReferenceIdeal.S2048x10368.Idx → EReal) :
    val_main_v3 (F := Ideal) x w = cell x w := by
  funext i
  unfold cell
  pointwise [val_main_v3, val_main_v2, val_main_v1, val_main_v0]

theorem value : algebraic_InProjIdeal_InReferenceIdeal (hInProjIdeal := Cert.InProjIdeal.Gen.facts)
    (hInReferenceIdeal := Cert.InReferenceIdeal.Gen.facts) := by
  intro m ρ m' ρ' _ hargs
  refine ⟨fun c => cell (m (c.tc.loc Cert.InProjIdeal.main_arg0)) (m (c.tc.loc Cert.InProjIdeal.main_arg1)), ?_, ?_⟩
  · refine (θ_run _ _ _).mono (fun r h c => ?_) (Cert.InProjIdeal.Value.run_blocks m ρ)
    exact ⟨(h c).1.trans (final m c), (h c).2⟩
  · refine (θ_run _ _ _).mono (fun r h c => ?_) (Cert.InReferenceIdeal.Value.run m' ρ')
    refine ⟨(h c).1.trans ?_, (h c).2⟩
    rw [(hargs c).1, (hargs c).2]
    exact ref _ _

end Cert.InProjIdeal.Tile

end
-- ==== Proof.OutProjTile.lean ====
/- The attention's output projection with its gate and residual: what the kernel's result holds, element by element. -/
module

public import proofs.«01_k».proof.Proof.Gen.OutProjIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.OutProjIdeal.Tile

open Cert.OutProjIdeal Cert.OutProjIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the column tile after it; the gate's row is the batch
    element's. -/
theorem idx : ∀ t : Fin cfg0.N, win0_0.index t = ![t.val % 8, 0] ∧ win0_1.index t = ![0, t.val / 8]
    ∧ win0_2.index t = ![t.val % 8, t.val / 8] ∧ win0_3.index t = ![t.val % 8 / 4, 0, t.val / 8]
    ∧ win0_4.index t = ![t.val % 8, t.val / 8] :=
  (by decide +kernel : ∀ t : Fin grid0.N, _)

/-- The weight tile carried in the scratch: what the first row tile of the column wrote. -/
theorem held (c : Dev nD) (t : Fin cfg0.N) (y : S2048x1024.Idx) : (outsAt0 m c t.val t.isLt).2 y
      = k0_pay1 (iblk m c 1 ⟨8 * (t.val / 8), Pipeline.run_start_lt t⟩) y := by
  refine Pipeline.eq_of_write_hold_apply (fun n h => (outsAt0 m c n h).2) 8
    (fun t => k0_pay1 (iblk m c 1 t)) (fun t h i => ?_) (fun t h i => ?_) t y
  · rw [outsAt0_A m c t h]
    frame_out
  · rw [outsAt0_B m c t h]
    rfl

/-- One element of the residual plus the gated product. -/
def cell (a : S2x4096x2048.Idx → EReal) (w : S2048x2048.Idx → EReal) (x : S2x4096x2048.Idx → EReal)
    (g : S2x2048.Idx → EReal) : S8192x2048.Idx → EReal := fun i =>
  have hb : (i 0).val / 4096 < 2 := by have := (i 0).isLt; change _ < 8192 at this; omega
  x (ix3 ⟨(i 0).val / 4096, hb⟩ ⟨(i 0).val % 4096, Nat.mod_lt _ (by decide)⟩ ⟨(i 1).val, (i 1).isLt⟩)
    + g (ix2 ⟨(i 0).val / 4096, hb⟩ ⟨(i 1).val, (i 1).isLt⟩)
      * ∑ k : Fin 2048, a (ix3 ⟨(i 0).val / 4096, hb⟩ ⟨(i 0).val % 4096, Nat.mod_lt _ (by decide)⟩ k)
          * w (ix2 k ⟨(i 1).val, (i 1).isLt⟩)

theorem final (c : Dev nD) :
    (dats m 0 c).arrAt 4 cfg0.N = cell (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have tile : ∀ u : Fin cfg0.N, u.val / 8 = t.val / 8 →
      k0_pay2 (iblk m c 0 t) (k0_pay1 (iblk m c 1 u)) (iblk m c 2 t) (iblk m c 3 t) y
        = cell (m ((c : Thread nD τ).loc main_arg0)) (m ((c : Thread nD τ).loc main_arg1))
            (m ((c : Thread nD τ).loc main_arg2)) (m ((c : Thread nD τ).loc main_arg3))
            (((View.whole main_v3).slice (win0_4.rect t)).emb y) := by
    intro u hu
    obtain ⟨e0, -, e2, e3, e4⟩ := idx t
    obtain ⟨-, e1, -⟩ := idx u
    unfold cell
    pointwise [k0_pay1, k0_pay2]
    refine Ideal.add_congr ?_ (Ideal.mul_congr ?_ (Finset.sum_congr rfl fun k _ => Ideal.mul_congr ?_ ?_))
    · blk_simp [iblk]
      entry_read
      pointwise
      refine congrArg (m (c.tc.loc main_arg2)) ?_
      blk_simp [e2, e4]
      refine congrArg (ix3 _ _) (Fin.ext ?_)
      blk_simp [e2, e4]
    · blk_simp [iblk]
      entry_read
      pointwise
      refine congrArg (m (c.tc.loc main_arg3)) ?_
      have hy : (y 0).val < 1024 := (y 0).isLt
      have ht : (t.val % 8 / 4 : ℕ) = (t.val % 8 * 1024 + (y 0).val) / 4096 := by omega
      refine congrArg₂ ix2 (Fin.ext ?_) (Fin.ext ?_)
      · blk_simp [e3, e4]
        omega
      · blk_simp [e3, e4]
    · blk_simp [iblk]
      entry_read
      pointwise
      refine congrArg (m (c.tc.loc main_arg0)) ?_
      blk_simp [e0, e4]
      refine congrArg (ix3 _ _) (Fin.ext ?_)
      blk_simp [e0, e4]
      try omega
    · blk_ext [iblk, e1, e4, hu]
  by_cases h : t.val % 8 = 0
  · rw [outsAt0_A m c t h]
    frame_out
    exact tile t rfl
  · rw [outsAt0_B m c t h]
    frame_out
    simp only [read_unread_whole]
    rw [funext (held m c ⟨t.val - 1, Nat.lt_of_le_of_lt (Nat.sub_le _ _) t.isLt⟩)]
    refine tile _ ?_
    dsimp only
    omega

end Cert.OutProjIdeal.Tile

end
-- ==== Proof.OutProjClaim.lean ====
/- The attention's output projection with its gate and residual: the kernel's result is the reference's. -/
module

public import proofs.«01_k».proof.Defs
public import proofs.«01_k».proof.Proof.OutProjTile
public import proofs.«01_k».proof.Proof.Gen.OutReferenceIdeal.Run
public import proofs.«01_k».proof.Proof.Gen.OutReferenceIdeal.Read
public import Idealize.ShloMosaic.Lib.Pointwise

@[expose] public section

set_option maxRecDepth 16384

noncomputable section

namespace Cert.OutProjIdeal.Tile

open Idealize.ShloMosaic Idealize.ShloMosaic.TcCoe Idealize.SL.Sem

open Cert.OutReferenceIdeal.Read in
/-- The reference's result, element by element. -/
theorem ref (a : OutReferenceIdeal.S2x4096x2048.Idx → EReal) (w : OutReferenceIdeal.S2048x2048.Idx → EReal)
    (x : OutReferenceIdeal.S2x4096x2048.Idx → EReal) (g : OutReferenceIdeal.S2x2048.Idx → EReal) :
    val_main_v6 (F := Ideal) a w x g = cell a w x g := by
  funext i
  unfold cell
  pointwise [val_main_v6, val_main_v5, val_main_v4, val_main_v3, val_main_v2, val_main_v1, val_main_v0]

theorem value : algebraic_OutProjIdeal_OutReferenceIdeal (hOutProjIdeal := Cert.OutProjIdeal.Gen.facts)
    (hOutReferenceIdeal := Cert.OutReferenceIdeal.Gen.facts) := by
  intro m ρ m' ρ' _ hargs
  refine ⟨fun c => cell (m (c.tc.loc Cert.OutProjIdeal.main_arg0)) (m (c.tc.loc Cert.OutProjIdeal.main_arg1))
    (m (c.tc.loc Cert.OutProjIdeal.main_arg2)) (m (c.tc.loc Cert.OutProjIdeal.main_arg3)), ?_, ?_⟩
  · refine (θ_run _ _ _).mono (fun r h c => ?_) (Cert.OutProjIdeal.Value.run_blocks m ρ)
    exact ⟨(h c).1.trans (final m c), (h c).2⟩
  · refine (θ_run _ _ _).mono (fun r h c => ?_) (Cert.OutReferenceIdeal.Value.run m' ρ')
    refine ⟨(h c).1.trans ?_, (h c).2⟩
    rw [(hargs c).1, (hargs c).2.1, (hargs c).2.2.1, (hargs c).2.2.2]
    exact ref _ _ _ _

end Cert.OutProjIdeal.Tile

end
-- ==== Proof.SsdOutTile.lean ====
/- The state-space mixer's output projection with its gate and residual: what the kernel's result holds, element by element. -/
module

public import proofs.«01_k».proof.Proof.Gen.SsdOutIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.SsdOutIdeal.Tile

open Cert.SsdOutIdeal Cert.SsdOutIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the column tile after it; the gate's row is the batch
    element's. -/
theorem idx : ∀ t : Fin cfg0.N, win0_0.index t = ![t.val % 8, 0] ∧ win0_1.index t = ![0, t.val / 8]
    ∧ win0_2.index t = ![t.val % 8, t.val / 8] ∧ win0_3.index t = ![t.val % 8 / 4, 0, t.val / 8]
    ∧ win0_4.index t = ![t.val % 8, t.val / 8] :=
  (by decide +kernel : ∀ t : Fin grid0.N, _)

/-- The weight tile carried in the scratch: what the first row tile of the column wrote. -/
theorem held (c : Dev nD) (t : Fin cfg0.N) (y : S4096x512.Idx) : (outsAt0 m c t.val t.isLt).2 y
      = k0_pay1 (iblk m c 1 ⟨8 * (t.val / 8), Pipeline.run_start_lt t⟩) y := by
  refine Pipeline.eq_of_write_hold_apply (fun n h => (outsAt0 m c n h).2) 8
    (fun t => k0_pay1 (iblk m c 1 t)) (fun t h i => ?_) (fun t h i => ?_) t y
  · rw [outsAt0_A m c t h]
    frame_out
  · rw [outsAt0_B m c t h]
    rfl

/-- One element of the residual plus the gated product. -/
def cell (a : S2x4096x4096.Idx → EReal) (w : S4096x2048.Idx → EReal) (x : S2x4096x2048.Idx → EReal)
    (g : S2x2048.Idx → EReal) : S8192x2048.Idx → EReal := fun i =>
  have hb : (i 0).val / 4096 < 2 := by have := (i 0).isLt; change _ < 8192 at this; omega
  x (ix3 ⟨(i 0).val / 4096, hb⟩ ⟨(i 0).val % 4096, Nat.mod_lt _ (by decide)⟩ ⟨(i 1).val, (i 1).isLt⟩)
    + g (ix2 ⟨(i 0).val / 4096, hb⟩ ⟨(i 1).val, (i 1).isLt⟩)
      * ∑ k : Fin 4096, a (ix3 ⟨(i 0).val / 4096, hb⟩ ⟨(i 0).val % 4096, Nat.mod_lt _ (by decide)⟩ k)
          * w (ix2 k ⟨(i 1).val, (i 1).isLt⟩)

theorem final (c : Dev nD) :
    (dats m 0 c).arrAt 4 cfg0.N = cell (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have tile : ∀ u : Fin cfg0.N, u.val / 8 = t.val / 8 →
      k0_pay2 (iblk m c 0 t) (k0_pay1 (iblk m c 1 u)) (iblk m c 2 t) (iblk m c 3 t) y
        = cell (m ((c : Thread nD τ).loc main_arg0)) (m ((c : Thread nD τ).loc main_arg1))
            (m ((c : Thread nD τ).loc main_arg2)) (m ((c : Thread nD τ).loc main_arg3))
            (((View.whole main_v3).slice (win0_4.rect t)).emb y) := by
    intro u hu
    obtain ⟨e0, -, e2, e3, e4⟩ := idx t
    obtain ⟨-, e1, -⟩ := idx u
    unfold cell
    pointwise [k0_pay1, k0_pay2]
    refine Ideal.add_congr ?_ (Ideal.mul_congr ?_ (Finset.sum_congr rfl fun k _ => Ideal.mul_congr ?_ ?_))
    · blk_simp [iblk]
      entry_read
      pointwise
      refine congrArg (m (c.tc.loc main_arg2)) ?_
      blk_simp [e2, e4]
      refine congrArg (ix3 _ _) (Fin.ext ?_)
      blk_simp [e2, e4]
    · blk_simp [iblk]
      entry_read
      pointwise
      refine congrArg (m (c.tc.loc main_arg3)) ?_
      have hy : (y 0).val < 1024 := (y 0).isLt
      have ht : (t.val % 8 / 4 : ℕ) = (t.val % 8 * 1024 + (y 0).val) / 4096 := by omega
      refine congrArg₂ ix2 (Fin.ext ?_) (Fin.ext ?_)
      · blk_simp [e3, e4]
        omega
      · blk_simp [e3, e4]
    · blk_simp [iblk]
      entry_read
      pointwise
      refine congrArg (m (c.tc.loc main_arg0)) ?_
      blk_simp [e0, e4]
      refine congrArg (ix3 _ _) (Fin.ext ?_)
      blk_simp [e0, e4]
      try omega
    · blk_ext [iblk, e1, e4, hu]
  by_cases h : t.val % 8 = 0
  · rw [outsAt0_A m c t h]
    frame_out
    exact tile t rfl
  · rw [outsAt0_B m c t h]
    frame_out
    simp only [read_unread_whole]
    rw [funext (held m c ⟨t.val - 1, Nat.lt_of_le_of_lt (Nat.sub_le _ _) t.isLt⟩)]
    refine tile _ ?_
    dsimp only
    omega

end Cert.SsdOutIdeal.Tile

end
-- ==== Proof.SsdOutClaim.lean ====
/- The state-space mixer's output projection with its gate and residual: the kernel's result is the reference's. -/
module

public import proofs.«01_k».proof.Defs
public import proofs.«01_k».proof.Proof.SsdOutTile
public import proofs.«01_k».proof.Proof.Gen.SsdOutReferenceIdeal.Run
public import proofs.«01_k».proof.Proof.Gen.SsdOutReferenceIdeal.Read
public import Idealize.ShloMosaic.Lib.Pointwise

@[expose] public section

set_option maxRecDepth 16384

noncomputable section

namespace Cert.SsdOutIdeal.Tile

open Idealize.ShloMosaic Idealize.ShloMosaic.TcCoe Idealize.SL.Sem

open Cert.SsdOutReferenceIdeal.Read in
/-- The reference's result, element by element. -/
theorem ref (a : SsdOutReferenceIdeal.S2x4096x4096.Idx → EReal) (w : SsdOutReferenceIdeal.S4096x2048.Idx → EReal)
    (x : SsdOutReferenceIdeal.S2x4096x2048.Idx → EReal) (g : SsdOutReferenceIdeal.S2x2048.Idx → EReal) :
    val_main_v6 (F := Ideal) a w x g = cell a w x g := by
  funext i
  unfold cell
  pointwise [val_main_v6, val_main_v5, val_main_v4, val_main_v3, val_main_v2, val_main_v1, val_main_v0]

theorem value : algebraic_SsdOutIdeal_SsdOutReferenceIdeal (hSsdOutIdeal := Cert.SsdOutIdeal.Gen.facts)
    (hSsdOutReferenceIdeal := Cert.SsdOutReferenceIdeal.Gen.facts) := by
  intro m ρ m' ρ' _ hargs
  refine ⟨fun c => cell (m (c.tc.loc Cert.SsdOutIdeal.main_arg0)) (m (c.tc.loc Cert.SsdOutIdeal.main_arg1))
    (m (c.tc.loc Cert.SsdOutIdeal.main_arg2)) (m (c.tc.loc Cert.SsdOutIdeal.main_arg3)), ?_, ?_⟩
  · refine (θ_run _ _ _).mono (fun r h c => ?_) (Cert.SsdOutIdeal.Value.run_blocks m ρ)
    exact ⟨(h c).1.trans (final m c), (h c).2⟩
  · refine (θ_run _ _ _).mono (fun r h c => ?_) (Cert.SsdOutReferenceIdeal.Value.run m' ρ')
    refine ⟨(h c).1.trans ?_, (h c).2⟩
    rw [(hargs c).1, (hargs c).2.1, (hargs c).2.2.1, (hargs c).2.2.2]
    exact ref _ _ _ _

end Cert.SsdOutIdeal.Tile

end
-- ==== Proof.ScanSum.lean ====
/- A running sum along the second axis, read at one place: the sum of the entries up to that place. -/
module

public import proofs.«01_k».proof.Proof.Gen.ScanReferenceIdeal.Read
public import Idealize.ShloMosaic.Lib.Pointwise

@[expose] public section

set_option maxRecDepth 16384

noncomputable section

namespace Cert.ScanReferenceIdeal.Sum

open Cert.ScanReferenceIdeal Cert.ScanReferenceIdeal.Gen Idealize.ShloMosaic Idealize.ShloMosaic.TcCoe Idealize.SL.Sem

theorem foldl_sum {ι : Type} (g : ι → EReal) : ∀ (L : List ι) (v : EReal), L.foldl (fun r n => r + g n) v = v + (L.map g).sum
  | [], v => by simp
  | a :: L, v => by
    rw [List.foldl_cons, foldl_sum g L, List.map_cons, List.sum_cons, add_assoc]

/-- The window's shape: the whole second axis. -/
abbrev Win : Shape := ⟨4, ![1, 4096, 1, 1]⟩

/-- A place of the window. -/
def place (k : Fin 4096) : Win.Idx := fun a => match a with
  | ⟨0, _⟩ => (0 : Fin 1)
  | ⟨1, _⟩ => k
  | ⟨2, _⟩ => (0 : Fin 1)
  | ⟨3, _⟩ => (0 : Fin 1)

theorem place_eq (w : Win.Idx) : place (w 1) = w := by
  funext a
  match a with
  | ⟨0, _⟩ => exact (Subsingleton.elim (α := Fin 1) _ _)
  | ⟨1, _⟩ => rfl
  | ⟨2, _⟩ => exact (Subsingleton.elim (α := Fin 1) _ _)
  | ⟨3, _⟩ => exact (Subsingleton.elim (α := Fin 1) _ _)

theorem sum_win (G : Win.Idx → EReal) : ∑ n : Fin Win.numel, G (Win.rowMajor.symm n) = ∑ k : Fin 4096, G (place k) := by
  rw [Equiv.sum_comp Win.rowMajor.symm G]
  exact Fintype.sum_bijective (fun w : Win.Idx => (w 1 : Fin 4096))
    ⟨fun w w' e => by rw [← place_eq w, ← place_eq w']; exact congrArg place e, fun k => ⟨place k, rfl⟩⟩ _ _ fun w => by rw [place_eq w]

/-- The terms of the window that lie in the operand, the later part of it. -/
theorem sum_tail (n : ℕ) (f : ℕ → EReal) (l : ℕ) (hl : l < n + 1) :
    ∑ k : Fin (n + 1), (if n ≤ l + k.val then f (l + k.val - n) else 0) = ∑ s ∈ Finset.range (l + 1), f s := by
  rw [← Finset.sum_range (fun k => if n ≤ l + k then f (l + k - n) else 0), show n + 1 = (n - l) + (l + 1) by omega, Finset.sum_range_add,
    Finset.sum_eq_zero (fun k hk => if_neg (by have := Finset.mem_range.mp hk; omega)), zero_add]
  refine Finset.sum_congr rfl fun s _ => ?_
  rw [if_pos (by omega), show l + (n - l + s) - n = s by omega]

/-- The term of the window at a place, for the sum at `(b, l, g, r)`. -/
def term (x : S2x4096x8x8.Idx → EReal) (b : Fin 2) (l : Fin 4096) (g r : Fin 8) (w : Win.Idx) : EReal :=
  let p : Fin S2x4096x8x8.rank → ℕ := fun a => (ix4 b l g r a).val * ![1, 1, 1, 1] a + (w a).val
  if hin : ∀ a, ![0, 4095, 0, 0] a ≤ p a ∧ p a - ![0, 4095, 0, 0] a < S2x4096x8x8.size a then x (fun a => ⟨p a - ![0, 4095, 0, 0] a, (hin a).2⟩) else 0

theorem runSum_at (x : FVec Ideal S2x4096x8x8 .f32) (v : FVec Ideal S_ .f32) (h : S2x4096x8x8.ReduceWindows ![1, 4096, 1, 1] ![1, 1, 1, 1] ![0, 4095, 0, 0] ![0, 0, 0, 0] S2x4096x8x8)
    (hu : 0 < S_.numel) (hv : ∀ i, v i = (0 : EReal)) (b : Fin 2) (l : Fin 4096) (g r : Fin 8) (f : ℕ → EReal) (hf : ∀ s : Fin 4096, x (ix4 b s g r) = f s.val) :
    Host.reduceWindowAdd ![1, 4096, 1, 1] ![1, 1, 1, 1] ![0, 4095, 0, 0] ![0, 0, 0, 0] x v h hu (ix4 b l g r) = ∑ s ∈ Finset.range (l.val + 1), f s := by
  have T : ∑ k : Fin 4096, (if 4095 ≤ l.val + k.val then f (l.val + k.val - 4095) else 0) = ∑ s ∈ Finset.range (l.val + 1), f s := sum_tail 4095 f l.val l.isLt
  refine Eq.trans ?_ T
  have U : Host.reduceWindowAdd ![1, 4096, 1, 1] ![1, 1, 1, 1] ![0, 4095, 0, 0] ![0, 0, 0, 0] x v h hu
      = Ideal.hostReduceWindowAdd ![1, 4096, 1, 1] ![1, 1, 1, 1] ![0, 4095, 0, 0] ![0, 0, 0, 0] h x (v (Shape.Idx.first hu)) := rfl
  rw [U]
  unfold Ideal.hostReduceWindowAdd Host.reduceWindow
  refine (foldl_sum _ _ _).trans ?_
  rw [hv, zero_add, ← Fin.sum_univ_def]
  refine (Finset.sum_congr rfl fun i _ => ?_ : _ = ∑ n : Fin Win.numel, term x b l g r (Win.rowMajor.symm n)).trans ((sum_win (term x b l g r)).trans (Finset.sum_congr rfl fun k _ => ?_))
  · unfold term
    exact dite_congr rfl (fun _ => rfl) (fun _ => rfl)
  unfold term
  by_cases e : 4095 ≤ l.val + k.val
  · rw [if_pos e, dif_pos, ← hf ⟨l.val + k.val - 4095, by omega⟩]
    · congr 1
      funext a
      match a with
      | ⟨0, _⟩ => exact Fin.ext (show b.val * 1 + 0 - 0 = b.val by omega)
      | ⟨1, _⟩ => exact Fin.ext (show l.val * 1 + k.val - 4095 = l.val + k.val - 4095 by omega)
      | ⟨2, _⟩ => exact Fin.ext (show g.val * 1 + 0 - 0 = g.val by omega)
      | ⟨3, _⟩ => exact Fin.ext (show r.val * 1 + 0 - 0 = r.val by omega)
    · intro a
      match a with
      | ⟨0, _⟩ => exact (show 0 ≤ b.val * 1 + 0 ∧ b.val * 1 + 0 - 0 < 2 by omega)
      | ⟨1, _⟩ => exact (show 4095 ≤ l.val * 1 + k.val ∧ l.val * 1 + k.val - 4095 < 4096 by omega)
      | ⟨2, _⟩ => exact (show 0 ≤ g.val * 1 + 0 ∧ g.val * 1 + 0 - 0 < 8 by omega)
      | ⟨3, _⟩ => exact (show 0 ≤ r.val * 1 + 0 ∧ r.val * 1 + 0 - 0 < 8 by omega)
  · rw [if_neg e, dif_neg]
    intro c
    have c1 : 4095 ≤ l.val * 1 + k.val := (c 1).1
    omega

end Cert.ScanReferenceIdeal.Sum

end
-- ==== Proof.ScanMath.lean ====
/- A decaying sum over all earlier steps, taken chunk by chunk with a state carried from chunk to chunk; its exponentials to base two. -/
module

public import Idealize.ShloMosaic.PureOps.Ideal
public import proofs.«01_k».proof.Proof.AttnMath

@[expose] public section

noncomputable section

namespace Cert.ScanMath

open Idealize.ShloMosaic Cert.AttnMath

/-- The sum of the first `j` log decays. -/
def cs (al : ℕ → ℝ) (j : ℕ) : ℝ := ∑ k ∈ Finset.range j, al k

/-- One entry of the state before step `m`: every earlier step's contribution, decayed since. -/
def state (al dt B X : ℕ → ℝ) (m : ℕ) : ℝ := ∑ s ∈ Finset.range m, B s * (dt s * Real.exp (cs al m - cs al (s + 1))) * X s

theorem state_zero (al dt B X : ℕ → ℝ) : state al dt B X 0 = 0 := by simp [state]

/-- A chunk of 128 steps: the state decays by the chunk's total and takes up the chunk's steps. -/
theorem state_step (al dt B X : ℕ → ℝ) (m : ℕ) :
    state al dt B X (m + 128) = state al dt B X m * Real.exp (cs al (m + 128) - cs al m)
      + ∑ i : Fin 128, (B (m + i.val) * (dt (m + i.val) * Real.exp (cs al (m + 128) - cs al (m + i.val + 1)))) * X (m + i.val) := by
  unfold state
  rw [Finset.sum_range_add, Finset.sum_range (fun x => B (m + x) * (dt (m + x) * Real.exp (cs al (m + 128) - cs al (m + x + 1))) * X (m + x)), Finset.sum_mul]
  congr 1
  refine Finset.sum_congr rfl fun s _ => ?_
  have e : Real.exp (cs al (m + 128) - cs al (s + 1)) = Real.exp (cs al m - cs al (s + 1)) * Real.exp (cs al (m + 128) - cs al m) := by
    rw [← Real.exp_add]; congr 1; ring
  rw [e]; ring

/-- What step `m + i` reads: the steps of its own chunk directly, the earlier ones from the state. -/
theorem read_step (al dt X : ℕ → ℝ) (C : Fin 128 → ℝ) (B : Fin 128 → ℕ → ℝ) (m : ℕ) (i : Fin 128) :
    ∑ s ∈ Finset.range (m + i.val + 1), (∑ n, C n * B n s) * Real.exp (cs al (m + i.val + 1) - cs al (s + 1)) * (X s * dt s)
      = (∑ j : Fin 128, (∑ n, C n * B n (m + j.val)) * (if j ≤ i then Real.exp (cs al (m + i.val + 1) - cs al (m + j.val + 1)) * dt (m + j.val) else 0) * X (m + j.val))
        + (∑ n, C n * state al dt (B n) X m) * Real.exp (cs al (m + i.val + 1) - cs al m) := by
  rw [add_assoc, Finset.sum_range_add, add_comm]
  congr 1
  · rw [Finset.sum_range (fun x => (∑ n, C n * B n (m + x)) * Real.exp (cs al (m + (i.val + 1)) - cs al (m + x + 1)) * (X (m + x) * dt (m + x)))]
    have h1 : ∀ f : ℕ → ℝ, ∑ x : Fin (i.val + 1), f x.val = ∑ j : Fin 128, if j ≤ i then f j.val else 0 := fun f => by
      rw [← Finset.sum_range f, ← Finset.sum_filter, Finset.sum_range f]
      refine Finset.sum_bij (fun (x : Fin (i.val + 1)) _ => (⟨x.val, by have := i.isLt; omega⟩ : Fin 128)) ?_ ?_ ?_ ?_
      · intro a _; simp only [Finset.mem_filter, Finset.mem_univ, true_and, Fin.le_def]; have := a.isLt; omega
      · intro a _ b _ h; exact Fin.ext (by simpa using h)
      · intro b hb
        simp only [Finset.mem_filter, Finset.mem_univ, true_and, Fin.le_def] at hb
        exact ⟨⟨b.val, by omega⟩, Finset.mem_univ _, rfl⟩
      · intro a _; rfl
    rw [h1 (fun x => (∑ n, C n * B n (m + x)) * Real.exp (cs al (m + (i.val + 1)) - cs al (m + x + 1)) * (X (m + x) * dt (m + x)))]
    refine Finset.sum_congr rfl fun j _ => ?_
    by_cases h : j ≤ i
    · rw [if_pos h, if_pos h]; ring
    · rw [if_neg h, if_neg h]; ring
  · unfold state
    rw [Finset.sum_mul]
    have e : ∀ s, Real.exp (cs al (m + (i.val + 1)) - cs al (s + 1)) = Real.exp (cs al m - cs al (s + 1)) * Real.exp (cs al (m + (i.val + 1)) - cs al m) := fun s => by
      rw [← Real.exp_add]; congr 1; ring
    simp only [e, Finset.mul_sum, Finset.sum_mul]
    rw [Finset.sum_comm]
    refine Finset.sum_congr rfl fun n _ => Finset.sum_congr rfl fun s _ => ?_
    ring

/-- The same over all 4096 steps, those to come weighted nothing. -/
theorem read_all (f : ℕ → ℝ) (l : Fin 4096) : ∑ s : Fin 4096, (if s ≤ l then f s.val else 0) = ∑ s ∈ Finset.range (l.val + 1), f s := by
  rw [← Finset.sum_filter, Finset.sum_range f]
  symm
  refine Finset.sum_bij (fun (x : Fin (l.val + 1)) _ => (⟨x.val, by have := l.isLt; have := x.isLt; omega⟩ : Fin 4096)) ?_ ?_ ?_ ?_
  · intro a _; simp only [Finset.mem_filter, Finset.mem_univ, true_and, Fin.le_def]; have := a.isLt; omega
  · intro a _ b _ h; exact Fin.ext (by simpa using h)
  · intro b hb
    simp only [Finset.mem_filter, Finset.mem_univ, true_and, Fin.le_def] at hb
    exact ⟨⟨b.val, by omega⟩, Finset.mem_univ _, rfl⟩
  · intro a _; rfl

/-- The log decays of a chunk, summed up to its step `i`. -/
theorem cs_chunk (al : ℕ → ℝ) (m : ℕ) (i : Fin 128) : ∑ j : Fin 128, (if j ≤ i then al (m + j.val) else 0) = cs al (m + i.val + 1) - cs al m := by
  have h : cs al (m + i.val + 1) = cs al m + ∑ x ∈ Finset.range (i.val + 1), al (m + x) := by
    unfold cs; rw [add_assoc, Finset.sum_range_add]
  rw [h, add_sub_cancel_left, ← Finset.sum_filter, Finset.sum_range (fun x => al (m + x))]
  symm
  refine Finset.sum_bij (fun (x : Fin (i.val + 1)) _ => (⟨x.val, by have := i.isLt; have := x.isLt; omega⟩ : Fin 128)) ?_ ?_ ?_ ?_
  · intro a _; simp only [Finset.mem_filter, Finset.mem_univ, true_and, Fin.le_def]; have := a.isLt; omega
  · intro a _ b _ h; exact Fin.ext (by simpa using h)
  · intro b hb
    simp only [Finset.mem_filter, Finset.mem_univ, true_and, Fin.le_def] at hb
    exact ⟨⟨b.val, by omega⟩, Finset.mem_univ _, rfl⟩
  · intro a _; rfl

/-- The base-two logarithm of e. -/
def lg : ℝ := (Real.log 2)⁻¹

theorem exp2_lg (v : ℝ) : Ideal.exp2 ((lg * v : ℝ) : EReal) = ((Real.exp v : ℝ) : EReal) := by
  rw [Ideal.exp2_coe]
  congr 1
  show (2 : ℝ) ^ (lg * v) = _
  rw [Real.rpow_def_of_pos (by norm_num)]
  congr 1
  unfold lg
  have : Real.log 2 ≠ 0 := (Real.log_pos (by norm_num)).ne'
  field_simp

/-- The softplus of a real. -/
def sp (r : ℝ) : ℝ := max r 0 + Real.log (1 + Real.exp (-|r|))

theorem sp_pos (r : ℝ) : 0 < sp r := by
  have h : 0 < Real.log (1 + Real.exp (-|r|)) := Real.log_pos (by have := Real.exp_pos (-|r|); linarith)
  have := le_max_right r 0
  unfold sp; linarith

theorem log1p_exp (v : ℝ) : Ideal.log1p (Ideal.exp (v : EReal)) = ((Real.log (1 + Real.exp v) : ℝ) : EReal) := by
  have h : 0 < 1 + Real.exp v := by have := Real.exp_pos v; linarith
  unfold Ideal.log1p
  rw [Ideal.exp_coe, ← EReal.coe_one, ← EReal.coe_add, Ideal.log_coe, if_neg (not_le.2 h)]

theorem coe_max' (a b : ℝ) : max (a : EReal) (b : EReal) = ((max a b : ℝ) : EReal) := (EReal.coe_strictMono.monotone.map_max).symm

theorem sp_coe (r : ℝ) : max (r : EReal) 0 + Ideal.log1p (Ideal.exp (0 - max ((r : EReal)) (-(r : EReal)))) = ((sp r : ℝ) : EReal) := by
  have e : (0 : EReal) - max ((r : EReal)) (-(r : EReal)) = ((-|r| : ℝ) : EReal) := by
    rw [← EReal.coe_neg, coe_max', ← EReal.coe_zero, ← EReal.coe_sub, zero_sub]; rfl
  rw [e, log1p_exp, ← EReal.coe_zero, coe_max', ← EReal.coe_add]; rfl

end Cert.ScanMath

end
-- ==== Proof.ScanRef.lean ====
/- The result of the reference scan, element by element. -/
module

public import proofs.«01_k».proof.Proof.ScanSum
public import proofs.«01_k».proof.Proof.ScanMath

@[expose] public section

set_option maxRecDepth 16384

noncomputable section

namespace Cert.ScanReferenceIdeal.Scan

open Cert.ScanReferenceIdeal Cert.ScanReferenceIdeal.Gen Cert.ScanReferenceIdeal.Read Idealize.ShloMosaic Idealize.ShloMosaic.TcCoe Idealize.SL.Sem Idealize.ShloMosaic.Pointwise Cert.ScanMath Cert.AttnMath

variable (X0 : S2x4096x6144.Idx → EReal) (X1 : S2x4096x128.Idx → EReal) (X2 X3 : S2x64.Idx → EReal) (X4 : S64.Idx → EReal)

theorem ge_at (l s : Fin 4096) (u v : EReal) :
    Scalar.select (IntOp.cmpi CmpIPredicate.sge (BitVec.ofNat 32 l.val) (BitVec.ofNat 32 s.val)) u v = if s ≤ l then u else v := by
  have hl := l.isLt
  have hs := s.isLt
  have e : IntOp.cmpi CmpIPredicate.sge (BitVec.ofNat 32 l.val) (BitVec.ofNat 32 s.val) = BitVec.ofBool (decide (s.val ≤ l.val)) := by
    refine congrArg BitVec.ofBool ?_
    show (BitVec.ofNat 32 s.val).sle (BitVec.ofNat 32 l.val) = _
    have hL : (BitVec.ofNat 32 l.val).toInt = (l.val : ℤ) := by rw [BitVec.toInt_ofNat']; exact Int.bmod_eq_of_le (by omega) (by omega)
    have hS : (BitVec.ofNat 32 s.val).toInt = (s.val : ℤ) := by rw [BitVec.toInt_ofNat']; exact Int.bmod_eq_of_le (by omega) (by omega)
    rw [BitVec.sle, hL, hS]
    exact decide_eq_decide.mpr (by omega)
  rw [e]
  by_cases h : s.val ≤ l.val
  · rw [if_pos (show s ≤ l from h), decide_eq_true h]; rfl
  · rw [if_neg (show ¬ s ≤ l from h), decide_eq_false h]; rfl

theorem v13_at (b : Fin 2) (l : Fin 4096) (h : Fin 64) (d c : ℝ) (hd : X1 (ix3 b l ⟨h.val, by omega⟩) = (d : EReal)) (hc : X3 (ix2 0 h) = (c : EReal)) :
    val_main_v13 (F := Ideal) X1 X3 (ix3 b l h) = (sp (d + c) : EReal) := by
  have e : val_main_v12 (F := Ideal) X1 X3 (ix3 b l h) = ((d + c : ℝ) : EReal) := by
    rw [EReal.coe_add, ← hd, ← hc]
    pointwise [val_main_v12, val_main_v11, val_main_v10, val_main_v9, val_main_v8, val_main_v7]
  unfold val_main_v13 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst
  generalize val_main_v12 (F := Ideal) X1 X3 = y at e ⊢
  pointwise
  rw [if_neg (not_not.mpr rfl), e, ← sp_coe, zero_sub]
  rfl

theorem v21_at (b : Fin 2) (l : Fin 4096) (g r : Fin 8) :
    val_main_v21 (F := Ideal) X2 (ix4 b l g r) = (-Ideal.exp (X2 (ix2 0 ⟨8 * g.val + r.val, by omega⟩)) : EReal) := by
  pointwise [val_main_v21, val_main_v20, val_main_v19, val_main_v18, val_main_v17, val_main_v16, val_main_v15]
  exact congrArg (fun z => (-Ideal.exp (X2 (ix2 0 z)) : EReal)) (Fin.ext (by simp; omega))

theorem v14_at (b : Fin 2) (l : Fin 4096) (g r : Fin 8) :
    val_main_v14 (F := Ideal) X1 X3 (ix4 b l g r) = val_main_v13 (F := Ideal) X1 X3 (ix3 b l ⟨8 * g.val + r.val, by omega⟩) := by
  unfold val_main_v14
  generalize val_main_v13 (F := Ideal) X1 X3 = y
  pointwise
  exact congrArg (fun z => y (ix3 b l z)) (Fin.ext (by simp; omega))

theorem v38_at (b : Fin 2) (l s : Fin 4096) (g r : Fin 8) (u v : EReal) (hu : val_main_v23 (F := Ideal) X1 X2 X3 (ix4 b l g r) = u) (hv : val_main_v23 (F := Ideal) X1 X2 X3 (ix4 b s g r) = v) :
    val_main_v38 (F := Ideal) X1 X2 X3 (ix5 b l s g r) = Ideal.exp (if s ≤ l then u - v else ⊥) := by
  unfold val_main_v38 val_main_v37 val_main_v36 val_main_v35 val_main_v34 val_main_v33 val_main_v32
  generalize val_main_v23 (F := Ideal) X1 X2 X3 = y at hu hv ⊢
  pointwise [val_main_call2_v2, val_main_call2_v1, val_main_call2_v0, val_main_v31, val_main_v30, val_main_v29, val_main_v28, val_main_v27, val_main_v26, val_main_v25, val_main_v24, val_main_cst]
  rw [hu, hv, ge_at]
  split_ifs with hsl
  · rfl
  · exact congrArg Ideal.exp AttnMath.ofBits_negInf

theorem v42_at (b : Fin 2) (l s : Fin 4096) (g r : Fin 8) :
    val_main_v42 (F := Ideal) X0 (ix5 b l s g r) = ∑ k : Fin 128, (X0 (ix3 b s ⟨4096 + 128 * g.val + k.val, by omega⟩) * X0 (ix3 b l ⟨5120 + 128 * g.val + k.val, by omega⟩) : EReal) := by
  pointwise [val_main_v42, val_main_v41, val_main_v40, val_main_v39, val_main_v6, val_main_v5, val_main_v4, val_main_v3, val_main_v0]
  refine Finset.sum_congr rfl fun k _ => ?_
  exact congrArg₂ (fun z w => (X0 (ix3 b s z) * X0 (ix3 b l w) : EReal)) (Fin.ext (by simp; omega)) (Fin.ext (by simp; omega))

theorem v46_at (b : Fin 2) (s : Fin 4096) (g r : Fin 8) (p : Fin 64) :
    val_main_v46 (F := Ideal) X0 X1 X3 (ix5 b s g r p) = (X0 (ix3 b s ⟨512 * g.val + 64 * r.val + p.val, by omega⟩) * val_main_v14 (F := Ideal) X1 X3 (ix4 b s g r) : EReal) := by
  unfold val_main_v46 val_main_v45 val_main_v44
  generalize val_main_v14 (F := Ideal) X1 X3 = y
  pointwise [val_main_v2, val_main_v1, val_main_v0]
  exact congrArg (fun z => (X0 (ix3 b s z) * y (ix4 b s g r) : EReal)) (Fin.ext (by simp; omega))

theorem v48_at (b : Fin 2) (l : Fin 4096) (g r : Fin 8) (p : Fin 64) :
    val_main_v48 (F := Ideal) X0 X1 X2 X3 (ix5 b l g r p) = ∑ s : Fin 4096, (val_main_v46 (F := Ideal) X0 X1 X3 (ix5 b s g r p) * (val_main_v42 (F := Ideal) X0 (ix5 b l s g r) * val_main_v38 (F := Ideal) X1 X2 X3 (ix5 b l s g r)) : EReal) := by
  unfold val_main_v48 val_main_v47 val_main_v43
  generalize val_main_v46 (F := Ideal) X0 X1 X3 = y
  generalize val_main_v42 (F := Ideal) X0 = z
  generalize val_main_v38 (F := Ideal) X1 X2 X3 = w
  pointwise

theorem v55_at (b : Fin 2) (l k : Fin 4096) :
    val_main_v55 (F := Ideal) X0 X1 X2 X3 X4 (ix3 b l k)
      = (val_main_v48 (F := Ideal) X0 X1 X2 X3 (ix5 b l ⟨k.val / 512, by omega⟩ ⟨k.val / 64 % 8, by omega⟩ ⟨k.val % 64, by omega⟩) + X0 (ix3 b l ⟨k.val, by omega⟩) * X4 (ix1 ⟨k.val / 64, by omega⟩) : EReal) := by
  unfold val_main_v55 val_main_v54
  generalize val_main_v48 (F := Ideal) X0 X1 X2 X3 = y
  pointwise [val_main_v53, val_main_v52, val_main_v51, val_main_v50, val_main_v49, val_main_v2, val_main_v1, val_main_v0]
  exact congrArg (fun z => (y (ix5 b l ⟨k.val / 512, by omega⟩ ⟨k.val / 64 % 8, by omega⟩ ⟨k.val % 64, by omega⟩) + X0 (ix3 b l ⟨k.val, by omega⟩) * X4 (ix1 z) : EReal)) (Fin.ext (by simp; omega))

end Cert.ScanReferenceIdeal.Scan

end
-- ==== Proof.ScanPiece.lean ====
/- What the scan's kernel stores for a pair of heads: the pair's state after the chunk and the pair's outputs, as functions of what it loads. -/
module

public import proofs.«01_k».proof.Proof.Gen.ScanIdeal.Skeleton
public import proofs.«01_k».proof.Proof.ScanMath
public import Idealize.ShloMosaic.Lib.Pipeline.ValueKit
public import Idealize.ShloMosaic.Lib.Pointwise

@[expose] public section

set_option maxRecDepth 16384

noncomputable section

namespace Cert.ScanIdeal.Scan

open Cert.ScanIdeal Cert.ScanIdeal.Gen Idealize.ShloMosaic Idealize.ShloMosaic.TcCoe Idealize.SL.Sem

theorem sel_one {α : Type} (x y : α) : Scalar.select 1#1 x y = x := rfl
theorem sel_zero {α : Type} (x y : α) : Scalar.select 0#1 x y = y := rfl

theorem slR (n : ℕ) (h : n < 128) : S128x128.Slices ![n, 0] S1x128 :=
  ⟨rfl, fun a => match a with
    | 0 => by show n + 1 ≤ 128; omega
    | 1 => by show 0 + 128 ≤ 128; omega⟩
theorem slC (n : ℕ) (h : n < 128) : S128x128.Slices ![0, n] S128x1 :=
  ⟨rfl, fun a => match a with
    | 0 => by show 0 + 128 ≤ 128; omega
    | 1 => by show n + 1 ≤ 128; omega⟩
theorem slE (n : ℕ) (h : n < 128) : S128x1.Slices ![n, 0] S1x1 :=
  ⟨rfl, fun a => match a with
    | 0 => by show n + 1 ≤ 128; omega
    | 1 => by show 0 + 1 ≤ 1; omega⟩
theorem slP (o : ℕ) (h : o + 128 ≤ 512) : S128x512.Slices ![0, o] S128x128 :=
  ⟨rfl, fun a => match a with
    | 0 => by show 0 + 128 ≤ 128; omega
    | 1 => by show o + 128 ≤ 512; omega⟩

/-- A row of a matrix. -/
def row (v : FVec Ideal S128x128 .f32) (n : ℕ) (h : n < 128) : FVec Ideal S1x128 .f32 := extractStridedSlice S1x128 ![n, 0] v (slR n h)

/-- A column of a matrix, repeated along the rows. -/
def colAll (v : FVec Ideal S128x128 .f32) (n : ℕ) (h : n < 128) : FVec Ideal S128x128 .f32 :=
  broadcastTo S128x128 (shapeCast S128x1 (extractStridedSlice S128x1 ![0, n] v (slC n h)) shapeCasts_S128x1_S128x1) broadcasts_S128x1_S128x128

/-- An entry of a column, repeated. -/
def entryAll (v : FVec Ideal S128x1 .f32) (n : ℕ) (h : n < 128) : FVec Ideal S1x128 .f32 :=
  broadcastTo S1x128 (shapeCast S1x1 (extractStridedSlice S1x1 ![n, 0] v (slE n h)) shapeCasts_S1x1_S1x1) broadcasts_S1x1_S1x128

/-- A head's scores: the products of reads and writes, decayed. -/
def scores (cb : FVec Ideal S128x128 .bf16) (cum cml : FVec Ideal S128x128 .f32) (n : ℕ) (h : n < 128) : FVec Ideal S128x128 .bf16 :=
  mulf cb (truncf .bf16 (exp2 (select k0_pay4 (subf (colAll cum n h) (broadcastTo S128x128 (row cml n h) broadcasts_S1x128_S128x128)) (broadcast S128x128 (Scalar.ofBits .f32 0xFF800000#32)))) bitsLt_bf16_f32)

/-- A head's weights of the chunk's steps in the state. -/
def weights (bt : FVec Ideal S128x128 .bf16) (w : FVec Ideal S128x128 .f32) (n : ℕ) (h : n < 128) : FVec Ideal S128x128 .bf16 :=
  mulf bt (broadcastTo S128x128 (truncf .bf16 (row w n h) bitsLt_bf16_f32) broadcasts_S1x128_S128x128)

/-- The pair's state after the chunk. -/
def stPiece (bt : FVec Ideal S128x128 .bf16) (w : FVec Ideal S128x128 .f32) (et : FVec Ideal S128x1 .f32) (x : Vec Ideal S1x128x128 .bf16) (s : Vec Ideal S1x128x128 .f32)
    (n n' : ℕ) (h : n < 128) (h' : n' < 128) : FVec Ideal S1x128x128 .f32 :=
  shapeCast S1x128x128 (addf (mulf (shapeCast S128x128 s shapeCasts_S1x128x128_S128x128) (broadcastTo S128x128 (select k0_pay6 (entryAll et n h) (entryAll et n' h')) broadcasts_S1x128_S128x128))
    (matmul dot_S128x256_S256x128_S128x128_1_0_0_1_n_n none (concatenate S128x256 1 [⟨S128x128, weights bt w n h⟩, ⟨S128x128, weights bt w n' h'⟩] concatenates_S128x128_S128x128_S128x256_d1)
      (k0_pay28 (F := Ideal) k0_pay5 x) (constant S128x128 .f32 0x00000000#32))) shapeCasts_S128x128_S1x128x128

/-- The pair's outputs of the chunk. -/
def outPiece (cb : FVec Ideal S128x128 .bf16) (cum cml : FVec Ideal S128x128 .f32) (yo : FVec Ideal S128x512 .f32) (x : Vec Ideal S1x128x128 .bf16) (d : Vec Ideal S1x128 .f32)
    (n n' o : ℕ) (h : n < 128) (h' : n' < 128) (ho : o + 128 ≤ 512) : FVec Ideal S1x128x128 .f32 :=
  shapeCast S1x128x128 (addf (addf
    (matmul dot_S128x256_S256x128_S128x128_1_0_0_1_n_n none (concatenate S128x256 1 [⟨S128x128, scores cb cum cml n h⟩, ⟨S128x128, scores cb cum cml n' h'⟩] concatenates_S128x128_S128x128_S128x256_d1)
      (k0_pay28 (F := Ideal) k0_pay5 x) (constant S128x128 .f32 0x00000000#32))
    (mulf (extractStridedSlice S128x128 ![0, o] yo (slP o ho)) (exp2 (select k0_pay5 (colAll cum n h) (colAll cum n' h')))))
    (mulf (extf .f32 (k0_pay27 (F := Ideal) x) bitsLt_bf16_f32) (broadcastTo S128x128 (shapeCast S1x128 d shapeCasts_S1x128_S1x128) broadcasts_S1x128_S128x128))) shapeCasts_S128x128_S1x128x128

/-- The running log decays of a chunk, from its raw step sizes, their bias and the decay rates. -/
def cumOf (dt : Vec Ideal S1x128x128 .f32) (bi al : Vec Ideal S1x128 .f32) : FVec Ideal S128x128 .f32 :=
  k0_pay13 (F := Ideal) k0_pay9 (k0_pay10 dt bi al) (k0_pay11 dt bi al) (k0_pay12 dt bi al)

/-- The weights of a chunk's steps in the state after it. -/
def wOf (dt : Vec Ideal S1x128x128 .f32) (bi al : Vec Ideal S1x128 .f32) : FVec Ideal S128x128 .f32 :=
  k0_pay17 (F := Ideal) (k0_pay7 dt bi) k0_pay9 (k0_pay10 dt bi al) (k0_pay11 dt bi al) (k0_pay12 dt bi al)

/-- The decay of the state over a chunk. -/
def etOf (dt : Vec Ideal S1x128x128 .f32) (bi al : Vec Ideal S1x128 .f32) : FVec Ideal S128x1 .f32 :=
  k0_pay18 (F := Ideal) k0_pay9 (k0_pay10 dt bi al) (k0_pay11 dt bi al) (k0_pay12 dt bi al)

/-- The running log decays less the logarithms of the step sizes. -/
def cmlOf (dt : Vec Ideal S1x128x128 .f32) (bi al : Vec Ideal S1x128 .f32) : FVec Ideal S128x128 .f32 :=
  k0_pay19 (F := Ideal) (k0_pay7 dt bi) k0_pay9 (k0_pay10 dt bi al) (k0_pay11 dt bi al) (k0_pay12 dt bi al)

theorem row_at (v : S128x128.Idx → EReal) (n : ℕ) (h : n < 128) (z : Fin 1) (j : Fin 128) : row v n h (ix2 z j) = v (ix2 ⟨n, h⟩ j) := by
  refine extractStridedSlice_apply ![n, 0] v (slR n h) _ _ fun a => ?_
  match a with
  | ⟨0, _⟩ => show n = n + z.val; omega
  | ⟨1, _⟩ => show j.val = 0 + j.val; omega

theorem colAll_at (v : S128x128.Idx → EReal) (n : ℕ) (h : n < 128) (i j : Fin 128) : colAll v n h (ix2 i j) = v (ix2 i ⟨n, h⟩) := by
  have e : ∀ z : Fin 1, extractStridedSlice S128x1 ![0, n] v (slC n h) (ix2 i z) = v (ix2 i ⟨n, h⟩) := fun z => by
    refine extractStridedSlice_apply ![0, n] v (slC n h) _ _ fun a => ?_
    match a with
    | ⟨0, _⟩ => show i.val = 0 + i.val; omega
    | ⟨1, _⟩ => show n = n + z.val; omega
  unfold colAll
  generalize extractStridedSlice S128x1 ![0, n] v (slC n h) = y at e ⊢
  rw [← e 0]
  pointwise

theorem entryAll_at (v : S128x1.Idx → EReal) (n : ℕ) (h : n < 128) (z : Fin 1) (j : Fin 128) : entryAll v n h (ix2 z j) = v (ix2 ⟨n, h⟩ 0) := by
  have e : ∀ z w : Fin 1, extractStridedSlice S1x1 ![n, 0] v (slE n h) (ix2 z w) = v (ix2 ⟨n, h⟩ 0) := fun z w => by
    refine extractStridedSlice_apply ![n, 0] v (slE n h) _ _ fun a => ?_
    match a with
    | ⟨0, _⟩ => show n = n + z.val; omega
    | ⟨1, _⟩ => show 0 = 0 + w.val; omega
  unfold entryAll
  generalize extractStridedSlice S1x1 ![n, 0] v (slE n h) = y at e ⊢
  rw [← e 0 0]
  pointwise

theorem cmp_le : ∀ i j : Fin 128, IntOp.cmpi CmpIPredicate.sle (BitVec.ofNat 32 j.val) (BitVec.ofNat 32 i.val) = if j ≤ i then 1#1 else 0#1 := by
  decide +kernel

theorem cmp_lt : ∀ j : Fin 128, IntOp.cmpi CmpIPredicate.slt (BitVec.ofNat 32 j.val) 64#32 = if j.val < 64 then 1#1 else 0#1 := by
  decide +kernel

theorem tri_at (i j : Fin 128) : k0_pay4 (ix2 i j) = if j ≤ i then 1#1 else 0#1 := by
  pointwise [k0_pay4]
  exact cmp_le i j

theorem left_at (i j : Fin 128) : k0_pay5 (ix2 i j) = if j.val < 64 then 1#1 else 0#1 := by
  pointwise [k0_pay5]
  exact cmp_lt j

theorem leftRow_at (z : Fin 1) (j : Fin 128) : k0_pay6 (ix2 z j) = if j.val < 64 then 1#1 else 0#1 := by
  rw [← left_at 0 j]
  pointwise [k0_pay6]

/-- The two factors side by side against the two halves of the columns, one above the other. -/
theorem pairDot_at (a a' : FVec Ideal S128x128 .bf16) (x : Vec Ideal S1x128x128 .bf16) (i q : Fin 128) :
    (matmul dot_S128x256_S256x128_S128x128_1_0_0_1_n_n none (concatenate S128x256 1 [⟨S128x128, a⟩, ⟨S128x128, a'⟩] concatenates_S128x128_S128x128_S128x256_d1)
      (k0_pay28 (F := Ideal) k0_pay5 x) (constant S128x128 .f32 0x00000000#32) : FVec Ideal S128x128 .f32) (ix2 i q)
    = ∑ j : Fin 128, (if q.val < 64 then a (ix2 i j) else a' (ix2 i j)) * x (ix3 0 j q) := by
  pointwise [k0_pay28, k0_pay27]
  rw [← Finset.sum_add_distrib]
  refine Finset.sum_congr rfl fun j _ => ?_
  rw [left_at]
  by_cases e : q.val < 64
  · simp only [e, if_true, sel_one, add_zero]
  · simp only [e, if_false, sel_zero, zero_add]

/-- A value of the pair's head that a column of the two is of. -/
def headOf (n n' : ℕ) (q : Fin 128) : ℕ := if q.val < 64 then n else n'

theorem headOf_lt {n n' : ℕ} (h : n < 128) (h' : n' < 128) (q : Fin 128) : headOf n n' q < 128 := by
  unfold headOf; split <;> assumption

theorem weights_at (bt : FVec Ideal S128x128 .bf16) (w : FVec Ideal S128x128 .f32) (n : ℕ) (h : n < 128) (i j : Fin 128) :
    weights bt w n h (ix2 i j) = (bt (ix2 i j) * w (ix2 ⟨n, h⟩ j) : EReal) := by
  rw [← row_at w n h 0 j]
  unfold weights
  generalize row w n h = y
  pointwise

theorem scores_at (cb : FVec Ideal S128x128 .bf16) (cum cml : FVec Ideal S128x128 .f32) (n : ℕ) (h : n < 128) (i j : Fin 128) :
    scores cb cum cml n h (ix2 i j) = (cb (ix2 i j) * Ideal.exp2 (if j ≤ i then cum (ix2 i ⟨n, h⟩) - cml (ix2 ⟨n, h⟩ j) else ⊥) : EReal) := by
  rw [← row_at cml n h 0 j, ← colAll_at cum n h i j]
  unfold scores
  generalize row cml n h = y
  generalize colAll cum n h = z
  pointwise
  rw [tri_at]
  by_cases e : j ≤ i
  · simp only [e, if_true, sel_one]
    rfl
  · simp only [e, if_false, sel_zero, AttnMath.ofBits_negInf]
    rfl

theorem stPiece_at (bt : FVec Ideal S128x128 .bf16) (w : FVec Ideal S128x128 .f32) (et : FVec Ideal S128x1 .f32) (x : Vec Ideal S1x128x128 .bf16) (s : Vec Ideal S1x128x128 .f32)
    (n n' : ℕ) (h : n < 128) (h' : n' < 128) (z : Fin 1) (i q : Fin 128) :
    stPiece bt w et x s n n' h h' (ix3 z i q) = (s (ix3 0 i q) * et (ix2 ⟨headOf n n' q, headOf_lt h h' q⟩ 0)
      + ∑ j : Fin 128, bt (ix2 i j) * w (ix2 ⟨headOf n n' q, headOf_lt h h' q⟩ j) * x (ix3 0 j q) : EReal) := by
  have e1 := pairDot_at (weights bt w n h) (weights bt w n' h') x i q
  have e2 := leftRow_at 0 q
  have e3 := entryAll_at et n h 0 q
  have e4 := entryAll_at et n' h' 0 q
  simp only [weights_at] at e1
  unfold stPiece
  generalize (matmul dot_S128x256_S256x128_S128x128_1_0_0_1_n_n none _ _ _ : FVec Ideal S128x128 .f32) = y at e1 ⊢
  generalize entryAll et n h = u at e3 ⊢
  generalize entryAll et n' h' = u' at e4 ⊢
  generalize k0_pay6 = c at e2 ⊢
  pointwise
  rw [e1, e2, e3, e4]
  unfold headOf
  by_cases e : q.val < 64
  · simp only [e, if_true, sel_one]
  · simp only [e, if_false, sel_zero]

theorem outPiece_at (cb : FVec Ideal S128x128 .bf16) (cum cml : FVec Ideal S128x128 .f32) (yo : FVec Ideal S128x512 .f32) (x : Vec Ideal S1x128x128 .bf16) (d : Vec Ideal S1x128 .f32)
    (n n' o : ℕ) (h : n < 128) (h' : n' < 128) (ho : o + 128 ≤ 512) (z : Fin 1) (i q : Fin 128) :
    outPiece cb cum cml yo x d n n' o h h' ho (ix3 z i q)
    = (((∑ j : Fin 128, cb (ix2 i j) * Ideal.exp2 (if j ≤ i then cum (ix2 i ⟨headOf n n' q, headOf_lt h h' q⟩) - cml (ix2 ⟨headOf n n' q, headOf_lt h h' q⟩ j) else ⊥) * x (ix3 0 j q))
      + yo (ix2 i ⟨o + q.val, by omega⟩) * Ideal.exp2 (cum (ix2 i ⟨headOf n n' q, headOf_lt h h' q⟩))) + x (ix3 0 i q) * d (ix2 0 q) : EReal) := by
  have e1 := pairDot_at (scores cb cum cml n h) (scores cb cum cml n' h') x i q
  have e2 := left_at i q
  have e3 := colAll_at cum n h i q
  have e4 := colAll_at cum n' h' i q
  have e5 : extractStridedSlice S128x128 ![0, o] yo (slP o ho) (ix2 i q) = yo (ix2 i ⟨o + q.val, by omega⟩) := by
    refine extractStridedSlice_apply ![0, o] yo (slP o ho) _ _ fun a => ?_
    match a with
    | ⟨0, _⟩ => show i.val = 0 + i.val; omega
    | ⟨1, _⟩ => show o + q.val = o + q.val; rfl
  simp only [scores_at] at e1
  unfold outPiece
  generalize (matmul dot_S128x256_S256x128_S128x128_1_0_0_1_n_n none _ _ _ : FVec Ideal S128x128 .f32) = y at e1 ⊢
  generalize colAll cum n h = u at e3 ⊢
  generalize colAll cum n' h' = u' at e4 ⊢
  generalize extractStridedSlice S128x128 ![0, o] yo (slP o ho) = v at e5 ⊢
  generalize k0_pay5 = c at e2 ⊢
  pointwise [k0_pay27]
  rw [e1, e2, e3, e4, e5]
  unfold headOf
  by_cases e : q.val < 64
  · simp only [e, if_true, sel_one]
    rfl
  · simp only [e, if_false, sel_zero]
    rfl

end Cert.ScanIdeal.Scan

end
-- ==== Proof.ScanBlock.lean ====
/- A chunk of the scan as one function of what it is given: the state after it and its outputs; and every pair's store is a part of it. -/
module

public import proofs.«01_k».proof.Proof.ScanPiece

@[expose] public section

set_option maxRecDepth 16384

noncomputable section

namespace Cert.ScanIdeal.Scan

open Cert.ScanIdeal Cert.ScanIdeal.Gen Idealize.ShloMosaic Idealize.ShloMosaic.TcCoe Idealize.SL.Sem

/-- The state after the chunk, at group `g`, state entry `n` and lane `q` of the group. -/
def stVal (x0 : Vec Ideal S1x128x4096 .bf16) (x1 : Vec Ideal S1x128x1024 .bf16) (x3 : Vec Ideal S1x128x128 .f32) (x4 x5 : Vec Ideal S1x128 .f32) (s : Vec Ideal S8x128x512 .f32)
    (g : Fin 8) (n : Fin 128) (q : Fin 512) : EReal :=
  s (ix3 g n q) * etOf x3 x5 x4 (ix2 ⟨8 * g.val + q.val / 64, by omega⟩ 0)
    + ∑ j : Fin 128, x1 (ix3 0 j ⟨128 * g.val + n.val, by omega⟩) * wOf x3 x5 x4 (ix2 ⟨8 * g.val + q.val / 64, by omega⟩ j) * x0 (ix3 0 j ⟨512 * g.val + q.val, by omega⟩)

/-- The chunk's output at step `i` and column `k`. -/
def outVal (x0 : Vec Ideal S1x128x4096 .bf16) (x1 x2 : Vec Ideal S1x128x1024 .bf16) (x3 : Vec Ideal S1x128x128 .f32) (x4 x5 : Vec Ideal S1x128 .f32) (x6 : Vec Ideal S1x4096 .f32)
    (s : Vec Ideal S8x128x512 .f32) (i : Fin 128) (k : Fin 4096) : EReal :=
  ((∑ j : Fin 128, (∑ n : Fin 128, x2 (ix3 0 i ⟨128 * (k.val / 512) + n.val, by omega⟩) * x1 (ix3 0 j ⟨128 * (k.val / 512) + n.val, by omega⟩))
      * Ideal.exp2 (if j ≤ i then cumOf x3 x5 x4 (ix2 i ⟨k.val / 64, by omega⟩) - cmlOf x3 x5 x4 (ix2 ⟨k.val / 64, by omega⟩ j) else ⊥) * x0 (ix3 0 j k))
    + (∑ n : Fin 128, x2 (ix3 0 i ⟨128 * (k.val / 512) + n.val, by omega⟩) * s (ix3 ⟨k.val / 512, by omega⟩ n ⟨k.val % 512, by omega⟩))
      * Ideal.exp2 (cumOf x3 x5 x4 (ix2 i ⟨k.val / 64, by omega⟩)))
    + x0 (ix3 0 i k) * x6 (ix2 0 k)

def stFn (x0 : Vec Ideal S1x128x4096 .bf16) (x1 : Vec Ideal S1x128x1024 .bf16) (x3 : Vec Ideal S1x128x128 .f32) (x4 x5 : Vec Ideal S1x128 .f32) (s : Vec Ideal S8x128x512 .f32) :
    S8x128x512.Idx → EReal := fun y => stVal x0 x1 x3 x4 x5 s (y 0) (y 1) (y 2)

def outFn (x0 : Vec Ideal S1x128x4096 .bf16) (x1 x2 : Vec Ideal S1x128x1024 .bf16) (x3 : Vec Ideal S1x128x128 .f32) (x4 x5 : Vec Ideal S1x128 .f32) (x6 : Vec Ideal S1x4096 .f32)
    (s : Vec Ideal S8x128x512 .f32) : S1x128x4096.Idx → EReal := fun y => outVal x0 x1 x2 x3 x4 x5 x6 s (y 1) (y 2)

theorem bt_at (v : Vec Ideal S1x128x128 .bf16) (n j : Fin 128) : k0_pay23 (F := Ideal) v (ix2 n j) = v (ix3 0 j n) := by
  pointwise [k0_pay23, k0_pay20]

theorem cb_at (b c : Vec Ideal S1x128x128 .bf16) (i j : Fin 128) : k0_pay22 (F := Ideal) b c (ix2 i j) = (∑ n : Fin 128, c (ix3 0 i n) * b (ix3 0 j n) : EReal) := by
  pointwise [k0_pay22, k0_pay20, k0_pay21]

theorem yo_at (c : Vec Ideal S1x128x128 .bf16) (s : Vec Ideal S1x128x512 .f32) (i : Fin 128) (q : Fin 512) :
    k0_pay24 (F := Ideal) c s (ix2 i q) = (∑ n : Fin 128, c (ix3 0 i n) * s (ix3 0 n q) : EReal) := by
  pointwise [k0_pay24, k0_pay21]

variable (x0 : Vec Ideal S1x128x4096 .bf16) (x1 x2 : Vec Ideal S1x128x1024 .bf16) (x3 : Vec Ideal S1x128x128 .f32) (x4 x5 : Vec Ideal S1x128 .f32) (x6 : Vec Ideal S1x4096 .f32) (s : Vec Ideal S8x128x512 .f32)

/-- The state a pair of heads stores is its part of the chunk's state. -/
theorem stPart (g p : ℕ) (hg : g < 8) (hp : p < 4) (n n' so : ℕ) (hn : n < 128) (hn' : n' < 128) (en : n = 8 * g + 2 * p) (en' : n' = 8 * g + 2 * p + 1) (eo : so = 128 * p)
    (inb : ∀ a, (![g, 0, so] : Fin 3 → ℕ) a + S1x128x128.size a ≤ S8x128x512.size a)
    (dt : Vec Ideal S1x128x128 .f32) (bi al : Vec Ideal S1x128 .f32) (hdt : dt = x3) (hbi : bi = x5) (hal : al = x4)
    (b x : Vec Ideal S1x128x128 .bf16) (z : Vec Ideal S1x128x128 .f32)
    (hb : ∀ j n : Fin 128, b (ix3 0 j n) = x1 (ix3 0 j ⟨128 * g + n.val, by omega⟩))
    (hx : ∀ j q : Fin 128, x (ix3 0 j q) = x0 (ix3 0 j ⟨512 * g + 128 * p + q.val, by omega⟩))
    (hz : ∀ n q : Fin 128, z (ix3 0 n q) = s (ix3 ⟨g, hg⟩ n ⟨128 * p + q.val, by omega⟩)) (y : S1x128x128.Idx) :
    stPiece (k0_pay23 (F := Ideal) b) (wOf dt bi al) (etOf dt bi al) x z n n' hn hn' y
      = stFn x0 x1 x3 x4 x5 s ((Rect.unit (s := S8x128x512) ![g, 0, so] S1x128x128.size inb).emb y) := by
  subst hdt hbi hal eo en en'
  have h1 : (y 1).val < 128 := (y 1).isLt
  have h2 : (y 2).val < 128 := (y 2).isLt
  have e : y = ix3 0 ⟨(y 1).val, h1⟩ ⟨(y 2).val, h2⟩ := by
    funext a
    match a with
    | 0 => exact Subsingleton.elim (α := Fin 1) _ _
    | 1 => rfl
    | 2 => rfl
  have e' : stFn x0 x1 dt al bi s ((Rect.unit (s := S8x128x512) ![g, 0, 128 * p] S1x128x128.size inb).emb y)
      = stVal x0 x1 dt al bi s ⟨g, hg⟩ ⟨(y 1).val, h1⟩ ⟨128 * p + (y 2).val, by omega⟩ := by
    unfold stFn
    congr 1
    · have h0 : (y 0).val < 1 := (y 0).isLt
      exact Fin.ext (show g + 1 * (y 0).val = g by omega)
    · exact Fin.ext (show 0 + 1 * (y 1).val = (y 1).val by omega)
    · exact Fin.ext (show 128 * p + 1 * (y 2).val = 128 * p + (y 2).val by omega)
  have eh : ∀ h, (⟨headOf (8 * g + 2 * p) (8 * g + 2 * p + 1) ⟨(y 2).val, h2⟩, h⟩ : Fin 128) = ⟨8 * g + (128 * p + (y 2).val) / 64, by omega⟩ := fun h => by
    refine Fin.ext ?_
    unfold headOf
    dsimp only
    split <;> omega
  rw [e']
  refine (congrArg _ e).trans ((stPiece_at _ _ _ _ _ _ _ _ _ _ _ _).trans ?_)
  unfold stVal
  simp only [bt_at, hb, hx, hz, eh]
  simp only [Nat.add_assoc]

/-- The outputs a pair of heads stores are its part of the chunk's outputs. -/
theorem outPart (g p : ℕ) (hg : g < 8) (hp : p < 4) (n n' o so : ℕ) (hn : n < 128) (hn' : n' < 128) (ho : o + 128 ≤ 512) (en : n = 8 * g + 2 * p) (en' : n' = 8 * g + 2 * p + 1) (eo : so = 512 * g + 128 * p) (eo' : o = 128 * p)
    (inb : ∀ a, (![0, 0, so] : Fin 3 → ℕ) a + S1x128x128.size a ≤ S1x128x4096.size a)
    (dt : Vec Ideal S1x128x128 .f32) (bi al : Vec Ideal S1x128 .f32) (hdt : dt = x3) (hbi : bi = x5) (hal : al = x4)
    (b c x : Vec Ideal S1x128x128 .bf16) (z : Vec Ideal S1x128x512 .f32) (d : Vec Ideal S1x128 .f32)
    (hb : ∀ j n : Fin 128, b (ix3 0 j n) = x1 (ix3 0 j ⟨128 * g + n.val, by omega⟩))
    (hc : ∀ j n : Fin 128, c (ix3 0 j n) = x2 (ix3 0 j ⟨128 * g + n.val, by omega⟩))
    (hx : ∀ j q : Fin 128, x (ix3 0 j q) = x0 (ix3 0 j ⟨512 * g + 128 * p + q.val, by omega⟩))
    (hz : ∀ (n : Fin 128) (q : Fin 512), z (ix3 0 n q) = s (ix3 ⟨g, hg⟩ n q))
    (hd : ∀ q : Fin 128, d (ix2 0 q) = x6 (ix2 0 ⟨512 * g + 128 * p + q.val, by omega⟩)) (y : S1x128x128.Idx) :
    outPiece (k0_pay22 (F := Ideal) b c) (cumOf dt bi al) (cmlOf dt bi al) (k0_pay24 (F := Ideal) c z) x d n n' o hn hn' ho y
      = outFn x0 x1 x2 x3 x4 x5 x6 s ((Rect.unit (s := S1x128x4096) ![0, 0, so] S1x128x128.size inb).emb y) := by
  subst hdt hbi hal eo eo' en en'
  have h1 : (y 1).val < 128 := (y 1).isLt
  have h2 : (y 2).val < 128 := (y 2).isLt
  have e : y = ix3 0 ⟨(y 1).val, h1⟩ ⟨(y 2).val, h2⟩ := by
    funext a
    match a with
    | 0 => exact Subsingleton.elim (α := Fin 1) _ _
    | 1 => rfl
    | 2 => rfl
  have e' : outFn x0 x1 x2 dt al bi x6 s ((Rect.unit (s := S1x128x4096) ![0, 0, 512 * g + 128 * p] S1x128x128.size inb).emb y)
      = outVal x0 x1 x2 dt al bi x6 s ⟨(y 1).val, h1⟩ ⟨512 * g + 128 * p + (y 2).val, by omega⟩ := by
    unfold outFn
    congr 1
    · exact Fin.ext (show 0 + 1 * (y 1).val = (y 1).val by omega)
    · exact Fin.ext (show 512 * g + 128 * p + 1 * (y 2).val = 512 * g + 128 * p + (y 2).val by omega)
  have eh : ∀ h, (⟨headOf (8 * g + 2 * p) (8 * g + 2 * p + 1) ⟨(y 2).val, h2⟩, h⟩ : Fin 128) = ⟨(512 * g + 128 * p + (y 2).val) / 64, by omega⟩ := fun h => by
    refine Fin.ext ?_
    unfold headOf
    dsimp only
    split <;> omega
  have eg : (512 * g + 128 * p + (y 2).val) / 512 = g := by omega
  have em : (512 * g + 128 * p + (y 2).val) % 512 = 128 * p + (y 2).val := by omega
  rw [e']
  refine (congrArg _ e).trans ((outPiece_at _ _ _ _ _ _ _ _ _ _ _ _ _ _ _).trans ?_)
  unfold outVal
  simp only [cb_at, yo_at, hb, hc, hx, hz, hd, eh, eg, em]

end Cert.ScanIdeal.Scan

end
-- ==== Proof.ScanReal.lean ====
/- The scan's decays of a chunk over the reals: its base-two logarithms and exponentials cancel. -/
module

public import proofs.«01_k».proof.Proof.ScanPiece

@[expose] public section

set_option maxRecDepth 16384

noncomputable section

namespace Cert.ScanIdeal.Scan

open Cert.ScanIdeal Cert.ScanIdeal.Gen Idealize.ShloMosaic Idealize.ShloMosaic.TcCoe Idealize.SL.Sem Cert.ScanMath Cert.AttnMath

theorem triB_at (i j : Fin 128) : k0_pay9 (F := Ideal) (ix2 i j) = ((if j ≤ i then 1 else 0 : ℝ) : EReal) := by
  have e := tri_at i j
  unfold k0_pay9
  generalize k0_pay4 = c at e ⊢
  pointwise
  rw [e]
  by_cases h : j ≤ i
  · simp only [h, if_true]
    show (((1 : ℤ) : ℝ) : EReal) = _
    norm_num
  · simp only [h, if_false]
    show (((0 : ℤ) : ℝ) : EReal) = _
    norm_num

theorem pay8_at (dt : Vec Ideal S1x128x128 .f32) (bi al : Vec Ideal S1x128 .f32) (j h : Fin 128) :
    k0_pay8 (F := Ideal) dt bi al (ix2 j h) = (k0_pay7 (F := Ideal) dt bi (ix2 j h) * (((-((Real.log 2)⁻¹) : ℝ) : EReal) * Ideal.exp (al (ix2 0 h))) : EReal) := by
  unfold k0_pay8
  generalize k0_pay7 (F := Ideal) dt bi = y
  pointwise
  rw [IdealRules.named_const.ideal_named_scalar Cert.ScanIdeal.κ "neg_log2e" _ _ rfl]

theorem pay7_at (dt : Vec Ideal S1x128x128 .f32) (bi : Vec Ideal S1x128 .f32) (j h : Fin 128) (d b : ℝ) (hd : dt (ix3 0 j h) = (d : EReal)) (hb : bi (ix2 0 h) = (b : EReal)) :
    k0_pay7 (F := Ideal) dt bi (ix2 j h) = (sp (d + b) : EReal) := by
  pointwise [k0_pay7]
  rw [hd, hb, ← EReal.coe_add, if_neg (by simp)]
  exact sp_coe (d + b)

theorem pay13_at (t a c : FVec Ideal S128x128 .bf16) (r : FVec Ideal S128x128 .f32) (i h : Fin 128) :
    k0_pay13 (F := Ideal) t a r c (ix2 i h) = ((∑ x : Fin 128, t (ix2 i x) * a (ix2 x h)) + (∑ x : Fin 128, t (ix2 i x) * c (ix2 x h)) + ∑ x : Fin 128, t (ix2 i x) * (r (ix2 x h) - c (ix2 x h)) : EReal) := by
  pointwise [k0_pay13]

theorem pay17_at (d : FVec Ideal S128x128 .f32) (t a c : FVec Ideal S128x128 .bf16) (r : FVec Ideal S128x128 .f32) (i h : Fin 128) :
    k0_pay17 (F := Ideal) d t a r c (ix2 h i) = (d (ix2 i h) * Ideal.exp2 (k0_pay13 (F := Ideal) t a r c (ix2 127 h) - k0_pay13 (F := Ideal) t a r c (ix2 i h)) : EReal) := by
  unfold k0_pay17 k0_pay16 k0_pay15 k0_pay14
  generalize k0_pay13 (F := Ideal) t a r c = y
  pointwise
  rfl

theorem pay18_at (t a c : FVec Ideal S128x128 .bf16) (r : FVec Ideal S128x128 .f32) (h : Fin 128) :
    k0_pay18 (F := Ideal) t a r c (ix2 h 0) = (Ideal.exp2 (k0_pay13 (F := Ideal) t a r c (ix2 127 h)) : EReal) := by
  unfold k0_pay18 k0_pay16 k0_pay14
  generalize k0_pay13 (F := Ideal) t a r c = y
  pointwise
  rfl

theorem pay19_at (d : FVec Ideal S128x128 .f32) (t a c : FVec Ideal S128x128 .bf16) (r : FVec Ideal S128x128 .f32) (i h : Fin 128) :
    k0_pay19 (F := Ideal) d t a r c (ix2 h i) = (k0_pay13 (F := Ideal) t a r c (ix2 i h) - ((lg : ℝ) : EReal) * Ideal.log (d (ix2 i h)) : EReal) := by
  unfold k0_pay19 k0_pay15 k0_pay14
  generalize k0_pay13 (F := Ideal) t a r c = y
  pointwise
  rw [IdealRules.named_const.ideal_named_scalar Cert.ScanIdeal.κ "log2e" _ _ rfl]
  rfl

section
variable (dt : Vec Ideal S1x128x128 .f32) (bi ar : Vec Ideal S1x128 .f32) (h : Fin 128) (m : ℕ) (al d : ℕ → ℝ) (b a : ℝ)
  (hd : ∀ j : Fin 128, dt (ix3 0 j h) = (d (m + j.val) : EReal)) (hb : bi (ix2 0 h) = (b : EReal)) (ha : ar (ix2 0 h) = (a : EReal))
  (hal : ∀ j, al j = -(sp (d j + b) * Real.exp a))
include hd hb ha hal

theorem logs_at (j : Fin 128) : k0_pay8 (F := Ideal) dt bi ar (ix2 j h) = ((lg * al (m + j.val) : ℝ) : EReal) := by
  rw [pay8_at, pay7_at dt bi j h _ b (hd j) hb, ha, Ideal.exp_coe, ← EReal.coe_mul, ← EReal.coe_mul, hal]
  refine congrArg _ ?_
  show sp _ * (-(Real.log 2)⁻¹ * Real.exp a) = (Real.log 2)⁻¹ * _
  ring

theorem cum_at (i : Fin 128) : cumOf dt bi ar (ix2 i h) = ((lg * (cs al (m + i.val + 1) - cs al m) : ℝ) : EReal) := by
  unfold cumOf
  rw [pay13_at]
  have e10 : ∀ x : Fin 128, k0_pay10 (F := Ideal) dt bi ar (ix2 x h) = ((lg * al (m + x.val) : ℝ) : EReal) := fun x => by
    rw [← logs_at dt bi ar h m al d b a hd hb ha hal x]
    unfold k0_pay10
    generalize k0_pay8 (F := Ideal) dt bi ar = y
    pointwise
  have e11 : ∀ x : Fin 128, k0_pay11 (F := Ideal) dt bi ar (ix2 x h) = (0 : EReal) := fun x => by
    have u := logs_at dt bi ar h m al d b a hd hb ha hal x
    have v := e10 x
    unfold k0_pay11
    generalize k0_pay8 (F := Ideal) dt bi ar = y at u ⊢
    generalize k0_pay10 (F := Ideal) dt bi ar = z at v ⊢
    pointwise
    rw [u, v, ← EReal.coe_sub, sub_self, EReal.coe_zero]
  have e12 : ∀ x : Fin 128, k0_pay12 (F := Ideal) dt bi ar (ix2 x h) = (0 : EReal) := fun x => by
    have u := e11 x
    unfold k0_pay12
    generalize k0_pay11 (F := Ideal) dt bi ar = y at u ⊢
    pointwise
    exact u
  simp only [e10, e11, e12, triB_at, mul_zero, sub_zero, Finset.sum_const_zero, add_zero, ← EReal.coe_mul]
  rw [← coe_sum, ← cs_chunk]
  refine congrArg _ ?_
  rw [Finset.mul_sum]
  refine Finset.sum_congr rfl fun j _ => ?_
  split <;> simp

theorem w_at (j : Fin 128) : wOf dt bi ar (ix2 h j) = ((sp (d (m + j.val) + b) * Real.exp (cs al (m + 128) - cs al (m + j.val + 1)) : ℝ) : EReal) := by
  have e := cum_at dt bi ar h m al d b a hd hb ha hal
  unfold cumOf at e
  unfold wOf
  rw [pay17_at, e, e, pay7_at dt bi j h _ b (hd j) hb, ← EReal.coe_sub, ← mul_sub, exp2_lg, ← EReal.coe_mul]
  refine congrArg _ ?_
  show _ * Real.exp (cs al (m + 127 + 1) - cs al m - _) = _
  rw [show m + 127 + 1 = m + 128 by omega]
  congr 2
  ring

theorem et_at : etOf dt bi ar (ix2 h 0) = ((Real.exp (cs al (m + 128) - cs al m) : ℝ) : EReal) := by
  have e := cum_at dt bi ar h m al d b a hd hb ha hal
  unfold cumOf at e
  unfold etOf
  rw [pay18_at, e, exp2_lg]
  rfl

theorem cml_at (j : Fin 128) : cmlOf dt bi ar (ix2 h j) = ((lg * (cs al (m + j.val + 1) - cs al m) - lg * Real.log (sp (d (m + j.val) + b)) : ℝ) : EReal) := by
  have e := cum_at dt bi ar h m al d b a hd hb ha hal
  unfold cumOf at e
  unfold cmlOf
  rw [pay19_at, e, pay7_at dt bi j h _ b (hd j) hb, Ideal.log_coe, if_neg (not_le.mpr (sp_pos _)), ← EReal.coe_mul, ← EReal.coe_sub]

/-- A step's weight in a later step's output: its decay since, times its size. -/
theorem dec_at (i j : Fin 128) : Ideal.exp2 (if j ≤ i then cumOf dt bi ar (ix2 i h) - cmlOf dt bi ar (ix2 h j) else ⊥)
    = ((if j ≤ i then Real.exp (cs al (m + i.val + 1) - cs al (m + j.val + 1)) * sp (d (m + j.val) + b) else 0 : ℝ) : EReal) := by
  by_cases g : j ≤ i
  · rw [if_pos g, if_pos g, cum_at dt bi ar h m al d b a hd hb ha hal, cml_at dt bi ar h m al d b a hd hb ha hal, ← EReal.coe_sub,
      show lg * (cs al (m + i.val + 1) - cs al m) - (lg * (cs al (m + j.val + 1) - cs al m) - lg * Real.log (sp (d (m + j.val) + b)))
        = lg * (cs al (m + i.val + 1) - cs al (m + j.val + 1) + Real.log (sp (d (m + j.val) + b))) by ring, exp2_lg, Real.exp_add, Real.exp_log (sp_pos _)]
  · rw [if_neg g, if_neg g]
    rfl

end

end Cert.ScanIdeal.Scan

end
-- ==== Proof.ScanCell.lean ====
/- The scan over the reals: one element of its result, and one chunk's step of the kernel. -/
module

public import proofs.«01_k».proof.Proof.ScanBlock
public import proofs.«01_k».proof.Proof.ScanReal

@[expose] public section

set_option maxRecDepth 16384

noncomputable section

namespace Cert.ScanIdeal.Scan

open Cert.ScanIdeal Cert.ScanIdeal.Gen Idealize.ShloMosaic Idealize.ShloMosaic.TcCoe Idealize.SL.Sem Cert.ScanMath Cert.AttnMath

/-- Column `k` of the scan's inputs over time. -/
def xR (A0 : S2x4096x6144.Idx → EReal) (b : Fin 2) (k : Fin 6144) (s : ℕ) : ℝ := (A0 (ix3 b ⟨s % 4096, Nat.mod_lt _ (by decide)⟩ k)).toReal

/-- The step sizes of a head before their softplus, without the bias. -/
def dR (A1 : S2x4096x128.Idx → EReal) (b : Fin 2) (h : Fin 64) (s : ℕ) : ℝ := (A1 (ix3 b ⟨s % 4096, Nat.mod_lt _ (by decide)⟩ ⟨h.val, by omega⟩)).toReal

/-- A head's entry of the first direction's row. -/
def rowR (A : S2x64.Idx → EReal) (h : Fin 64) : ℝ := (A (ix2 0 h)).toReal

/-- The step sizes of a head. -/
def dtR (A1 : S2x4096x128.Idx → EReal) (A3 : S2x64.Idx → EReal) (b : Fin 2) (h : Fin 64) (s : ℕ) : ℝ := sp (dR A1 b h s + rowR A3 h)

/-- The logarithms of the decays of a head. -/
def alR (A1 : S2x4096x128.Idx → EReal) (A2 A3 : S2x64.Idx → EReal) (b : Fin 2) (h : Fin 64) (s : ℕ) : ℝ :=
  -(sp (dR A1 b h s + rowR A3 h) * Real.exp (rowR A2 h))

/-- What the steps up to `l` leave in column `k` of the output at `l`. -/
def sumR (A0 : S2x4096x6144.Idx → EReal) (A1 : S2x4096x128.Idx → EReal) (A2 A3 : S2x64.Idx → EReal) (b : Fin 2) (k : Fin 4096) (l : ℕ) : ℝ :=
  ∑ s ∈ Finset.range (l + 1), (∑ n : Fin 128, xR A0 b ⟨5120 + 128 * (k.val / 512) + n.val, by omega⟩ l * xR A0 b ⟨4096 + 128 * (k.val / 512) + n.val, by omega⟩ s)
    * Real.exp (cs (alR A1 A2 A3 b ⟨k.val / 64, by omega⟩) (l + 1) - cs (alR A1 A2 A3 b ⟨k.val / 64, by omega⟩) (s + 1))
    * (xR A0 b ⟨k.val, by omega⟩ s * dtR A1 A3 b ⟨k.val / 64, by omega⟩ s)

/-- One element of the scan's result. -/
def cell (A0 : S2x4096x6144.Idx → EReal) (A1 : S2x4096x128.Idx → EReal) (A2 A3 : S2x64.Idx → EReal) (A4 : S64.Idx → EReal) (b : Fin 2) (l k : Fin 4096) : EReal :=
  (sumR A0 A1 A2 A3 b k l.val : EReal) + A0 (ix3 b l ⟨k.val, by omega⟩) * A4 (ix1 ⟨k.val / 64, by omega⟩)

/-- The step sizes of the first direction are real. -/
def FinDt (A1 : S2x4096x128.Idx → EReal) : Prop := ∀ b s (h : Fin 64), ∃ r : ℝ, A1 (ix3 b s ⟨h.val, by omega⟩) = (r : EReal)

theorem xR_eq (A0 : S2x4096x6144.Idx → EReal) (hf : ∀ b s k, ∃ r : ℝ, A0 (ix3 b s k) = (r : EReal)) (b : Fin 2) (k : Fin 6144) (s : Fin 4096) :
    A0 (ix3 b s k) = (xR A0 b k s.val : EReal) := by
  obtain ⟨r, hr⟩ := hf b s k
  unfold xR
  simp only [Nat.mod_eq_of_lt s.isLt, Fin.eta]
  rw [hr, EReal.toReal_coe]

theorem dR_eq (A1 : S2x4096x128.Idx → EReal) (hf : FinDt A1) (b : Fin 2) (h : Fin 64) (s : Fin 4096) :
    A1 (ix3 b s ⟨h.val, by omega⟩) = (dR A1 b h s.val : EReal) := by
  obtain ⟨r, hr⟩ := hf b s h
  unfold dR
  simp only [Nat.mod_eq_of_lt s.isLt, Fin.eta]
  rw [hr, EReal.toReal_coe]

theorem rowR_eq (A : S2x64.Idx → EReal) (hf : ∀ h, ∃ r : ℝ, A (ix2 0 h) = (r : EReal)) (h : Fin 64) : A (ix2 0 h) = (rowR A h : EReal) := by
  obtain ⟨r, hr⟩ := hf h
  unfold rowR
  rw [hr, EReal.toReal_coe]

section
variable (x0 : Vec Ideal S1x128x4096 .bf16) (x1 x2 : Vec Ideal S1x128x1024 .bf16) (x3 : Vec Ideal S1x128x128 .f32) (x4 x5 : Vec Ideal S1x128 .f32) (x6 : Vec Ideal S1x4096 .f32)
  (s : Vec Ideal S8x128x512 .f32) (m : ℕ) (al d : ℕ → ℝ) (b a : ℝ) (hal : ∀ j, al j = -(sp (d j + b) * Real.exp a))
include hal

/-- A chunk takes the state at its first step to the state at the next chunk's first step. -/
theorem st_step (B X : ℕ → ℝ) (g : Fin 8) (n : Fin 128) (q : Fin 512)
    (hd : ∀ j : Fin 128, x3 (ix3 0 j ⟨8 * g.val + q.val / 64, by omega⟩) = (d (m + j.val) : EReal))
    (hb : x5 (ix2 0 ⟨8 * g.val + q.val / 64, by omega⟩) = (b : EReal)) (ha : x4 (ix2 0 ⟨8 * g.val + q.val / 64, by omega⟩) = (a : EReal))
    (hB : ∀ j : Fin 128, x1 (ix3 0 j ⟨128 * g.val + n.val, by omega⟩) = (B (m + j.val) : EReal))
    (hX : ∀ j : Fin 128, x0 (ix3 0 j ⟨512 * g.val + q.val, by omega⟩) = (X (m + j.val) : EReal))
    (hs : s (ix3 g n q) = (state al (fun j => sp (d j + b)) B X m : EReal)) :
    stVal x0 x1 x3 x4 x5 s g n q = (state al (fun j => sp (d j + b)) B X (m + 128) : EReal) := by
  unfold stVal
  rw [state_step, hs, et_at x3 x5 x4 _ m al d b a hd hb ha hal, EReal.coe_add, EReal.coe_mul, coe_sum]
  refine congrArg₂ _ rfl (Finset.sum_congr rfl fun j _ => ?_)
  rw [hB, hX, w_at x3 x5 x4 _ m al d b a hd hb ha hal, ← EReal.coe_mul, ← EReal.coe_mul]

/-- A chunk's output is the sum over all steps so far. -/
theorem out_step (B : Fin 128 → ℕ → ℝ) (C : Fin 128 → ℝ) (X : ℕ → ℝ) (i : Fin 128) (k : Fin 4096)
    (hd : ∀ j : Fin 128, x3 (ix3 0 j ⟨k.val / 64, by omega⟩) = (d (m + j.val) : EReal))
    (hb : x5 (ix2 0 ⟨k.val / 64, by omega⟩) = (b : EReal)) (ha : x4 (ix2 0 ⟨k.val / 64, by omega⟩) = (a : EReal))
    (hB : ∀ n j : Fin 128, x1 (ix3 0 j ⟨128 * (k.val / 512) + n.val, by omega⟩) = (B n (m + j.val) : EReal))
    (hC : ∀ n : Fin 128, x2 (ix3 0 i ⟨128 * (k.val / 512) + n.val, by omega⟩) = (C n : EReal))
    (hX : ∀ j : Fin 128, x0 (ix3 0 j k) = (X (m + j.val) : EReal))
    (hs : ∀ n : Fin 128, s (ix3 ⟨k.val / 512, by omega⟩ n ⟨k.val % 512, by omega⟩) = (state al (fun j => sp (d j + b)) (B n) X m : EReal)) :
    outVal x0 x1 x2 x3 x4 x5 x6 s i k
      = ((∑ r ∈ Finset.range (m + i.val + 1), (∑ n, C n * B n r) * Real.exp (cs al (m + i.val + 1) - cs al (r + 1)) * (X r * sp (d r + b)) : ℝ) : EReal)
        + x0 (ix3 0 i k) * x6 (ix2 0 k) := by
  unfold outVal
  refine congrArg₂ _ ?_ rfl
  rw [read_step al (fun j => sp (d j + b)) X C B m i, EReal.coe_add, EReal.coe_mul, coe_sum, coe_sum]
  refine congrArg₂ _ (Finset.sum_congr rfl fun j _ => ?_) (congrArg₂ _ (Finset.sum_congr rfl fun n _ => ?_) ?_)
  · rw [dec_at x3 x5 x4 _ m al d b a hd hb ha hal, hX, EReal.coe_mul, EReal.coe_mul, coe_sum]
    refine congrArg₂ _ (congrArg₂ _ (Finset.sum_congr rfl fun n _ => ?_) rfl) rfl
    rw [hC, hB, EReal.coe_mul]
  · rw [hC, hs, EReal.coe_mul]
  · rw [cum_at x3 x5 x4 _ m al d b a hd hb ha hal, exp2_lg]

end

end Cert.ScanIdeal.Scan

end
-- ==== Proof.ScanSame.lean ====
/- The reference scan's result over the reals. -/
module

public import proofs.«01_k».proof.Proof.ScanRef
public import proofs.«01_k».proof.Proof.ScanCell

@[expose] public section

set_option maxRecDepth 16384

noncomputable section

namespace Cert.ScanReferenceIdeal.Scan

open Cert.ScanReferenceIdeal Cert.ScanReferenceIdeal.Gen Cert.ScanReferenceIdeal.Read Idealize.ShloMosaic Idealize.ShloMosaic.TcCoe Idealize.SL.Sem Idealize.ShloMosaic.Pointwise Cert.ScanMath Cert.AttnMath
open Cert.ScanIdeal.Scan (FinDt xR dR rowR dtR alR sumR cell xR_eq dR_eq rowR_eq)

variable (A0 : S2x4096x6144.Idx → EReal) (A1 : S2x4096x128.Idx → EReal) (A2 A3 : S2x64.Idx → EReal) (A4 : S64.Idx → EReal)
  (f0 : ∀ b s k, ∃ r : ℝ, A0 (ix3 b s k) = (r : EReal)) (f1 : FinDt A1)
  (f2 : ∀ h, ∃ r : ℝ, A2 (ix2 0 h) = (r : EReal)) (f3 : ∀ h, ∃ r : ℝ, A3 (ix2 0 h) = (r : EReal))
include f0 f1 f2 f3

theorem dt_at (b : Fin 2) (l : Fin 4096) (g r : Fin 8) :
    val_main_v14 (F := Ideal) A1 A3 (ix4 b l g r) = (dtR A1 A3 b ⟨8 * g.val + r.val, by omega⟩ l.val : EReal) := by
  rw [v14_at, v13_at A1 A3 b l _ _ _ (dR_eq A1 f1 b ⟨8 * g.val + r.val, by omega⟩ l) (rowR_eq A3 f3 ⟨8 * g.val + r.val, by omega⟩)]
  rfl

theorem al_at (b : Fin 2) (l : Fin 4096) (g r : Fin 8) :
    val_main_v22 (F := Ideal) A1 A2 A3 (ix4 b l g r) = (alR A1 A2 A3 b ⟨8 * g.val + r.val, by omega⟩ l.val : EReal) := by
  have e : val_main_v22 (F := Ideal) A1 A2 A3 (ix4 b l g r) = (val_main_v14 (F := Ideal) A1 A3 (ix4 b l g r) * val_main_v21 (F := Ideal) A2 (ix4 b l g r) : EReal) := rfl
  rw [e, dt_at A0 A1 A2 A3 f0 f1 f2 f3, v21_at, rowR_eq A2 f2, Ideal.exp_coe, ← EReal.coe_neg, ← EReal.coe_mul]
  refine congrArg _ ?_
  unfold dtR alR
  ring

theorem cs_at (b : Fin 2) (l : Fin 4096) (g r : Fin 8) :
    val_main_v23 (F := Ideal) A1 A2 A3 (ix4 b l g r) = (cs (alR A1 A2 A3 b ⟨8 * g.val + r.val, by omega⟩) (l.val + 1) : EReal) := by
  have e := al_at A0 A1 A2 A3 f0 f1 f2 f3
  unfold val_main_v23
  unfold cs
  rw [coe_sum]
  exact Sum.runSum_at _ _ _ _ (fun i => by pointwise [val_main_call1_call0_v0, val_main_call1_call0_cst]) b l g r _ (fun s => e b s g r)

theorem ref_cell (b : Fin 2) (l k : Fin 4096) :
    val_main_v55 (F := Ideal) A0 A1 A2 A3 A4 (ix3 b l k) = cell A0 A1 A2 A3 A4 b l k := by
  have hk := k.isLt
  rw [v55_at, v48_at]
  unfold cell
  refine congrArg₂ _ ?_ rfl
  unfold sumR
  rw [← read_all (fun s => (∑ n : Fin 128, xR A0 b ⟨5120 + 128 * (k.val / 512) + n.val, by omega⟩ l.val * xR A0 b ⟨4096 + 128 * (k.val / 512) + n.val, by omega⟩ s)
    * Real.exp (cs (alR A1 A2 A3 b ⟨k.val / 64, by omega⟩) (l.val + 1) - cs (alR A1 A2 A3 b ⟨k.val / 64, by omega⟩) (s + 1))
    * (xR A0 b ⟨k.val, by omega⟩ s * dtR A1 A3 b ⟨k.val / 64, by omega⟩ s)) l, coe_sum]
  refine Finset.sum_congr rfl fun s _ => ?_
  have hh : (⟨8 * (k.val / 512) + k.val / 64 % 8, by omega⟩ : Fin 64) = ⟨k.val / 64, by omega⟩ := Fin.ext (by simp; omega)
  have hx : (⟨512 * (k.val / 512) + 64 * (k.val / 64 % 8) + k.val % 64, by omega⟩ : Fin 6144) = ⟨k.val, by omega⟩ := Fin.ext (by simp; omega)
  rw [v46_at, v42_at, v38_at A1 A2 A3 b l s _ _ _ _ (cs_at A0 A1 A2 A3 f0 f1 f2 f3 b l _ _) (cs_at A0 A1 A2 A3 f0 f1 f2 f3 b s _ _), dt_at A0 A1 A2 A3 f0 f1 f2 f3]
  simp only [hh, hx]
  have es : (∑ n : Fin 128, A0 (ix3 b s ⟨4096 + 128 * (k.val / 512) + n.val, by omega⟩) * A0 (ix3 b l ⟨5120 + 128 * (k.val / 512) + n.val, by omega⟩) : EReal)
      = ((∑ n : Fin 128, xR A0 b ⟨5120 + 128 * (k.val / 512) + n.val, by omega⟩ l.val * xR A0 b ⟨4096 + 128 * (k.val / 512) + n.val, by omega⟩ s.val : ℝ) : EReal) := by
    rw [coe_sum]
    refine Finset.sum_congr rfl fun n _ => ?_
    rw [xR_eq A0 f0, xR_eq A0 f0, ← EReal.coe_mul, mul_comm]
  rw [es, xR_eq A0 f0 b _ s]
  by_cases h : s ≤ l
  · rw [if_pos h, if_pos h, ← EReal.coe_sub, Ideal.exp_coe, ← EReal.coe_mul, ← EReal.coe_mul, ← EReal.coe_mul]
    refine congrArg _ ?_
    ring
  · rw [if_neg h, if_neg h, show Ideal.exp (⊥ : EReal) = 0 from rfl, mul_zero, mul_zero, EReal.coe_zero]

end Cert.ScanReferenceIdeal.Scan

end
-- ==== Proof.ScanLoad.lean ====
/- What the scan's kernel loads of its blocks, entry by entry. -/
module

public import proofs.«01_k».proof.Proof.ScanBlock
public import proofs.«01_k».proof.Proof.Gen.ScanIdeal.Frame
public import Idealize.ShloMosaic.Lib.Pipeline.ReadBack

@[expose] public section

set_option maxRecDepth 16384
set_option maxHeartbeats 4000000

noncomputable section

namespace Cert.ScanIdeal.Scan

open Cert.ScanIdeal Cert.ScanIdeal.Gen Idealize.ShloMosaic Idealize.ShloMosaic.TcCoe Idealize.SL.Sem

theorem whole3 (m : Memref sig .tc .vmem S1x128x128 .f32) (h : m.IsWhole) (x : Vec Ideal S1x128x128 .f32) (inb : ∀ a, (![0, 0, 0] : Fin 3 → ℕ) a + S1x128x128.size a ≤ S1x128x128.size a) :
    View.readAt (Elt Ideal) m.view (Rect.unit (s := S1x128x128) ![0, 0, 0] S1x128x128.size inb).toLoadRect (h.unread x) = x := by
  rw [View.readAt_eq_ld, h.read_unread]
  funext y
  exact congrArg x (funext fun a => Fin.ext (match a with
    | 0 => (by show 0 + 1 * (y 0).val = (y 0).val; omega)
    | 1 => (by show 0 + 1 * (y 1).val = (y 1).val; omega)
    | 2 => (by show 0 + 1 * (y 2).val = (y 2).val; omega)))

theorem whole2 (m : Memref sig .tc .vmem S1x128 .f32) (h : m.IsWhole) (x : Vec Ideal S1x128 .f32) (inb : ∀ a, (![0, 0] : Fin 2 → ℕ) a + S1x128.size a ≤ S1x128.size a) :
    View.readAt (Elt Ideal) m.view (Rect.unit (s := S1x128) ![0, 0] S1x128.size inb).toLoadRect (h.unread x) = x := by
  rw [View.readAt_eq_ld, h.read_unread]
  funext y
  exact congrArg x (funext fun a => Fin.ext (match a with
    | 0 => (by show 0 + 1 * (y 0).val = (y 0).val; omega)
    | 1 => (by show 0 + 1 * (y 1).val = (y 1).val; omega)))

theorem bLoad (m : Memref sig .tc .vmem S1x128x1024 .bf16) (h : m.IsWhole) (x : Vec Ideal S1x128x1024 .bf16) (o : ℕ) (ho : o + 128 ≤ 1024) (inb : ∀ a, (![0, 0, o] : Fin 3 → ℕ) a + S1x128x128.size a ≤ S1x128x1024.size a) (j n : Fin 128) :
    View.readAt (Elt Ideal) m.view (Rect.unit (s := S1x128x1024) ![0, 0, o] S1x128x128.size inb).toLoadRect (h.unread x) (ix3 0 j n) = x (ix3 0 j ⟨o + n.val, by omega⟩) := by
  rw [View.readAt_eq_ld, h.read_unread]
  exact congrArg x (funext fun a => Fin.ext (match a with
    | 0 => rfl
    | 1 => (by show 0 + 1 * j.val = j.val; omega)
    | 2 => (by show o + 1 * n.val = o + n.val; omega)))

theorem xLoad (m : Memref sig .tc .vmem S1x128x4096 .bf16) (h : m.IsWhole) (x : Vec Ideal S1x128x4096 .bf16) (o : ℕ) (ho : o + 128 ≤ 4096) (inb : ∀ a, (![0, 0, o] : Fin 3 → ℕ) a + S1x128x128.size a ≤ S1x128x4096.size a) (j n : Fin 128) :
    View.readAt (Elt Ideal) m.view (Rect.unit (s := S1x128x4096) ![0, 0, o] S1x128x128.size inb).toLoadRect (h.unread x) (ix3 0 j n) = x (ix3 0 j ⟨o + n.val, by omega⟩) := by
  rw [View.readAt_eq_ld, h.read_unread]
  exact congrArg x (funext fun a => Fin.ext (match a with
    | 0 => rfl
    | 1 => (by show 0 + 1 * j.val = j.val; omega)
    | 2 => (by show o + 1 * n.val = o + n.val; omega)))

theorem dLoad (m : Memref sig .tc .vmem S1x4096 .f32) (h : m.IsWhole) (x : Vec Ideal S1x4096 .f32) (o : ℕ) (ho : o + 128 ≤ 4096) (inb : ∀ a, (![0, o] : Fin 2 → ℕ) a + S1x128.size a ≤ S1x4096.size a) (n : Fin 128) :
    View.readAt (Elt Ideal) m.view (Rect.unit (s := S1x4096) ![0, o] S1x128.size inb).toLoadRect (h.unread x) (ix2 0 n) = x (ix2 0 ⟨o + n.val, by omega⟩) := by
  rw [View.readAt_eq_ld, h.read_unread]
  exact congrArg x (funext fun a => Fin.ext (match a with
    | 0 => rfl
    | 1 => (by show o + 1 * n.val = o + n.val; omega)))

theorem sLoad (m : Memref sig .tc .vmem S8x128x512 .f32) (h : m.IsWhole) (x : Vec Ideal S8x128x512 .f32) (g o : ℕ) (hg : g < 8) (ho : o + 128 ≤ 512) (inb : ∀ a, (![g, 0, o] : Fin 3 → ℕ) a + S1x128x128.size a ≤ S8x128x512.size a) (j n : Fin 128) :
    View.readAt (Elt Ideal) m.view (Rect.unit (s := S8x128x512) ![g, 0, o] S1x128x128.size inb).toLoadRect (h.unread x) (ix3 0 j n) = x (ix3 ⟨g, hg⟩ j ⟨o + n.val, by omega⟩) := by
  rw [View.readAt_eq_ld, h.read_unread]
  exact congrArg x (funext fun a => Fin.ext (match a with
    | 0 => (by show g + 1 * 0 = g; omega)
    | 1 => (by show 0 + 1 * j.val = j.val; omega)
    | 2 => (by show o + 1 * n.val = o + n.val; omega)))

theorem gLoad (m : Memref sig .tc .vmem S8x128x512 .f32) (h : m.IsWhole) (x : Vec Ideal S8x128x512 .f32) (g : ℕ) (hg : g < 8) (inb : ∀ a, (![g, 0, 0] : Fin 3 → ℕ) a + S1x128x512.size a ≤ S8x128x512.size a) (j : Fin 128) (n : Fin 512) :
    View.readAt (Elt Ideal) m.view (Rect.unit (s := S8x128x512) ![g, 0, 0] S1x128x512.size inb).toLoadRect (h.unread x) (ix3 0 j n) = x (ix3 ⟨g, hg⟩ j n) := by
  rw [View.readAt_eq_ld, h.read_unread]
  exact congrArg x (funext fun a => Fin.ext (match a with
    | 0 => (by show g + 1 * 0 = g; omega)
    | 1 => (by show 0 + 1 * j.val = j.val; omega)
    | 2 => (by show 0 + 1 * n.val = n.val; omega)))

end Cert.ScanIdeal.Scan

end
-- ==== Proof.ScanCaseA.lean ====
/- Every store of the first chunk's body is a part of the chunk's state or outputs. -/
module

public import proofs.«01_k».proof.Proof.ScanLoad
public import proofs.«01_k».proof.Proof.Gen.ScanIdeal.Frame
public import Idealize.ShloMosaic.Lib.Pipeline.ReadBack

@[expose] public section

set_option maxRecDepth 16384
set_option maxHeartbeats 4000000

noncomputable section

namespace Cert.ScanIdeal.Scan

open Cert.ScanIdeal Cert.ScanIdeal.Gen Idealize.ShloMosaic Idealize.ShloMosaic.TcCoe Idealize.SL.Sem

theorem pay3_at (y : S8x128x512.Idx) : k0_pay3 (F := Ideal) y = (0 : EReal) := by
  pointwise [k0_pay3]

theorem stPieces_A (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) :
    View.PiecesOf (stFn x0 x1 x3 x4 x5 (fun _ => (0 : EReal))) ((kernelRun0_A (F := Ideal) c i arg2 harg2 arg3 harg3 arg4 harg4 arg5 harg5 arg6 harg6 arg7 harg7 arg8 harg8 arg9 harg9 arg10 harg10 hc0 x0 x1 x2 x3 x4 x5 x6).2.1.take 32) := by
  delta kernelRun0_A
  refine ⟨?_, ?_⟩
  · intro y
    refine stPart x0 x1 x3 x4 x5 (fun _ => (0 : EReal)) 7 3 (by decide) (by decide) 62 63 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![7, 0, 384] S1x128x128.size (by decide)).toLoadRect) (bLoad arg3 harg3 x1 896 (by decide) (by decide)) (xLoad arg2 harg2 x0 3968 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30, kernelRun0_A.sl.HS0_31, kernelRun0_A.sl.HS0_32]
    exact pay3_at _
  refine ⟨?_, ?_⟩
  · intro y
    refine stPart x0 x1 x3 x4 x5 (fun _ => (0 : EReal)) 7 2 (by decide) (by decide) 60 61 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![7, 0, 256] S1x128x128.size (by decide)).toLoadRect) (bLoad arg3 harg3 x1 896 (by decide) (by decide)) (xLoad arg2 harg2 x0 3840 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30, kernelRun0_A.sl.HS0_31]
    exact pay3_at _
  refine ⟨?_, ?_⟩
  · intro y
    refine stPart x0 x1 x3 x4 x5 (fun _ => (0 : EReal)) 7 1 (by decide) (by decide) 58 59 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![7, 0, 128] S1x128x128.size (by decide)).toLoadRect) (bLoad arg3 harg3 x1 896 (by decide) (by decide)) (xLoad arg2 harg2 x0 3712 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30]
    exact pay3_at _
  refine ⟨?_, ?_⟩
  · intro y
    refine stPart x0 x1 x3 x4 x5 (fun _ => (0 : EReal)) 7 0 (by decide) (by decide) 56 57 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![7, 0, 0] S1x128x128.size (by decide)).toLoadRect) (bLoad arg3 harg3 x1 896 (by decide) (by decide)) (xLoad arg2 harg2 x0 3584 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29]
    exact pay3_at _
  refine ⟨?_, ?_⟩
  · intro y
    refine stPart x0 x1 x3 x4 x5 (fun _ => (0 : EReal)) 6 3 (by decide) (by decide) 54 55 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![6, 0, 384] S1x128x128.size (by decide)).toLoadRect) (bLoad arg3 harg3 x1 768 (by decide) (by decide)) (xLoad arg2 harg2 x0 3456 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28]
    exact pay3_at _
  refine ⟨?_, ?_⟩
  · intro y
    refine stPart x0 x1 x3 x4 x5 (fun _ => (0 : EReal)) 6 2 (by decide) (by decide) 52 53 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![6, 0, 256] S1x128x128.size (by decide)).toLoadRect) (bLoad arg3 harg3 x1 768 (by decide) (by decide)) (xLoad arg2 harg2 x0 3328 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27]
    exact pay3_at _
  refine ⟨?_, ?_⟩
  · intro y
    refine stPart x0 x1 x3 x4 x5 (fun _ => (0 : EReal)) 6 1 (by decide) (by decide) 50 51 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![6, 0, 128] S1x128x128.size (by decide)).toLoadRect) (bLoad arg3 harg3 x1 768 (by decide) (by decide)) (xLoad arg2 harg2 x0 3200 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26]
    exact pay3_at _
  refine ⟨?_, ?_⟩
  · intro y
    refine stPart x0 x1 x3 x4 x5 (fun _ => (0 : EReal)) 6 0 (by decide) (by decide) 48 49 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![6, 0, 0] S1x128x128.size (by decide)).toLoadRect) (bLoad arg3 harg3 x1 768 (by decide) (by decide)) (xLoad arg2 harg2 x0 3072 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25]
    exact pay3_at _
  refine ⟨?_, ?_⟩
  · intro y
    refine stPart x0 x1 x3 x4 x5 (fun _ => (0 : EReal)) 5 3 (by decide) (by decide) 46 47 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![5, 0, 384] S1x128x128.size (by decide)).toLoadRect) (bLoad arg3 harg3 x1 640 (by decide) (by decide)) (xLoad arg2 harg2 x0 2944 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24]
    exact pay3_at _
  refine ⟨?_, ?_⟩
  · intro y
    refine stPart x0 x1 x3 x4 x5 (fun _ => (0 : EReal)) 5 2 (by decide) (by decide) 44 45 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![5, 0, 256] S1x128x128.size (by decide)).toLoadRect) (bLoad arg3 harg3 x1 640 (by decide) (by decide)) (xLoad arg2 harg2 x0 2816 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23]
    exact pay3_at _
  refine ⟨?_, ?_⟩
  · intro y
    refine stPart x0 x1 x3 x4 x5 (fun _ => (0 : EReal)) 5 1 (by decide) (by decide) 42 43 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![5, 0, 128] S1x128x128.size (by decide)).toLoadRect) (bLoad arg3 harg3 x1 640 (by decide) (by decide)) (xLoad arg2 harg2 x0 2688 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22]
    exact pay3_at _
  refine ⟨?_, ?_⟩
  · intro y
    refine stPart x0 x1 x3 x4 x5 (fun _ => (0 : EReal)) 5 0 (by decide) (by decide) 40 41 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![5, 0, 0] S1x128x128.size (by decide)).toLoadRect) (bLoad arg3 harg3 x1 640 (by decide) (by decide)) (xLoad arg2 harg2 x0 2560 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21]
    exact pay3_at _
  refine ⟨?_, ?_⟩
  · intro y
    refine stPart x0 x1 x3 x4 x5 (fun _ => (0 : EReal)) 4 3 (by decide) (by decide) 38 39 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![4, 0, 384] S1x128x128.size (by decide)).toLoadRect) (bLoad arg3 harg3 x1 512 (by decide) (by decide)) (xLoad arg2 harg2 x0 2432 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20]
    exact pay3_at _
  refine ⟨?_, ?_⟩
  · intro y
    refine stPart x0 x1 x3 x4 x5 (fun _ => (0 : EReal)) 4 2 (by decide) (by decide) 36 37 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![4, 0, 256] S1x128x128.size (by decide)).toLoadRect) (bLoad arg3 harg3 x1 512 (by decide) (by decide)) (xLoad arg2 harg2 x0 2304 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19]
    exact pay3_at _
  refine ⟨?_, ?_⟩
  · intro y
    refine stPart x0 x1 x3 x4 x5 (fun _ => (0 : EReal)) 4 1 (by decide) (by decide) 34 35 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![4, 0, 128] S1x128x128.size (by decide)).toLoadRect) (bLoad arg3 harg3 x1 512 (by decide) (by decide)) (xLoad arg2 harg2 x0 2176 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18]
    exact pay3_at _
  refine ⟨?_, ?_⟩
  · intro y
    refine stPart x0 x1 x3 x4 x5 (fun _ => (0 : EReal)) 4 0 (by decide) (by decide) 32 33 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![4, 0, 0] S1x128x128.size (by decide)).toLoadRect) (bLoad arg3 harg3 x1 512 (by decide) (by decide)) (xLoad arg2 harg2 x0 2048 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17]
    exact pay3_at _
  refine ⟨?_, ?_⟩
  · intro y
    refine stPart x0 x1 x3 x4 x5 (fun _ => (0 : EReal)) 3 3 (by decide) (by decide) 30 31 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![3, 0, 384] S1x128x128.size (by decide)).toLoadRect) (bLoad arg3 harg3 x1 384 (by decide) (by decide)) (xLoad arg2 harg2 x0 1920 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16]
    exact pay3_at _
  refine ⟨?_, ?_⟩
  · intro y
    refine stPart x0 x1 x3 x4 x5 (fun _ => (0 : EReal)) 3 2 (by decide) (by decide) 28 29 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![3, 0, 256] S1x128x128.size (by decide)).toLoadRect) (bLoad arg3 harg3 x1 384 (by decide) (by decide)) (xLoad arg2 harg2 x0 1792 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15]
    exact pay3_at _
  refine ⟨?_, ?_⟩
  · intro y
    refine stPart x0 x1 x3 x4 x5 (fun _ => (0 : EReal)) 3 1 (by decide) (by decide) 26 27 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![3, 0, 128] S1x128x128.size (by decide)).toLoadRect) (bLoad arg3 harg3 x1 384 (by decide) (by decide)) (xLoad arg2 harg2 x0 1664 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14]
    exact pay3_at _
  refine ⟨?_, ?_⟩
  · intro y
    refine stPart x0 x1 x3 x4 x5 (fun _ => (0 : EReal)) 3 0 (by decide) (by decide) 24 25 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![3, 0, 0] S1x128x128.size (by decide)).toLoadRect) (bLoad arg3 harg3 x1 384 (by decide) (by decide)) (xLoad arg2 harg2 x0 1536 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13]
    exact pay3_at _
  refine ⟨?_, ?_⟩
  · intro y
    refine stPart x0 x1 x3 x4 x5 (fun _ => (0 : EReal)) 2 3 (by decide) (by decide) 22 23 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![2, 0, 384] S1x128x128.size (by decide)).toLoadRect) (bLoad arg3 harg3 x1 256 (by decide) (by decide)) (xLoad arg2 harg2 x0 1408 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12]
    exact pay3_at _
  refine ⟨?_, ?_⟩
  · intro y
    refine stPart x0 x1 x3 x4 x5 (fun _ => (0 : EReal)) 2 2 (by decide) (by decide) 20 21 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![2, 0, 256] S1x128x128.size (by decide)).toLoadRect) (bLoad arg3 harg3 x1 256 (by decide) (by decide)) (xLoad arg2 harg2 x0 1280 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11]
    exact pay3_at _
  refine ⟨?_, ?_⟩
  · intro y
    refine stPart x0 x1 x3 x4 x5 (fun _ => (0 : EReal)) 2 1 (by decide) (by decide) 18 19 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![2, 0, 128] S1x128x128.size (by decide)).toLoadRect) (bLoad arg3 harg3 x1 256 (by decide) (by decide)) (xLoad arg2 harg2 x0 1152 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10]
    exact pay3_at _
  refine ⟨?_, ?_⟩
  · intro y
    refine stPart x0 x1 x3 x4 x5 (fun _ => (0 : EReal)) 2 0 (by decide) (by decide) 16 17 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![2, 0, 0] S1x128x128.size (by decide)).toLoadRect) (bLoad arg3 harg3 x1 256 (by decide) (by decide)) (xLoad arg2 harg2 x0 1024 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9]
    exact pay3_at _
  refine ⟨?_, ?_⟩
  · intro y
    refine stPart x0 x1 x3 x4 x5 (fun _ => (0 : EReal)) 1 3 (by decide) (by decide) 14 15 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![1, 0, 384] S1x128x128.size (by decide)).toLoadRect) (bLoad arg3 harg3 x1 128 (by decide) (by decide)) (xLoad arg2 harg2 x0 896 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8]
    exact pay3_at _
  refine ⟨?_, ?_⟩
  · intro y
    refine stPart x0 x1 x3 x4 x5 (fun _ => (0 : EReal)) 1 2 (by decide) (by decide) 12 13 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![1, 0, 256] S1x128x128.size (by decide)).toLoadRect) (bLoad arg3 harg3 x1 128 (by decide) (by decide)) (xLoad arg2 harg2 x0 768 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7]
    exact pay3_at _
  refine ⟨?_, ?_⟩
  · intro y
    refine stPart x0 x1 x3 x4 x5 (fun _ => (0 : EReal)) 1 1 (by decide) (by decide) 10 11 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![1, 0, 128] S1x128x128.size (by decide)).toLoadRect) (bLoad arg3 harg3 x1 128 (by decide) (by decide)) (xLoad arg2 harg2 x0 640 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6]
    exact pay3_at _
  refine ⟨?_, ?_⟩
  · intro y
    refine stPart x0 x1 x3 x4 x5 (fun _ => (0 : EReal)) 1 0 (by decide) (by decide) 8 9 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![1, 0, 0] S1x128x128.size (by decide)).toLoadRect) (bLoad arg3 harg3 x1 128 (by decide) (by decide)) (xLoad arg2 harg2 x0 512 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5]
    exact pay3_at _
  refine ⟨?_, ?_⟩
  · intro y
    refine stPart x0 x1 x3 x4 x5 (fun _ => (0 : EReal)) 0 3 (by decide) (by decide) 6 7 384 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![0, 0, 384] S1x128x128.size (by decide)).toLoadRect) (bLoad arg3 harg3 x1 0 (by decide) (by decide)) (xLoad arg2 harg2 x0 384 (by decide) (by decide)) ?_ y
    intro n q
    simp (disch := decide) only [↓View.readCov_skip, ↓View.readCov_fill, kernelRun0_A.sl.HS0_1, kernelRun0_A.sl.HS0_2, kernelRun0_A.sl.HS0_3, kernelRun0_A.sl.HS0_4]
    exact pay3_at _
  refine ⟨?_, ?_⟩
  · intro y
    refine stPart x0 x1 x3 x4 x5 (fun _ => (0 : EReal)) 0 2 (by decide) (by decide) 4 5 256 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![0, 0, 256] S1x128x128.size (by decide)).toLoadRect) (bLoad arg3 harg3 x1 0 (by decide) (by decide)) (xLoad arg2 harg2 x0 256 (by decide) (by decide)) ?_ y
    intro n q
    simp (disch := decide) only [↓View.readCov_skip, ↓View.readCov_fill, kernelRun0_A.sl.HS0_1, kernelRun0_A.sl.HS0_2, kernelRun0_A.sl.HS0_3]
    exact pay3_at _
  refine ⟨?_, ?_⟩
  · intro y
    refine stPart x0 x1 x3 x4 x5 (fun _ => (0 : EReal)) 0 1 (by decide) (by decide) 2 3 128 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![0, 0, 128] S1x128x128.size (by decide)).toLoadRect) (bLoad arg3 harg3 x1 0 (by decide) (by decide)) (xLoad arg2 harg2 x0 128 (by decide) (by decide)) ?_ y
    intro n q
    simp (disch := decide) only [↓View.readCov_skip, ↓View.readCov_fill, kernelRun0_A.sl.HS0_1, kernelRun0_A.sl.HS0_2]
    exact pay3_at _
  refine ⟨?_, ?_⟩
  · intro y
    refine stPart x0 x1 x3 x4 x5 (fun _ => (0 : EReal)) 0 0 (by decide) (by decide) 0 1 0 (by decide) (by decide) rfl rfl rfl (by decide) _ _ _ (whole3 arg5 harg5 x3 (by decide)) (whole2 arg7 harg7 x5 (by decide)) (whole2 arg6 harg6 x4 (by decide)) _ _ (arg10.view.readCov (Val := Elt Ideal) _ (Rect.unit (s := S8x128x512) ![0, 0, 0] S1x128x128.size (by decide)).toLoadRect) (bLoad arg3 harg3 x1 0 (by decide) (by decide)) (xLoad arg2 harg2 x0 0 (by decide) (by decide)) ?_ y
    intro n q
    simp (disch := decide) only [↓View.readCov_skip, ↓View.readCov_fill, kernelRun0_A.sl.HS0_1]
    exact pay3_at _
  trivial

theorem outPieces_A (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) :
    View.PiecesOf (outFn x0 x1 x2 x3 x4 x5 x6 (fun _ => (0 : EReal))) (kernelRun0_A (F := Ideal) c i arg2 harg2 arg3 harg3 arg4 harg4 arg5 harg5 arg6 harg6 arg7 harg7 arg8 harg8 arg9 harg9 arg10 harg10 hc0 x0 x1 x2 x3 x4 x5 x6).1 := by
  delta kernelRun0_A
  refine ⟨?_, ?_⟩
  · intro y
    refine outPart x0 x1 x2 x3 x4 x5 x6 (fun _ => (0 : EReal)) 7 3 (by decide) (by decide) 62 63 384 3968 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![7, 0, 0] S1x128x512.size (by decide)).toLoadRect) _ (bLoad arg3 harg3 x1 896 (by decide) (by decide)) (bLoad arg4 harg4 x2 896 (by decide) (by decide)) (xLoad arg2 harg2 x0 3968 (by decide) (by decide)) ?_ (dLoad arg8 harg8 x6 3968 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29]
    exact pay3_at _
  refine ⟨?_, ?_⟩
  · intro y
    refine outPart x0 x1 x2 x3 x4 x5 x6 (fun _ => (0 : EReal)) 7 2 (by decide) (by decide) 60 61 256 3840 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![7, 0, 0] S1x128x512.size (by decide)).toLoadRect) _ (bLoad arg3 harg3 x1 896 (by decide) (by decide)) (bLoad arg4 harg4 x2 896 (by decide) (by decide)) (xLoad arg2 harg2 x0 3840 (by decide) (by decide)) ?_ (dLoad arg8 harg8 x6 3840 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29]
    exact pay3_at _
  refine ⟨?_, ?_⟩
  · intro y
    refine outPart x0 x1 x2 x3 x4 x5 x6 (fun _ => (0 : EReal)) 7 1 (by decide) (by decide) 58 59 128 3712 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![7, 0, 0] S1x128x512.size (by decide)).toLoadRect) _ (bLoad arg3 harg3 x1 896 (by decide) (by decide)) (bLoad arg4 harg4 x2 896 (by decide) (by decide)) (xLoad arg2 harg2 x0 3712 (by decide) (by decide)) ?_ (dLoad arg8 harg8 x6 3712 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29]
    exact pay3_at _
  refine ⟨?_, ?_⟩
  · intro y
    refine outPart x0 x1 x2 x3 x4 x5 x6 (fun _ => (0 : EReal)) 7 0 (by decide) (by decide) 56 57 0 3584 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![7, 0, 0] S1x128x512.size (by decide)).toLoadRect) _ (bLoad arg3 harg3 x1 896 (by decide) (by decide)) (bLoad arg4 harg4 x2 896 (by decide) (by decide)) (xLoad arg2 harg2 x0 3584 (by decide) (by decide)) ?_ (dLoad arg8 harg8 x6 3584 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29]
    exact pay3_at _
  refine ⟨?_, ?_⟩
  · intro y
    refine outPart x0 x1 x2 x3 x4 x5 x6 (fun _ => (0 : EReal)) 6 3 (by decide) (by decide) 54 55 384 3456 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![6, 0, 0] S1x128x512.size (by decide)).toLoadRect) _ (bLoad arg3 harg3 x1 768 (by decide) (by decide)) (bLoad arg4 harg4 x2 768 (by decide) (by decide)) (xLoad arg2 harg2 x0 3456 (by decide) (by decide)) ?_ (dLoad arg8 harg8 x6 3456 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25]
    exact pay3_at _
  refine ⟨?_, ?_⟩
  · intro y
    refine outPart x0 x1 x2 x3 x4 x5 x6 (fun _ => (0 : EReal)) 6 2 (by decide) (by decide) 52 53 256 3328 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![6, 0, 0] S1x128x512.size (by decide)).toLoadRect) _ (bLoad arg3 harg3 x1 768 (by decide) (by decide)) (bLoad arg4 harg4 x2 768 (by decide) (by decide)) (xLoad arg2 harg2 x0 3328 (by decide) (by decide)) ?_ (dLoad arg8 harg8 x6 3328 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25]
    exact pay3_at _
  refine ⟨?_, ?_⟩
  · intro y
    refine outPart x0 x1 x2 x3 x4 x5 x6 (fun _ => (0 : EReal)) 6 1 (by decide) (by decide) 50 51 128 3200 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![6, 0, 0] S1x128x512.size (by decide)).toLoadRect) _ (bLoad arg3 harg3 x1 768 (by decide) (by decide)) (bLoad arg4 harg4 x2 768 (by decide) (by decide)) (xLoad arg2 harg2 x0 3200 (by decide) (by decide)) ?_ (dLoad arg8 harg8 x6 3200 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25]
    exact pay3_at _
  refine ⟨?_, ?_⟩
  · intro y
    refine outPart x0 x1 x2 x3 x4 x5 x6 (fun _ => (0 : EReal)) 6 0 (by decide) (by decide) 48 49 0 3072 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![6, 0, 0] S1x128x512.size (by decide)).toLoadRect) _ (bLoad arg3 harg3 x1 768 (by decide) (by decide)) (bLoad arg4 harg4 x2 768 (by decide) (by decide)) (xLoad arg2 harg2 x0 3072 (by decide) (by decide)) ?_ (dLoad arg8 harg8 x6 3072 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25]
    exact pay3_at _
  refine ⟨?_, ?_⟩
  · intro y
    refine outPart x0 x1 x2 x3 x4 x5 x6 (fun _ => (0 : EReal)) 5 3 (by decide) (by decide) 46 47 384 2944 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![5, 0, 0] S1x128x512.size (by decide)).toLoadRect) _ (bLoad arg3 harg3 x1 640 (by decide) (by decide)) (bLoad arg4 harg4 x2 640 (by decide) (by decide)) (xLoad arg2 harg2 x0 2944 (by decide) (by decide)) ?_ (dLoad arg8 harg8 x6 2944 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21]
    exact pay3_at _
  refine ⟨?_, ?_⟩
  · intro y
    refine outPart x0 x1 x2 x3 x4 x5 x6 (fun _ => (0 : EReal)) 5 2 (by decide) (by decide) 44 45 256 2816 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![5, 0, 0] S1x128x512.size (by decide)).toLoadRect) _ (bLoad arg3 harg3 x1 640 (by decide) (by decide)) (bLoad arg4 harg4 x2 640 (by decide) (by decide)) (xLoad arg2 harg2 x0 2816 (by decide) (by decide)) ?_ (dLoad arg8 harg8 x6 2816 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21]
    exact pay3_at _
  refine ⟨?_, ?_⟩
  · intro y
    refine outPart x0 x1 x2 x3 x4 x5 x6 (fun _ => (0 : EReal)) 5 1 (by decide) (by decide) 42 43 128 2688 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![5, 0, 0] S1x128x512.size (by decide)).toLoadRect) _ (bLoad arg3 harg3 x1 640 (by decide) (by decide)) (bLoad arg4 harg4 x2 640 (by decide) (by decide)) (xLoad arg2 harg2 x0 2688 (by decide) (by decide)) ?_ (dLoad arg8 harg8 x6 2688 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21]
    exact pay3_at _
  refine ⟨?_, ?_⟩
  · intro y
    refine outPart x0 x1 x2 x3 x4 x5 x6 (fun _ => (0 : EReal)) 5 0 (by decide) (by decide) 40 41 0 2560 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![5, 0, 0] S1x128x512.size (by decide)).toLoadRect) _ (bLoad arg3 harg3 x1 640 (by decide) (by decide)) (bLoad arg4 harg4 x2 640 (by decide) (by decide)) (xLoad arg2 harg2 x0 2560 (by decide) (by decide)) ?_ (dLoad arg8 harg8 x6 2560 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21]
    exact pay3_at _
  refine ⟨?_, ?_⟩
  · intro y
    refine outPart x0 x1 x2 x3 x4 x5 x6 (fun _ => (0 : EReal)) 4 3 (by decide) (by decide) 38 39 384 2432 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![4, 0, 0] S1x128x512.size (by decide)).toLoadRect) _ (bLoad arg3 harg3 x1 512 (by decide) (by decide)) (bLoad arg4 harg4 x2 512 (by decide) (by decide)) (xLoad arg2 harg2 x0 2432 (by decide) (by decide)) ?_ (dLoad arg8 harg8 x6 2432 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17]
    exact pay3_at _
  refine ⟨?_, ?_⟩
  · intro y
    refine outPart x0 x1 x2 x3 x4 x5 x6 (fun _ => (0 : EReal)) 4 2 (by decide) (by decide) 36 37 256 2304 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![4, 0, 0] S1x128x512.size (by decide)).toLoadRect) _ (bLoad arg3 harg3 x1 512 (by decide) (by decide)) (bLoad arg4 harg4 x2 512 (by decide) (by decide)) (xLoad arg2 harg2 x0 2304 (by decide) (by decide)) ?_ (dLoad arg8 harg8 x6 2304 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17]
    exact pay3_at _
  refine ⟨?_, ?_⟩
  · intro y
    refine outPart x0 x1 x2 x3 x4 x5 x6 (fun _ => (0 : EReal)) 4 1 (by decide) (by decide) 34 35 128 2176 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![4, 0, 0] S1x128x512.size (by decide)).toLoadRect) _ (bLoad arg3 harg3 x1 512 (by decide) (by decide)) (bLoad arg4 harg4 x2 512 (by decide) (by decide)) (xLoad arg2 harg2 x0 2176 (by decide) (by decide)) ?_ (dLoad arg8 harg8 x6 2176 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17]
    exact pay3_at _
  refine ⟨?_, ?_⟩
  · intro y
    refine outPart x0 x1 x2 x3 x4 x5 x6 (fun _ => (0 : EReal)) 4 0 (by decide) (by decide) 32 33 0 2048 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![4, 0, 0] S1x128x512.size (by decide)).toLoadRect) _ (bLoad arg3 harg3 x1 512 (by decide) (by decide)) (bLoad arg4 harg4 x2 512 (by decide) (by decide)) (xLoad arg2 harg2 x0 2048 (by decide) (by decide)) ?_ (dLoad arg8 harg8 x6 2048 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17]
    exact pay3_at _
  refine ⟨?_, ?_⟩
  · intro y
    refine outPart x0 x1 x2 x3 x4 x5 x6 (fun _ => (0 : EReal)) 3 3 (by decide) (by decide) 30 31 384 1920 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![3, 0, 0] S1x128x512.size (by decide)).toLoadRect) _ (bLoad arg3 harg3 x1 384 (by decide) (by decide)) (bLoad arg4 harg4 x2 384 (by decide) (by decide)) (xLoad arg2 harg2 x0 1920 (by decide) (by decide)) ?_ (dLoad arg8 harg8 x6 1920 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13]
    exact pay3_at _
  refine ⟨?_, ?_⟩
  · intro y
    refine outPart x0 x1 x2 x3 x4 x5 x6 (fun _ => (0 : EReal)) 3 2 (by decide) (by decide) 28 29 256 1792 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![3, 0, 0] S1x128x512.size (by decide)).toLoadRect) _ (bLoad arg3 harg3 x1 384 (by decide) (by decide)) (bLoad arg4 harg4 x2 384 (by decide) (by decide)) (xLoad arg2 harg2 x0 1792 (by decide) (by decide)) ?_ (dLoad arg8 harg8 x6 1792 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13]
    exact pay3_at _
  refine ⟨?_, ?_⟩
  · intro y
    refine outPart x0 x1 x2 x3 x4 x5 x6 (fun _ => (0 : EReal)) 3 1 (by decide) (by decide) 26 27 128 1664 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![3, 0, 0] S1x128x512.size (by decide)).toLoadRect) _ (bLoad arg3 harg3 x1 384 (by decide) (by decide)) (bLoad arg4 harg4 x2 384 (by decide) (by decide)) (xLoad arg2 harg2 x0 1664 (by decide) (by decide)) ?_ (dLoad arg8 harg8 x6 1664 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13]
    exact pay3_at _
  refine ⟨?_, ?_⟩
  · intro y
    refine outPart x0 x1 x2 x3 x4 x5 x6 (fun _ => (0 : EReal)) 3 0 (by decide) (by decide) 24 25 0 1536 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![3, 0, 0] S1x128x512.size (by decide)).toLoadRect) _ (bLoad arg3 harg3 x1 384 (by decide) (by decide)) (bLoad arg4 harg4 x2 384 (by decide) (by decide)) (xLoad arg2 harg2 x0 1536 (by decide) (by decide)) ?_ (dLoad arg8 harg8 x6 1536 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13]
    exact pay3_at _
  refine ⟨?_, ?_⟩
  · intro y
    refine outPart x0 x1 x2 x3 x4 x5 x6 (fun _ => (0 : EReal)) 2 3 (by decide) (by decide) 22 23 384 1408 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![2, 0, 0] S1x128x512.size (by decide)).toLoadRect) _ (bLoad arg3 harg3 x1 256 (by decide) (by decide)) (bLoad arg4 harg4 x2 256 (by decide) (by decide)) (xLoad arg2 harg2 x0 1408 (by decide) (by decide)) ?_ (dLoad arg8 harg8 x6 1408 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9]
    exact pay3_at _
  refine ⟨?_, ?_⟩
  · intro y
    refine outPart x0 x1 x2 x3 x4 x5 x6 (fun _ => (0 : EReal)) 2 2 (by decide) (by decide) 20 21 256 1280 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![2, 0, 0] S1x128x512.size (by decide)).toLoadRect) _ (bLoad arg3 harg3 x1 256 (by decide) (by decide)) (bLoad arg4 harg4 x2 256 (by decide) (by decide)) (xLoad arg2 harg2 x0 1280 (by decide) (by decide)) ?_ (dLoad arg8 harg8 x6 1280 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9]
    exact pay3_at _
  refine ⟨?_, ?_⟩
  · intro y
    refine outPart x0 x1 x2 x3 x4 x5 x6 (fun _ => (0 : EReal)) 2 1 (by decide) (by decide) 18 19 128 1152 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![2, 0, 0] S1x128x512.size (by decide)).toLoadRect) _ (bLoad arg3 harg3 x1 256 (by decide) (by decide)) (bLoad arg4 harg4 x2 256 (by decide) (by decide)) (xLoad arg2 harg2 x0 1152 (by decide) (by decide)) ?_ (dLoad arg8 harg8 x6 1152 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9]
    exact pay3_at _
  refine ⟨?_, ?_⟩
  · intro y
    refine outPart x0 x1 x2 x3 x4 x5 x6 (fun _ => (0 : EReal)) 2 0 (by decide) (by decide) 16 17 0 1024 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![2, 0, 0] S1x128x512.size (by decide)).toLoadRect) _ (bLoad arg3 harg3 x1 256 (by decide) (by decide)) (bLoad arg4 harg4 x2 256 (by decide) (by decide)) (xLoad arg2 harg2 x0 1024 (by decide) (by decide)) ?_ (dLoad arg8 harg8 x6 1024 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9]
    exact pay3_at _
  refine ⟨?_, ?_⟩
  · intro y
    refine outPart x0 x1 x2 x3 x4 x5 x6 (fun _ => (0 : EReal)) 1 3 (by decide) (by decide) 14 15 384 896 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![1, 0, 0] S1x128x512.size (by decide)).toLoadRect) _ (bLoad arg3 harg3 x1 128 (by decide) (by decide)) (bLoad arg4 harg4 x2 128 (by decide) (by decide)) (xLoad arg2 harg2 x0 896 (by decide) (by decide)) ?_ (dLoad arg8 harg8 x6 896 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5]
    exact pay3_at _
  refine ⟨?_, ?_⟩
  · intro y
    refine outPart x0 x1 x2 x3 x4 x5 x6 (fun _ => (0 : EReal)) 1 2 (by decide) (by decide) 12 13 256 768 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![1, 0, 0] S1x128x512.size (by decide)).toLoadRect) _ (bLoad arg3 harg3 x1 128 (by decide) (by decide)) (bLoad arg4 harg4 x2 128 (by decide) (by decide)) (xLoad arg2 harg2 x0 768 (by decide) (by decide)) ?_ (dLoad arg8 harg8 x6 768 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5]
    exact pay3_at _
  refine ⟨?_, ?_⟩
  · intro y
    refine outPart x0 x1 x2 x3 x4 x5 x6 (fun _ => (0 : EReal)) 1 1 (by decide) (by decide) 10 11 128 640 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![1, 0, 0] S1x128x512.size (by decide)).toLoadRect) _ (bLoad arg3 harg3 x1 128 (by decide) (by decide)) (bLoad arg4 harg4 x2 128 (by decide) (by decide)) (xLoad arg2 harg2 x0 640 (by decide) (by decide)) ?_ (dLoad arg8 harg8 x6 640 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5]
    exact pay3_at _
  refine ⟨?_, ?_⟩
  · intro y
    refine outPart x0 x1 x2 x3 x4 x5 x6 (fun _ => (0 : EReal)) 1 0 (by decide) (by decide) 8 9 0 512 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![1, 0, 0] S1x128x512.size (by decide)).toLoadRect) _ (bLoad arg3 harg3 x1 128 (by decide) (by decide)) (bLoad arg4 harg4 x2 128 (by decide) (by decide)) (xLoad arg2 harg2 x0 512 (by decide) (by decide)) ?_ (dLoad arg8 harg8 x6 512 (by decide) (by decide)) y
    intro n q
    simp (disch := decide) only [↓View.readCov_skip, ↓View.readCov_fill, kernelRun0_A.sl.HS0_1, kernelRun0_A.sl.HS0_2, kernelRun0_A.sl.HS0_3, kernelRun0_A.sl.HS0_4, kernelRun0_A.sl.HS0_5]
    exact pay3_at _
  refine ⟨?_, ?_⟩
  · intro y
    refine outPart x0 x1 x2 x3 x4 x5 x6 (fun _ => (0 : EReal)) 0 3 (by decide) (by decide) 6 7 384 384 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![0, 0, 0] S1x128x512.size (by decide)).toLoadRect) _ (bLoad arg3 harg3 x1 0 (by decide) (by decide)) (bLoad arg4 harg4 x2 0 (by decide) (by decide)) (xLoad arg2 harg2 x0 384 (by decide) (by decide)) ?_ (dLoad arg8 harg8 x6 384 (by decide) (by decide)) y
    intro n q
    simp (disch := decide) only [↓View.readCov_skip, ↓View.readCov_fill, kernelRun0_A.sl.HS0_1]
    exact pay3_at _
  refine ⟨?_, ?_⟩
  · intro y
    refine outPart x0 x1 x2 x3 x4 x5 x6 (fun _ => (0 : EReal)) 0 2 (by decide) (by decide) 4 5 256 256 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![0, 0, 0] S1x128x512.size (by decide)).toLoadRect) _ (bLoad arg3 harg3 x1 0 (by decide) (by decide)) (bLoad arg4 harg4 x2 0 (by decide) (by decide)) (xLoad arg2 harg2 x0 256 (by decide) (by decide)) ?_ (dLoad arg8 harg8 x6 256 (by decide) (by decide)) y
    intro n q
    simp (disch := decide) only [↓View.readCov_skip, ↓View.readCov_fill, kernelRun0_A.sl.HS0_1]
    exact pay3_at _
  refine ⟨?_, ?_⟩
  · intro y
    refine outPart x0 x1 x2 x3 x4 x5 x6 (fun _ => (0 : EReal)) 0 1 (by decide) (by decide) 2 3 128 128 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![0, 0, 0] S1x128x512.size (by decide)).toLoadRect) _ (bLoad arg3 harg3 x1 0 (by decide) (by decide)) (bLoad arg4 harg4 x2 0 (by decide) (by decide)) (xLoad arg2 harg2 x0 128 (by decide) (by decide)) ?_ (dLoad arg8 harg8 x6 128 (by decide) (by decide)) y
    intro n q
    simp (disch := decide) only [↓View.readCov_skip, ↓View.readCov_fill, kernelRun0_A.sl.HS0_1]
    exact pay3_at _
  refine ⟨?_, ?_⟩
  · intro y
    refine outPart x0 x1 x2 x3 x4 x5 x6 (fun _ => (0 : EReal)) 0 0 (by decide) (by decide) 0 1 0 0 (by decide) (by decide) (by decide) rfl rfl rfl rfl (by decide) _ _ _ (whole3 arg5 harg5 x3 (by decide)) (whole2 arg7 harg7 x5 (by decide)) (whole2 arg6 harg6 x4 (by decide)) _ _ _ (arg10.view.readCov (Val := Elt Ideal) _ (Rect.unit (s := S8x128x512) ![0, 0, 0] S1x128x512.size (by decide)).toLoadRect) _ (bLoad arg3 harg3 x1 0 (by decide) (by decide)) (bLoad arg4 harg4 x2 0 (by decide) (by decide)) (xLoad arg2 harg2 x0 0 (by decide) (by decide)) ?_ (dLoad arg8 harg8 x6 0 (by decide) (by decide)) y
    intro n q
    simp (disch := decide) only [↓View.readCov_skip, ↓View.readCov_fill, kernelRun0_A.sl.HS0_1]
    exact pay3_at _
  trivial

end Cert.ScanIdeal.Scan

end
-- ==== Proof.ScanCaseB.lean ====
/- Every store of a later chunk's body is a part of the chunk's state or outputs. -/
module

public import proofs.«01_k».proof.Proof.ScanLoad
public import proofs.«01_k».proof.Proof.Gen.ScanIdeal.Frame
public import Idealize.ShloMosaic.Lib.Pipeline.ReadBack

@[expose] public section

set_option maxRecDepth 16384
set_option maxHeartbeats 4000000

noncomputable section

namespace Cert.ScanIdeal.Scan

open Cert.ScanIdeal Cert.ScanIdeal.Gen Idealize.ShloMosaic Idealize.ShloMosaic.TcCoe Idealize.SL.Sem

theorem stPieces_B (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : ¬cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) (s : Vec Ideal S8x128x512 .f32) :
    View.PiecesOf (stFn x0 x1 x3 x4 x5 s) (kernelRun0_B (F := Ideal) c i arg2 harg2 arg3 harg3 arg4 harg4 arg5 harg5 arg6 harg6 arg7 harg7 arg8 harg8 arg9 harg9 arg10 harg10 hc0 x0 x1 x2 x3 x4 x5 x6 s).2.1 := by
  delta kernelRun0_B
  refine ⟨?_, ?_⟩
  · intro y
    exact stPart x0 x1 x3 x4 x5 s 7 3 (by decide) (by decide) 62 63 384 (by decide) (by decide) rfl rfl rfl (by decide) _ _ _ (whole3 arg5 harg5 x3 (by decide)) (whole2 arg7 harg7 x5 (by decide)) (whole2 arg6 harg6 x4 (by decide)) _ _ _ (bLoad arg3 harg3 x1 896 (by decide) (by decide)) (xLoad arg2 harg2 x0 3968 (by decide) (by decide)) (fun n q => sLoad arg10 harg10 s 7 384 (by decide) (by decide) (by decide) n q) y
  refine ⟨?_, ?_⟩
  · intro y
    exact stPart x0 x1 x3 x4 x5 s 7 2 (by decide) (by decide) 60 61 256 (by decide) (by decide) rfl rfl rfl (by decide) _ _ _ (whole3 arg5 harg5 x3 (by decide)) (whole2 arg7 harg7 x5 (by decide)) (whole2 arg6 harg6 x4 (by decide)) _ _ _ (bLoad arg3 harg3 x1 896 (by decide) (by decide)) (xLoad arg2 harg2 x0 3840 (by decide) (by decide)) (fun n q => sLoad arg10 harg10 s 7 256 (by decide) (by decide) (by decide) n q) y
  refine ⟨?_, ?_⟩
  · intro y
    exact stPart x0 x1 x3 x4 x5 s 7 1 (by decide) (by decide) 58 59 128 (by decide) (by decide) rfl rfl rfl (by decide) _ _ _ (whole3 arg5 harg5 x3 (by decide)) (whole2 arg7 harg7 x5 (by decide)) (whole2 arg6 harg6 x4 (by decide)) _ _ _ (bLoad arg3 harg3 x1 896 (by decide) (by decide)) (xLoad arg2 harg2 x0 3712 (by decide) (by decide)) (fun n q => sLoad arg10 harg10 s 7 128 (by decide) (by decide) (by decide) n q) y
  refine ⟨?_, ?_⟩
  · intro y
    exact stPart x0 x1 x3 x4 x5 s 7 0 (by decide) (by decide) 56 57 0 (by decide) (by decide) rfl rfl rfl (by decide) _ _ _ (whole3 arg5 harg5 x3 (by decide)) (whole2 arg7 harg7 x5 (by decide)) (whole2 arg6 harg6 x4 (by decide)) _ _ _ (bLoad arg3 harg3 x1 896 (by decide) (by decide)) (xLoad arg2 harg2 x0 3584 (by decide) (by decide)) (fun n q => sLoad arg10 harg10 s 7 0 (by decide) (by decide) (by decide) n q) y
  refine ⟨?_, ?_⟩
  · intro y
    exact stPart x0 x1 x3 x4 x5 s 6 3 (by decide) (by decide) 54 55 384 (by decide) (by decide) rfl rfl rfl (by decide) _ _ _ (whole3 arg5 harg5 x3 (by decide)) (whole2 arg7 harg7 x5 (by decide)) (whole2 arg6 harg6 x4 (by decide)) _ _ _ (bLoad arg3 harg3 x1 768 (by decide) (by decide)) (xLoad arg2 harg2 x0 3456 (by decide) (by decide)) (fun n q => sLoad arg10 harg10 s 6 384 (by decide) (by decide) (by decide) n q) y
  refine ⟨?_, ?_⟩
  · intro y
    exact stPart x0 x1 x3 x4 x5 s 6 2 (by decide) (by decide) 52 53 256 (by decide) (by decide) rfl rfl rfl (by decide) _ _ _ (whole3 arg5 harg5 x3 (by decide)) (whole2 arg7 harg7 x5 (by decide)) (whole2 arg6 harg6 x4 (by decide)) _ _ _ (bLoad arg3 harg3 x1 768 (by decide) (by decide)) (xLoad arg2 harg2 x0 3328 (by decide) (by decide)) (fun n q => sLoad arg10 harg10 s 6 256 (by decide) (by decide) (by decide) n q) y
  refine ⟨?_, ?_⟩
  · intro y
    exact stPart x0 x1 x3 x4 x5 s 6 1 (by decide) (by decide) 50 51 128 (by decide) (by decide) rfl rfl rfl (by decide) _ _ _ (whole3 arg5 harg5 x3 (by decide)) (whole2 arg7 harg7 x5 (by decide)) (whole2 arg6 harg6 x4 (by decide)) _ _ _ (bLoad arg3 harg3 x1 768 (by decide) (by decide)) (xLoad arg2 harg2 x0 3200 (by decide) (by decide)) (fun n q => sLoad arg10 harg10 s 6 128 (by decide) (by decide) (by decide) n q) y
  refine ⟨?_, ?_⟩
  · intro y
    exact stPart x0 x1 x3 x4 x5 s 6 0 (by decide) (by decide) 48 49 0 (by decide) (by decide) rfl rfl rfl (by decide) _ _ _ (whole3 arg5 harg5 x3 (by decide)) (whole2 arg7 harg7 x5 (by decide)) (whole2 arg6 harg6 x4 (by decide)) _ _ _ (bLoad arg3 harg3 x1 768 (by decide) (by decide)) (xLoad arg2 harg2 x0 3072 (by decide) (by decide)) (fun n q => sLoad arg10 harg10 s 6 0 (by decide) (by decide) (by decide) n q) y
  refine ⟨?_, ?_⟩
  · intro y
    exact stPart x0 x1 x3 x4 x5 s 5 3 (by decide) (by decide) 46 47 384 (by decide) (by decide) rfl rfl rfl (by decide) _ _ _ (whole3 arg5 harg5 x3 (by decide)) (whole2 arg7 harg7 x5 (by decide)) (whole2 arg6 harg6 x4 (by decide)) _ _ _ (bLoad arg3 harg3 x1 640 (by decide) (by decide)) (xLoad arg2 harg2 x0 2944 (by decide) (by decide)) (fun n q => sLoad arg10 harg10 s 5 384 (by decide) (by decide) (by decide) n q) y
  refine ⟨?_, ?_⟩
  · intro y
    exact stPart x0 x1 x3 x4 x5 s 5 2 (by decide) (by decide) 44 45 256 (by decide) (by decide) rfl rfl rfl (by decide) _ _ _ (whole3 arg5 harg5 x3 (by decide)) (whole2 arg7 harg7 x5 (by decide)) (whole2 arg6 harg6 x4 (by decide)) _ _ _ (bLoad arg3 harg3 x1 640 (by decide) (by decide)) (xLoad arg2 harg2 x0 2816 (by decide) (by decide)) (fun n q => sLoad arg10 harg10 s 5 256 (by decide) (by decide) (by decide) n q) y
  refine ⟨?_, ?_⟩
  · intro y
    exact stPart x0 x1 x3 x4 x5 s 5 1 (by decide) (by decide) 42 43 128 (by decide) (by decide) rfl rfl rfl (by decide) _ _ _ (whole3 arg5 harg5 x3 (by decide)) (whole2 arg7 harg7 x5 (by decide)) (whole2 arg6 harg6 x4 (by decide)) _ _ _ (bLoad arg3 harg3 x1 640 (by decide) (by decide)) (xLoad arg2 harg2 x0 2688 (by decide) (by decide)) (fun n q => sLoad arg10 harg10 s 5 128 (by decide) (by decide) (by decide) n q) y
  refine ⟨?_, ?_⟩
  · intro y
    exact stPart x0 x1 x3 x4 x5 s 5 0 (by decide) (by decide) 40 41 0 (by decide) (by decide) rfl rfl rfl (by decide) _ _ _ (whole3 arg5 harg5 x3 (by decide)) (whole2 arg7 harg7 x5 (by decide)) (whole2 arg6 harg6 x4 (by decide)) _ _ _ (bLoad arg3 harg3 x1 640 (by decide) (by decide)) (xLoad arg2 harg2 x0 2560 (by decide) (by decide)) (fun n q => sLoad arg10 harg10 s 5 0 (by decide) (by decide) (by decide) n q) y
  refine ⟨?_, ?_⟩
  · intro y
    exact stPart x0 x1 x3 x4 x5 s 4 3 (by decide) (by decide) 38 39 384 (by decide) (by decide) rfl rfl rfl (by decide) _ _ _ (whole3 arg5 harg5 x3 (by decide)) (whole2 arg7 harg7 x5 (by decide)) (whole2 arg6 harg6 x4 (by decide)) _ _ _ (bLoad arg3 harg3 x1 512 (by decide) (by decide)) (xLoad arg2 harg2 x0 2432 (by decide) (by decide)) (fun n q => sLoad arg10 harg10 s 4 384 (by decide) (by decide) (by decide) n q) y
  refine ⟨?_, ?_⟩
  · intro y
    exact stPart x0 x1 x3 x4 x5 s 4 2 (by decide) (by decide) 36 37 256 (by decide) (by decide) rfl rfl rfl (by decide) _ _ _ (whole3 arg5 harg5 x3 (by decide)) (whole2 arg7 harg7 x5 (by decide)) (whole2 arg6 harg6 x4 (by decide)) _ _ _ (bLoad arg3 harg3 x1 512 (by decide) (by decide)) (xLoad arg2 harg2 x0 2304 (by decide) (by decide)) (fun n q => sLoad arg10 harg10 s 4 256 (by decide) (by decide) (by decide) n q) y
  refine ⟨?_, ?_⟩
  · intro y
    exact stPart x0 x1 x3 x4 x5 s 4 1 (by decide) (by decide) 34 35 128 (by decide) (by decide) rfl rfl rfl (by decide) _ _ _ (whole3 arg5 harg5 x3 (by decide)) (whole2 arg7 harg7 x5 (by decide)) (whole2 arg6 harg6 x4 (by decide)) _ _ _ (bLoad arg3 harg3 x1 512 (by decide) (by decide)) (xLoad arg2 harg2 x0 2176 (by decide) (by decide)) (fun n q => sLoad arg10 harg10 s 4 128 (by decide) (by decide) (by decide) n q) y
  refine ⟨?_, ?_⟩
  · intro y
    exact stPart x0 x1 x3 x4 x5 s 4 0 (by decide) (by decide) 32 33 0 (by decide) (by decide) rfl rfl rfl (by decide) _ _ _ (whole3 arg5 harg5 x3 (by decide)) (whole2 arg7 harg7 x5 (by decide)) (whole2 arg6 harg6 x4 (by decide)) _ _ _ (bLoad arg3 harg3 x1 512 (by decide) (by decide)) (xLoad arg2 harg2 x0 2048 (by decide) (by decide)) (fun n q => sLoad arg10 harg10 s 4 0 (by decide) (by decide) (by decide) n q) y
  refine ⟨?_, ?_⟩
  · intro y
    exact stPart x0 x1 x3 x4 x5 s 3 3 (by decide) (by decide) 30 31 384 (by decide) (by decide) rfl rfl rfl (by decide) _ _ _ (whole3 arg5 harg5 x3 (by decide)) (whole2 arg7 harg7 x5 (by decide)) (whole2 arg6 harg6 x4 (by decide)) _ _ _ (bLoad arg3 harg3 x1 384 (by decide) (by decide)) (xLoad arg2 harg2 x0 1920 (by decide) (by decide)) (fun n q => sLoad arg10 harg10 s 3 384 (by decide) (by decide) (by decide) n q) y
  refine ⟨?_, ?_⟩
  · intro y
    exact stPart x0 x1 x3 x4 x5 s 3 2 (by decide) (by decide) 28 29 256 (by decide) (by decide) rfl rfl rfl (by decide) _ _ _ (whole3 arg5 harg5 x3 (by decide)) (whole2 arg7 harg7 x5 (by decide)) (whole2 arg6 harg6 x4 (by decide)) _ _ _ (bLoad arg3 harg3 x1 384 (by decide) (by decide)) (xLoad arg2 harg2 x0 1792 (by decide) (by decide)) (fun n q => sLoad arg10 harg10 s 3 256 (by decide) (by decide) (by decide) n q) y
  refine ⟨?_, ?_⟩
  · intro y
    exact stPart x0 x1 x3 x4 x5 s 3 1 (by decide) (by decide) 26 27 128 (by decide) (by decide) rfl rfl rfl (by decide) _ _ _ (whole3 arg5 harg5 x3 (by decide)) (whole2 arg7 harg7 x5 (by decide)) (whole2 arg6 harg6 x4 (by decide)) _ _ _ (bLoad arg3 harg3 x1 384 (by decide) (by decide)) (xLoad arg2 harg2 x0 1664 (by decide) (by decide)) (fun n q => sLoad arg10 harg10 s 3 128 (by decide) (by decide) (by decide) n q) y
  refine ⟨?_, ?_⟩
  · intro y
    exact stPart x0 x1 x3 x4 x5 s 3 0 (by decide) (by decide) 24 25 0 (by decide) (by decide) rfl rfl rfl (by decide) _ _ _ (whole3 arg5 harg5 x3 (by decide)) (whole2 arg7 harg7 x5 (by decide)) (whole2 arg6 harg6 x4 (by decide)) _ _ _ (bLoad arg3 harg3 x1 384 (by decide) (by decide)) (xLoad arg2 harg2 x0 1536 (by decide) (by decide)) (fun n q => sLoad arg10 harg10 s 3 0 (by decide) (by decide) (by decide) n q) y
  refine ⟨?_, ?_⟩
  · intro y
    exact stPart x0 x1 x3 x4 x5 s 2 3 (by decide) (by decide) 22 23 384 (by decide) (by decide) rfl rfl rfl (by decide) _ _ _ (whole3 arg5 harg5 x3 (by decide)) (whole2 arg7 harg7 x5 (by decide)) (whole2 arg6 harg6 x4 (by decide)) _ _ _ (bLoad arg3 harg3 x1 256 (by decide) (by decide)) (xLoad arg2 harg2 x0 1408 (by decide) (by decide)) (fun n q => sLoad arg10 harg10 s 2 384 (by decide) (by decide) (by decide) n q) y
  refine ⟨?_, ?_⟩
  · intro y
    exact stPart x0 x1 x3 x4 x5 s 2 2 (by decide) (by decide) 20 21 256 (by decide) (by decide) rfl rfl rfl (by decide) _ _ _ (whole3 arg5 harg5 x3 (by decide)) (whole2 arg7 harg7 x5 (by decide)) (whole2 arg6 harg6 x4 (by decide)) _ _ _ (bLoad arg3 harg3 x1 256 (by decide) (by decide)) (xLoad arg2 harg2 x0 1280 (by decide) (by decide)) (fun n q => sLoad arg10 harg10 s 2 256 (by decide) (by decide) (by decide) n q) y
  refine ⟨?_, ?_⟩
  · intro y
    exact stPart x0 x1 x3 x4 x5 s 2 1 (by decide) (by decide) 18 19 128 (by decide) (by decide) rfl rfl rfl (by decide) _ _ _ (whole3 arg5 harg5 x3 (by decide)) (whole2 arg7 harg7 x5 (by decide)) (whole2 arg6 harg6 x4 (by decide)) _ _ _ (bLoad arg3 harg3 x1 256 (by decide) (by decide)) (xLoad arg2 harg2 x0 1152 (by decide) (by decide)) (fun n q => sLoad arg10 harg10 s 2 128 (by decide) (by decide) (by decide) n q) y
  refine ⟨?_, ?_⟩
  · intro y
    exact stPart x0 x1 x3 x4 x5 s 2 0 (by decide) (by decide) 16 17 0 (by decide) (by decide) rfl rfl rfl (by decide) _ _ _ (whole3 arg5 harg5 x3 (by decide)) (whole2 arg7 harg7 x5 (by decide)) (whole2 arg6 harg6 x4 (by decide)) _ _ _ (bLoad arg3 harg3 x1 256 (by decide) (by decide)) (xLoad arg2 harg2 x0 1024 (by decide) (by decide)) (fun n q => sLoad arg10 harg10 s 2 0 (by decide) (by decide) (by decide) n q) y
  refine ⟨?_, ?_⟩
  · intro y
    exact stPart x0 x1 x3 x4 x5 s 1 3 (by decide) (by decide) 14 15 384 (by decide) (by decide) rfl rfl rfl (by decide) _ _ _ (whole3 arg5 harg5 x3 (by decide)) (whole2 arg7 harg7 x5 (by decide)) (whole2 arg6 harg6 x4 (by decide)) _ _ _ (bLoad arg3 harg3 x1 128 (by decide) (by decide)) (xLoad arg2 harg2 x0 896 (by decide) (by decide)) (fun n q => sLoad arg10 harg10 s 1 384 (by decide) (by decide) (by decide) n q) y
  refine ⟨?_, ?_⟩
  · intro y
    exact stPart x0 x1 x3 x4 x5 s 1 2 (by decide) (by decide) 12 13 256 (by decide) (by decide) rfl rfl rfl (by decide) _ _ _ (whole3 arg5 harg5 x3 (by decide)) (whole2 arg7 harg7 x5 (by decide)) (whole2 arg6 harg6 x4 (by decide)) _ _ _ (bLoad arg3 harg3 x1 128 (by decide) (by decide)) (xLoad arg2 harg2 x0 768 (by decide) (by decide)) (fun n q => sLoad arg10 harg10 s 1 256 (by decide) (by decide) (by decide) n q) y
  refine ⟨?_, ?_⟩
  · intro y
    exact stPart x0 x1 x3 x4 x5 s 1 1 (by decide) (by decide) 10 11 128 (by decide) (by decide) rfl rfl rfl (by decide) _ _ _ (whole3 arg5 harg5 x3 (by decide)) (whole2 arg7 harg7 x5 (by decide)) (whole2 arg6 harg6 x4 (by decide)) _ _ _ (bLoad arg3 harg3 x1 128 (by decide) (by decide)) (xLoad arg2 harg2 x0 640 (by decide) (by decide)) (fun n q => sLoad arg10 harg10 s 1 128 (by decide) (by decide) (by decide) n q) y
  refine ⟨?_, ?_⟩
  · intro y
    exact stPart x0 x1 x3 x4 x5 s 1 0 (by decide) (by decide) 8 9 0 (by decide) (by decide) rfl rfl rfl (by decide) _ _ _ (whole3 arg5 harg5 x3 (by decide)) (whole2 arg7 harg7 x5 (by decide)) (whole2 arg6 harg6 x4 (by decide)) _ _ _ (bLoad arg3 harg3 x1 128 (by decide) (by decide)) (xLoad arg2 harg2 x0 512 (by decide) (by decide)) (fun n q => sLoad arg10 harg10 s 1 0 (by decide) (by decide) (by decide) n q) y
  refine ⟨?_, ?_⟩
  · intro y
    exact stPart x0 x1 x3 x4 x5 s 0 3 (by decide) (by decide) 6 7 384 (by decide) (by decide) rfl rfl rfl (by decide) _ _ _ (whole3 arg5 harg5 x3 (by decide)) (whole2 arg7 harg7 x5 (by decide)) (whole2 arg6 harg6 x4 (by decide)) _ _ _ (bLoad arg3 harg3 x1 0 (by decide) (by decide)) (xLoad arg2 harg2 x0 384 (by decide) (by decide)) (fun n q => sLoad arg10 harg10 s 0 384 (by decide) (by decide) (by decide) n q) y
  refine ⟨?_, ?_⟩
  · intro y
    exact stPart x0 x1 x3 x4 x5 s 0 2 (by decide) (by decide) 4 5 256 (by decide) (by decide) rfl rfl rfl (by decide) _ _ _ (whole3 arg5 harg5 x3 (by decide)) (whole2 arg7 harg7 x5 (by decide)) (whole2 arg6 harg6 x4 (by decide)) _ _ _ (bLoad arg3 harg3 x1 0 (by decide) (by decide)) (xLoad arg2 harg2 x0 256 (by decide) (by decide)) (fun n q => sLoad arg10 harg10 s 0 256 (by decide) (by decide) (by decide) n q) y
  refine ⟨?_, ?_⟩
  · intro y
    exact stPart x0 x1 x3 x4 x5 s 0 1 (by decide) (by decide) 2 3 128 (by decide) (by decide) rfl rfl rfl (by decide) _ _ _ (whole3 arg5 harg5 x3 (by decide)) (whole2 arg7 harg7 x5 (by decide)) (whole2 arg6 harg6 x4 (by decide)) _ _ _ (bLoad arg3 harg3 x1 0 (by decide) (by decide)) (xLoad arg2 harg2 x0 128 (by decide) (by decide)) (fun n q => sLoad arg10 harg10 s 0 128 (by decide) (by decide) (by decide) n q) y
  refine ⟨?_, ?_⟩
  · intro y
    exact stPart x0 x1 x3 x4 x5 s 0 0 (by decide) (by decide) 0 1 0 (by decide) (by decide) rfl rfl rfl (by decide) _ _ _ (whole3 arg5 harg5 x3 (by decide)) (whole2 arg7 harg7 x5 (by decide)) (whole2 arg6 harg6 x4 (by decide)) _ _ _ (bLoad arg3 harg3 x1 0 (by decide) (by decide)) (xLoad arg2 harg2 x0 0 (by decide) (by decide)) (fun n q => sLoad arg10 harg10 s 0 0 (by decide) (by decide) (by decide) n q) y
  trivial

theorem outPieces_B (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : ¬cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) (s : Vec Ideal S8x128x512 .f32) :
    View.PiecesOf (outFn x0 x1 x2 x3 x4 x5 x6 s) (kernelRun0_B (F := Ideal) c i arg2 harg2 arg3 harg3 arg4 harg4 arg5 harg5 arg6 harg6 arg7 harg7 arg8 harg8 arg9 harg9 arg10 harg10 hc0 x0 x1 x2 x3 x4 x5 x6 s).1 := by
  delta kernelRun0_B
  refine ⟨?_, ?_⟩
  · intro y
    exact outPart x0 x1 x2 x3 x4 x5 x6 s 7 3 (by decide) (by decide) 62 63 384 3968 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 896 (by decide) (by decide)) (bLoad arg4 harg4 x2 896 (by decide) (by decide)) (xLoad arg2 harg2 x0 3968 (by decide) (by decide)) (gLoad arg10 harg10 s 7 (by decide) (by decide)) (dLoad arg8 harg8 x6 3968 (by decide) (by decide)) y
  refine ⟨?_, ?_⟩
  · intro y
    exact outPart x0 x1 x2 x3 x4 x5 x6 s 7 2 (by decide) (by decide) 60 61 256 3840 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 896 (by decide) (by decide)) (bLoad arg4 harg4 x2 896 (by decide) (by decide)) (xLoad arg2 harg2 x0 3840 (by decide) (by decide)) (gLoad arg10 harg10 s 7 (by decide) (by decide)) (dLoad arg8 harg8 x6 3840 (by decide) (by decide)) y
  refine ⟨?_, ?_⟩
  · intro y
    exact outPart x0 x1 x2 x3 x4 x5 x6 s 7 1 (by decide) (by decide) 58 59 128 3712 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 896 (by decide) (by decide)) (bLoad arg4 harg4 x2 896 (by decide) (by decide)) (xLoad arg2 harg2 x0 3712 (by decide) (by decide)) (gLoad arg10 harg10 s 7 (by decide) (by decide)) (dLoad arg8 harg8 x6 3712 (by decide) (by decide)) y
  refine ⟨?_, ?_⟩
  · intro y
    exact outPart x0 x1 x2 x3 x4 x5 x6 s 7 0 (by decide) (by decide) 56 57 0 3584 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 896 (by decide) (by decide)) (bLoad arg4 harg4 x2 896 (by decide) (by decide)) (xLoad arg2 harg2 x0 3584 (by decide) (by decide)) (gLoad arg10 harg10 s 7 (by decide) (by decide)) (dLoad arg8 harg8 x6 3584 (by decide) (by decide)) y
  refine ⟨?_, ?_⟩
  · intro y
    exact outPart x0 x1 x2 x3 x4 x5 x6 s 6 3 (by decide) (by decide) 54 55 384 3456 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 768 (by decide) (by decide)) (bLoad arg4 harg4 x2 768 (by decide) (by decide)) (xLoad arg2 harg2 x0 3456 (by decide) (by decide)) (gLoad arg10 harg10 s 6 (by decide) (by decide)) (dLoad arg8 harg8 x6 3456 (by decide) (by decide)) y
  refine ⟨?_, ?_⟩
  · intro y
    exact outPart x0 x1 x2 x3 x4 x5 x6 s 6 2 (by decide) (by decide) 52 53 256 3328 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 768 (by decide) (by decide)) (bLoad arg4 harg4 x2 768 (by decide) (by decide)) (xLoad arg2 harg2 x0 3328 (by decide) (by decide)) (gLoad arg10 harg10 s 6 (by decide) (by decide)) (dLoad arg8 harg8 x6 3328 (by decide) (by decide)) y
  refine ⟨?_, ?_⟩
  · intro y
    exact outPart x0 x1 x2 x3 x4 x5 x6 s 6 1 (by decide) (by decide) 50 51 128 3200 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 768 (by decide) (by decide)) (bLoad arg4 harg4 x2 768 (by decide) (by decide)) (xLoad arg2 harg2 x0 3200 (by decide) (by decide)) (gLoad arg10 harg10 s 6 (by decide) (by decide)) (dLoad arg8 harg8 x6 3200 (by decide) (by decide)) y
  refine ⟨?_, ?_⟩
  · intro y
    exact outPart x0 x1 x2 x3 x4 x5 x6 s 6 0 (by decide) (by decide) 48 49 0 3072 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 768 (by decide) (by decide)) (bLoad arg4 harg4 x2 768 (by decide) (by decide)) (xLoad arg2 harg2 x0 3072 (by decide) (by decide)) (gLoad arg10 harg10 s 6 (by decide) (by decide)) (dLoad arg8 harg8 x6 3072 (by decide) (by decide)) y
  refine ⟨?_, ?_⟩
  · intro y
    exact outPart x0 x1 x2 x3 x4 x5 x6 s 5 3 (by decide) (by decide) 46 47 384 2944 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 640 (by decide) (by decide)) (bLoad arg4 harg4 x2 640 (by decide) (by decide)) (xLoad arg2 harg2 x0 2944 (by decide) (by decide)) (gLoad arg10 harg10 s 5 (by decide) (by decide)) (dLoad arg8 harg8 x6 2944 (by decide) (by decide)) y
  refine ⟨?_, ?_⟩
  · intro y
    exact outPart x0 x1 x2 x3 x4 x5 x6 s 5 2 (by decide) (by decide) 44 45 256 2816 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 640 (by decide) (by decide)) (bLoad arg4 harg4 x2 640 (by decide) (by decide)) (xLoad arg2 harg2 x0 2816 (by decide) (by decide)) (gLoad arg10 harg10 s 5 (by decide) (by decide)) (dLoad arg8 harg8 x6 2816 (by decide) (by decide)) y
  refine ⟨?_, ?_⟩
  · intro y
    exact outPart x0 x1 x2 x3 x4 x5 x6 s 5 1 (by decide) (by decide) 42 43 128 2688 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 640 (by decide) (by decide)) (bLoad arg4 harg4 x2 640 (by decide) (by decide)) (xLoad arg2 harg2 x0 2688 (by decide) (by decide)) (gLoad arg10 harg10 s 5 (by decide) (by decide)) (dLoad arg8 harg8 x6 2688 (by decide) (by decide)) y
  refine ⟨?_, ?_⟩
  · intro y
    exact outPart x0 x1 x2 x3 x4 x5 x6 s 5 0 (by decide) (by decide) 40 41 0 2560 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 640 (by decide) (by decide)) (bLoad arg4 harg4 x2 640 (by decide) (by decide)) (xLoad arg2 harg2 x0 2560 (by decide) (by decide)) (gLoad arg10 harg10 s 5 (by decide) (by decide)) (dLoad arg8 harg8 x6 2560 (by decide) (by decide)) y
  refine ⟨?_, ?_⟩
  · intro y
    exact outPart x0 x1 x2 x3 x4 x5 x6 s 4 3 (by decide) (by decide) 38 39 384 2432 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 512 (by decide) (by decide)) (bLoad arg4 harg4 x2 512 (by decide) (by decide)) (xLoad arg2 harg2 x0 2432 (by decide) (by decide)) (gLoad arg10 harg10 s 4 (by decide) (by decide)) (dLoad arg8 harg8 x6 2432 (by decide) (by decide)) y
  refine ⟨?_, ?_⟩
  · intro y
    exact outPart x0 x1 x2 x3 x4 x5 x6 s 4 2 (by decide) (by decide) 36 37 256 2304 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 512 (by decide) (by decide)) (bLoad arg4 harg4 x2 512 (by decide) (by decide)) (xLoad arg2 harg2 x0 2304 (by decide) (by decide)) (gLoad arg10 harg10 s 4 (by decide) (by decide)) (dLoad arg8 harg8 x6 2304 (by decide) (by decide)) y
  refine ⟨?_, ?_⟩
  · intro y
    exact outPart x0 x1 x2 x3 x4 x5 x6 s 4 1 (by decide) (by decide) 34 35 128 2176 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 512 (by decide) (by decide)) (bLoad arg4 harg4 x2 512 (by decide) (by decide)) (xLoad arg2 harg2 x0 2176 (by decide) (by decide)) (gLoad arg10 harg10 s 4 (by decide) (by decide)) (dLoad arg8 harg8 x6 2176 (by decide) (by decide)) y
  refine ⟨?_, ?_⟩
  · intro y
    exact outPart x0 x1 x2 x3 x4 x5 x6 s 4 0 (by decide) (by decide) 32 33 0 2048 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 512 (by decide) (by decide)) (bLoad arg4 harg4 x2 512 (by decide) (by decide)) (xLoad arg2 harg2 x0 2048 (by decide) (by decide)) (gLoad arg10 harg10 s 4 (by decide) (by decide)) (dLoad arg8 harg8 x6 2048 (by decide) (by decide)) y
  refine ⟨?_, ?_⟩
  · intro y
    exact outPart x0 x1 x2 x3 x4 x5 x6 s 3 3 (by decide) (by decide) 30 31 384 1920 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 384 (by decide) (by decide)) (bLoad arg4 harg4 x2 384 (by decide) (by decide)) (xLoad arg2 harg2 x0 1920 (by decide) (by decide)) (gLoad arg10 harg10 s 3 (by decide) (by decide)) (dLoad arg8 harg8 x6 1920 (by decide) (by decide)) y
  refine ⟨?_, ?_⟩
  · intro y
    exact outPart x0 x1 x2 x3 x4 x5 x6 s 3 2 (by decide) (by decide) 28 29 256 1792 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 384 (by decide) (by decide)) (bLoad arg4 harg4 x2 384 (by decide) (by decide)) (xLoad arg2 harg2 x0 1792 (by decide) (by decide)) (gLoad arg10 harg10 s 3 (by decide) (by decide)) (dLoad arg8 harg8 x6 1792 (by decide) (by decide)) y
  refine ⟨?_, ?_⟩
  · intro y
    exact outPart x0 x1 x2 x3 x4 x5 x6 s 3 1 (by decide) (by decide) 26 27 128 1664 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 384 (by decide) (by decide)) (bLoad arg4 harg4 x2 384 (by decide) (by decide)) (xLoad arg2 harg2 x0 1664 (by decide) (by decide)) (gLoad arg10 harg10 s 3 (by decide) (by decide)) (dLoad arg8 harg8 x6 1664 (by decide) (by decide)) y
  refine ⟨?_, ?_⟩
  · intro y
    exact outPart x0 x1 x2 x3 x4 x5 x6 s 3 0 (by decide) (by decide) 24 25 0 1536 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 384 (by decide) (by decide)) (bLoad arg4 harg4 x2 384 (by decide) (by decide)) (xLoad arg2 harg2 x0 1536 (by decide) (by decide)) (gLoad arg10 harg10 s 3 (by decide) (by decide)) (dLoad arg8 harg8 x6 1536 (by decide) (by decide)) y
  refine ⟨?_, ?_⟩
  · intro y
    exact outPart x0 x1 x2 x3 x4 x5 x6 s 2 3 (by decide) (by decide) 22 23 384 1408 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 256 (by decide) (by decide)) (bLoad arg4 harg4 x2 256 (by decide) (by decide)) (xLoad arg2 harg2 x0 1408 (by decide) (by decide)) (gLoad arg10 harg10 s 2 (by decide) (by decide)) (dLoad arg8 harg8 x6 1408 (by decide) (by decide)) y
  refine ⟨?_, ?_⟩
  · intro y
    exact outPart x0 x1 x2 x3 x4 x5 x6 s 2 2 (by decide) (by decide) 20 21 256 1280 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 256 (by decide) (by decide)) (bLoad arg4 harg4 x2 256 (by decide) (by decide)) (xLoad arg2 harg2 x0 1280 (by decide) (by decide)) (gLoad arg10 harg10 s 2 (by decide) (by decide)) (dLoad arg8 harg8 x6 1280 (by decide) (by decide)) y
  refine ⟨?_, ?_⟩
  · intro y
    exact outPart x0 x1 x2 x3 x4 x5 x6 s 2 1 (by decide) (by decide) 18 19 128 1152 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 256 (by decide) (by decide)) (bLoad arg4 harg4 x2 256 (by decide) (by decide)) (xLoad arg2 harg2 x0 1152 (by decide) (by decide)) (gLoad arg10 harg10 s 2 (by decide) (by decide)) (dLoad arg8 harg8 x6 1152 (by decide) (by decide)) y
  refine ⟨?_, ?_⟩
  · intro y
    exact outPart x0 x1 x2 x3 x4 x5 x6 s 2 0 (by decide) (by decide) 16 17 0 1024 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 256 (by decide) (by decide)) (bLoad arg4 harg4 x2 256 (by decide) (by decide)) (xLoad arg2 harg2 x0 1024 (by decide) (by decide)) (gLoad arg10 harg10 s 2 (by decide) (by decide)) (dLoad arg8 harg8 x6 1024 (by decide) (by decide)) y
  refine ⟨?_, ?_⟩
  · intro y
    exact outPart x0 x1 x2 x3 x4 x5 x6 s 1 3 (by decide) (by decide) 14 15 384 896 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 128 (by decide) (by decide)) (bLoad arg4 harg4 x2 128 (by decide) (by decide)) (xLoad arg2 harg2 x0 896 (by decide) (by decide)) (gLoad arg10 harg10 s 1 (by decide) (by decide)) (dLoad arg8 harg8 x6 896 (by decide) (by decide)) y
  refine ⟨?_, ?_⟩
  · intro y
    exact outPart x0 x1 x2 x3 x4 x5 x6 s 1 2 (by decide) (by decide) 12 13 256 768 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 128 (by decide) (by decide)) (bLoad arg4 harg4 x2 128 (by decide) (by decide)) (xLoad arg2 harg2 x0 768 (by decide) (by decide)) (gLoad arg10 harg10 s 1 (by decide) (by decide)) (dLoad arg8 harg8 x6 768 (by decide) (by decide)) y
  refine ⟨?_, ?_⟩
  · intro y
    exact outPart x0 x1 x2 x3 x4 x5 x6 s 1 1 (by decide) (by decide) 10 11 128 640 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 128 (by decide) (by decide)) (bLoad arg4 harg4 x2 128 (by decide) (by decide)) (xLoad arg2 harg2 x0 640 (by decide) (by decide)) (gLoad arg10 harg10 s 1 (by decide) (by decide)) (dLoad arg8 harg8 x6 640 (by decide) (by decide)) y
  refine ⟨?_, ?_⟩
  · intro y
    exact outPart x0 x1 x2 x3 x4 x5 x6 s 1 0 (by decide) (by decide) 8 9 0 512 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 128 (by decide) (by decide)) (bLoad arg4 harg4 x2 128 (by decide) (by decide)) (xLoad arg2 harg2 x0 512 (by decide) (by decide)) (gLoad arg10 harg10 s 1 (by decide) (by decide)) (dLoad arg8 harg8 x6 512 (by decide) (by decide)) y
  refine ⟨?_, ?_⟩
  · intro y
    exact outPart x0 x1 x2 x3 x4 x5 x6 s 0 3 (by decide) (by decide) 6 7 384 384 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 0 (by decide) (by decide)) (bLoad arg4 harg4 x2 0 (by decide) (by decide)) (xLoad arg2 harg2 x0 384 (by decide) (by decide)) (gLoad arg10 harg10 s 0 (by decide) (by decide)) (dLoad arg8 harg8 x6 384 (by decide) (by decide)) y
  refine ⟨?_, ?_⟩
  · intro y
    exact outPart x0 x1 x2 x3 x4 x5 x6 s 0 2 (by decide) (by decide) 4 5 256 256 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 0 (by decide) (by decide)) (bLoad arg4 harg4 x2 0 (by decide) (by decide)) (xLoad arg2 harg2 x0 256 (by decide) (by decide)) (gLoad arg10 harg10 s 0 (by decide) (by decide)) (dLoad arg8 harg8 x6 256 (by decide) (by decide)) y
  refine ⟨?_, ?_⟩
  · intro y
    exact outPart x0 x1 x2 x3 x4 x5 x6 s 0 1 (by decide) (by decide) 2 3 128 128 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 0 (by decide) (by decide)) (bLoad arg4 harg4 x2 0 (by decide) (by decide)) (xLoad arg2 harg2 x0 128 (by decide) (by decide)) (gLoad arg10 harg10 s 0 (by decide) (by decide)) (dLoad arg8 harg8 x6 128 (by decide) (by decide)) y
  refine ⟨?_, ?_⟩
  · intro y
    exact outPart x0 x1 x2 x3 x4 x5 x6 s 0 0 (by decide) (by decide) 0 1 0 0 (by decide) (by decide) (by decide) rfl rfl rfl rfl (by decide) _ _ _ (whole3 arg5 harg5 x3 (by decide)) (whole2 arg7 harg7 x5 (by decide)) (whole2 arg6 harg6 x4 (by decide)) _ _ _ _ _ (bLoad arg3 harg3 x1 0 (by decide) (by decide)) (bLoad arg4 harg4 x2 0 (by decide) (by decide)) (xLoad arg2 harg2 x0 0 (by decide) (by decide)) (gLoad arg10 harg10 s 0 (by decide) (by decide)) (dLoad arg8 harg8 x6 0 (by decide) (by decide)) y
  trivial

end Cert.ScanIdeal.Scan

end
-- ==== Proof.ScanBody.lean ====
/- The scan's body as a whole: what a chunk leaves in its output block and in the carried state. -/
module

public import proofs.«01_k».proof.Proof.ScanCaseA
public import proofs.«01_k».proof.Proof.ScanCaseB
public import proofs.«01_k».proof.Proof.Gen.ScanIdeal.Frame
public import Idealize.ShloMosaic.Lib.Pipeline.ReadBack

@[expose] public section

set_option maxRecDepth 16384
set_option maxHeartbeats 4000000

noncomputable section

namespace Cert.ScanIdeal.Scan

open Cert.ScanIdeal Cert.ScanIdeal.Gen Idealize.ShloMosaic Idealize.ShloMosaic.TcCoe Idealize.SL.Sem

theorem out_B (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : ¬cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) (s : Vec Ideal S8x128x512 .f32) :
    out0_B_7 (F := Ideal) c i arg2 harg2 arg3 harg3 arg4 harg4 arg5 harg5 arg6 harg6 arg7 harg7 arg8 harg8 arg9 harg9 arg10 harg10 hc0 x0 x1 x2 x3 x4 x5 x6 s = outFn x0 x1 x2 x3 x4 x5 x6 s := by
  funext y
  unfold out0_B_7
  exact View.read_writes_apply_of_pieces _ _ (outFn x0 x1 x2 x3 x4 x5 x6 s) _ (outPieces_B c i arg2 harg2 arg3 harg3 arg4 harg4 arg5 harg5 arg6 harg6 arg7 harg7 arg8 harg8 arg9 harg9 arg10 harg10 hc0 x0 x1 x2 x3 x4 x5 x6 s).mem y (cover0_B_7 (F := Ideal) c i arg2 harg2 arg3 harg3 arg4 harg4 arg5 harg5 arg6 harg6 arg7 harg7 arg8 harg8 arg9 harg9 arg10 harg10 hc0 x0 x1 x2 x3 x4 x5 x6 s y)

theorem st_B (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : ¬cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) (s : Vec Ideal S8x128x512 .f32) :
    sout0_B_0 (F := Ideal) c i arg2 harg2 arg3 harg3 arg4 harg4 arg5 harg5 arg6 harg6 arg7 harg7 arg8 harg8 arg9 harg9 arg10 harg10 hc0 x0 x1 x2 x3 x4 x5 x6 s = stFn x0 x1 x3 x4 x5 s := by
  funext y
  unfold sout0_B_0
  exact View.read_writes_apply_of_pieces _ _ (stFn x0 x1 x3 x4 x5 s) _ (stPieces_B c i arg2 harg2 arg3 harg3 arg4 harg4 arg5 harg5 arg6 harg6 arg7 harg7 arg8 harg8 arg9 harg9 arg10 harg10 hc0 x0 x1 x2 x3 x4 x5 x6 s).mem y (scover0_B_0 (F := Ideal) c i arg2 harg2 arg3 harg3 arg4 harg4 arg5 harg5 arg6 harg6 arg7 harg7 arg8 harg8 arg9 harg9 arg10 harg10 hc0 x0 x1 x2 x3 x4 x5 x6 s y)

theorem out_A (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) :
    out0_A_7 (F := Ideal) c i arg2 harg2 arg3 harg3 arg4 harg4 arg5 harg5 arg6 harg6 arg7 harg7 arg8 harg8 arg9 harg9 arg10 harg10 hc0 x0 x1 x2 x3 x4 x5 x6 = outFn x0 x1 x2 x3 x4 x5 x6 (fun _ => (0 : EReal)) := by
  funext y
  unfold out0_A_7
  exact View.read_writes_apply_of_pieces _ _ (outFn x0 x1 x2 x3 x4 x5 x6 (fun _ => (0 : EReal))) _ (outPieces_A c i arg2 harg2 arg3 harg3 arg4 harg4 arg5 harg5 arg6 harg6 arg7 harg7 arg8 harg8 arg9 harg9 arg10 harg10 hc0 x0 x1 x2 x3 x4 x5 x6).mem y (cover0_A_7 (F := Ideal) c i arg2 harg2 arg3 harg3 arg4 harg4 arg5 harg5 arg6 harg6 arg7 harg7 arg8 harg8 arg9 harg9 arg10 harg10 hc0 x0 x1 x2 x3 x4 x5 x6 y)

/-- The pairs' stores after the zero fill cover the state. -/
theorem cover_A (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) (y : S8x128x512.Idx) :
    ∃ pc ∈ (kernelRun0_A (F := Ideal) c i arg2 harg2 arg3 harg3 arg4 harg4 arg5 harg5 arg6 harg6 arg7 harg7 arg8 harg8 arg9 harg9 arg10 harg10 hc0 x0 x1 x2 x3 x4 x5 x6).2.1.take 32, y ∈ pc.1.set :=
  View.cover_of_tiledL ((kernelRun0_A (F := Ideal) c i arg2 harg2 arg3 harg3 arg4 harg4 arg5 harg5 arg6 harg6 arg7 harg7 arg8 harg8 arg9 harg9 arg10 harg10 hc0 x0 x1 x2 x3 x4 x5 x6).2.1.take 32) S1x128x128.size (by sl_kernel_rfl) y

theorem st_A (c : Dev nD) (i : grid0.Coords) (arg2 : Memref sig .tc .vmem S1x128x4096 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x4096 .f32) (harg8 : arg8.IsWhole) (arg9 : Memref sig .tc .vmem S1x128x4096 .f32) (harg9 : arg9.IsWhole) (arg10 : Memref sig .tc .vmem S8x128x512 .f32) (harg10 : arg10.IsWhole) (hc0 : cond0_0 i) (x0 : Vec Ideal S1x128x4096 .bf16) (x1 x2 : Vec Ideal S1x128x1024 .bf16) (x3 : Vec Ideal S1x128x128 .f32) (x4 x5 : Vec Ideal S1x128 .f32) (x6 : Vec Ideal S1x4096 .f32) :
    sout0_A_0 (F := Ideal) c i arg2 harg2 arg3 harg3 arg4 harg4 arg5 harg5 arg6 harg6 arg7 harg7 arg8 harg8 arg9 harg9 arg10 harg10 hc0 x0 x1 x2 x3 x4 x5 x6 = stFn x0 x1 x3 x4 x5 (fun _ => (0 : EReal)) := by
  funext y
  unfold sout0_A_0
  rw [← List.take_append_drop 32 (kernelRun0_A (F := Ideal) c i arg2 harg2 arg3 harg3 arg4 harg4 arg5 harg5 arg6 harg6 arg7 harg7 arg8 harg8 arg9 harg9 arg10 harg10 hc0 x0 x1 x2 x3 x4 x5 x6).2.1, View.writes_append]
  exact View.read_writes_apply_of_pieces _ _ (stFn x0 x1 x3 x4 x5 (fun _ => (0 : EReal))) _ (stPieces_A c i arg2 harg2 arg3 harg3 arg4 harg4 arg5 harg5 arg6 harg6 arg7 harg7 arg8 harg8 arg9 harg9 arg10 harg10 hc0 x0 x1 x2 x3 x4 x5 x6).mem y (cover_A c i arg2 harg2 arg3 harg3 arg4 harg4 arg5 harg5 arg6 harg6 arg7 harg7 arg8 harg8 arg9 harg9 arg10 harg10 hc0 x0 x1 x2 x3 x4 x5 x6 y)

end Cert.ScanIdeal.Scan

end
-- ==== Proof.ScanRun.lean ====
/- The scan over all chunks: the carried state and the result. -/
module

public import proofs.«01_k».proof.Proof.ScanBody
public import proofs.«01_k».proof.Proof.ScanCell
public import proofs.«01_k».proof.Proof.Gen.ScanIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.ScanIdeal.Scan

open Cert.ScanIdeal Cert.ScanIdeal.Gen Idealize.ShloMosaic Idealize.ShloMosaic.TcCoe Idealize.SL.Sem Cert.ScanMath Cert.AttnMath

variable (m : (ℓ : Loc nD τ sig) → Buf (Elt Ideal) ℓ) (c : Dev nD)

theorem idx : ∀ t : Fin cfg0.N, win0_0.index t = ![t.val / 32, t.val % 32, 0] ∧ win0_1.index t = ![t.val / 32, t.val % 32, 4]
    ∧ win0_2.index t = ![t.val / 32, t.val % 32, 5] ∧ win0_3.index t = ![t.val / 32, t.val % 32, 0] ∧ win0_4.index t = ![0, 0]
    ∧ win0_5.index t = ![0, 0] ∧ win0_6.index t = ![0, 0] ∧ win0_7.index t = ![t.val / 32, t.val % 32, 0] :=
  (by decide +kernel : ∀ t : Fin grid0.N, _)

theorem lt64 (t : Fin cfg0.N) : t.val < 64 := t.isLt

/-- The batch of a grid point. -/
def bat (t : Fin cfg0.N) : Fin 2 := ⟨t.val / 32, by have := lt64 t; omega⟩

/-- A chunk's step in the sequence. -/
def pos (t : Fin cfg0.N) (j : Fin 128) : Fin 4096 := ⟨128 * (t.val % 32) + j.val, by omega⟩

theorem r0 (t : Fin cfg0.N) (j : Fin 128) (k : Fin 4096) :
    X0_0 m c t (ix3 0 j k) = m (c.tc.loc main_arg0) (ix3 (bat t) (pos t j) ⟨k.val, by omega⟩) := by
  obtain ⟨e, -⟩ := idx t
  unfold X0_0 Pipeline.Window.fill
  rw [dif_pos (moved0_0 t _)]
  blk_simp [iblk]
  entry_read
  refine congrArg (m (c.tc.loc main_arg0)) ?_
  funext a
  refine Fin.ext ?_
  unfold bat pos
  match a with
  | 0 => blk_simp [e]; rfl
  | 1 => blk_simp [e]; show t.val % 32 * 128 + j.val = 128 * (t.val % 32) + j.val; omega
  | 2 => blk_simp [e]

theorem r1 (t : Fin cfg0.N) (j : Fin 128) (k : Fin 1024) :
    iblk m c 1 t (ix3 0 j k) = m (c.tc.loc main_arg0) (ix3 (bat t) (pos t j) ⟨4096 + k.val, by omega⟩) := by
  obtain ⟨-, e, -⟩ := idx t
  unfold bat pos
  blk_ext [iblk, e]

theorem r2 (t : Fin cfg0.N) (j : Fin 128) (k : Fin 1024) :
    iblk m c 2 t (ix3 0 j k) = m (c.tc.loc main_arg0) (ix3 (bat t) (pos t j) ⟨5120 + k.val, by omega⟩) := by
  obtain ⟨-, -, e, -⟩ := idx t
  unfold bat pos
  blk_ext [iblk, e]

theorem r3 (t : Fin cfg0.N) (j : Fin 128) (h : Fin 128) :
    iblk m c 3 t (ix3 0 j h) = m (c.tc.loc main_arg1) (ix3 (bat t) (pos t j) h) := by
  obtain ⟨-, -, -, e, -⟩ := idx t
  unfold bat pos
  blk_ext [iblk, e]

theorem r4 (t : Fin cfg0.N) (h : Fin 64) :
    iblk m c 4 t (ix2 0 ⟨h.val, by omega⟩) = m (c.tc.loc main_arg2) (ix2 0 h) := by
  obtain ⟨-, -, -, -, e, -⟩ := idx t
  blk_simp [iblk]
  entry_read
  pointwise
  refine congrArg (m (c.tc.loc main_arg2)) ?_
  blk_simp [e]
  exact congrArg₂ ix2 (Fin.ext (Nat.div_eq_of_lt h.isLt)) (Fin.ext (Nat.mod_eq_of_lt h.isLt))

theorem r5 (t : Fin cfg0.N) (h : Fin 64) :
    iblk m c 5 t (ix2 0 ⟨h.val, by omega⟩) = m (c.tc.loc main_arg3) (ix2 0 h) := by
  obtain ⟨-, -, -, -, -, e, -⟩ := idx t
  blk_simp [iblk]
  entry_read
  pointwise
  refine congrArg (m (c.tc.loc main_arg3)) ?_
  blk_simp [e]
  exact congrArg₂ ix2 (Fin.ext (Nat.div_eq_of_lt h.isLt)) (Fin.ext (Nat.mod_eq_of_lt h.isLt))

theorem r6 (t : Fin cfg0.N) (k : Fin 4096) :
    iblk m c 6 t (ix2 0 k) = m (c.tc.loc main_arg4) (ix1 ⟨k.val / 64, by omega⟩) := by
  obtain ⟨-, -, -, -, -, -, e, -⟩ := idx t
  blk_simp [iblk]
  entry_read
  pointwise
  refine congrArg (m (c.tc.loc main_arg4)) ?_
  blk_simp [e]

/-- The scan's inputs. -/
abbrev a0 : S2x4096x6144.Idx → EReal := m (c.tc.loc main_arg0)
abbrev a1 : S2x4096x128.Idx → EReal := m (c.tc.loc main_arg1)
abbrev a2 : S2x64.Idx → EReal := m (c.tc.loc main_arg2)
abbrev a3 : S2x64.Idx → EReal := m (c.tc.loc main_arg3)
abbrev a4 : S64.Idx → EReal := m (c.tc.loc main_arg4)

/-- A head's state before step `k`: columns `kb` of the inputs' second part and `kx` of their first. -/
def stR (b : Fin 2) (h : Fin 64) (kb kx : Fin 6144) (k : ℕ) : ℝ :=
  state (alR (a1 m c) (a2 m c) (a3 m c) b h) (fun j => sp (dR (a1 m c) b h j + rowR (a3 m c) h)) (xR (a0 m c) b kb) (xR (a0 m c) b kx) k

variable (f0 : ∀ b s k, ∃ r : ℝ, a0 m c (ix3 b s k) = (r : EReal)) (f1 : FinDt (a1 m c))
  (f2 : ∀ h, ∃ r : ℝ, a2 m c (ix2 0 h) = (r : EReal)) (f3 : ∀ h, ∃ r : ℝ, a3 m c (ix2 0 h) = (r : EReal))
include f0 f1 f2 f3

theorem st_point (t : Fin cfg0.N) (s : Vec Ideal S8x128x512 .f32) (g : Fin 8) (n : Fin 128) (q : Fin 512)
    (hs : s (ix3 g n q) = (stR m c (bat t) ⟨8 * g.val + q.val / 64, by omega⟩ ⟨4096 + 128 * g.val + n.val, by omega⟩ ⟨512 * g.val + q.val, by omega⟩ (128 * (t.val % 32)) : EReal)) :
    stVal (X0_0 m c t) (iblk m c 1 t) (iblk m c 3 t) (iblk m c 4 t) (iblk m c 5 t) s g n q
      = (stR m c (bat t) ⟨8 * g.val + q.val / 64, by omega⟩ ⟨4096 + 128 * g.val + n.val, by omega⟩ ⟨512 * g.val + q.val, by omega⟩ (128 * (t.val % 32) + 128) : EReal) :=
  st_step _ _ _ _ _ s (128 * (t.val % 32)) _ (dR (a1 m c) (bat t) ⟨8 * g.val + q.val / 64, by omega⟩) _ _ (fun _ => rfl) _ _ g n q
    (fun j => (r3 m c t j _).trans (dR_eq (a1 m c) f1 (bat t) ⟨8 * g.val + q.val / 64, by omega⟩ (pos t j)))
    ((r5 m c t ⟨8 * g.val + q.val / 64, by omega⟩).trans (rowR_eq (a3 m c) f3 _))
    ((r4 m c t ⟨8 * g.val + q.val / 64, by omega⟩).trans (rowR_eq (a2 m c) f2 _))
    (fun j => (r1 m c t j _).trans ((xR_eq (a0 m c) f0 _ _ _).trans (congrArg (fun z => ((xR (a0 m c) (bat t) z (pos t j).val : ℝ) : EReal)) (Fin.ext (Nat.add_assoc _ _ _).symm))))
    (fun j => (r0 m c t j _).trans (xR_eq (a0 m c) f0 _ _ _))
    hs

/-- The state after every chunk. -/
theorem st_all : ∀ (k : ℕ) (hk : k < cfg0.N) (g : Fin 8) (n : Fin 128) (q : Fin 512),
    (outsAt0 m c k hk).2 (ix3 g n q)
      = (stR m c (bat ⟨k, hk⟩) ⟨8 * g.val + q.val / 64, by omega⟩ ⟨4096 + 128 * g.val + n.val, by omega⟩ ⟨512 * g.val + q.val, by omega⟩ (128 * (k % 32) + 128) : EReal) := by
  intro k
  induction k using Nat.strong_induction_on with
  | _ k ih =>
    intro hk g n q
    by_cases h0 : k % 32 = 0
    · rw [outsAt0_A m c ⟨k, hk⟩ h0]
      dsimp only
      rw [st_A]
      refine st_point m c f0 f1 f2 f3 ⟨k, hk⟩ _ g n q ?_
      show (0 : EReal) = _
      unfold stR
      rw [show 128 * (k % 32) = 0 by omega, state_zero, EReal.coe_zero]
    · rw [outsAt0_B m c ⟨k, hk⟩ h0]
      dsimp only
      rw [st_B]
      refine st_point m c f0 f1 f2 f3 ⟨k, hk⟩ _ g n q ?_
      refine (ih (k - 1) (by omega) _ g n q).trans ?_
      have hb : bat ⟨k - 1, by omega⟩ = bat ⟨k, hk⟩ := Fin.ext (by show (k - 1) / 32 = k / 32; omega)
      rw [hb, show 128 * ((k - 1) % 32) + 128 = 128 * (k % 32) by omega]

theorem out_point (t : Fin cfg0.N) (s : Vec Ideal S8x128x512 .f32) (i : Fin 128) (k : Fin 4096)
    (hs : ∀ n : Fin 128, s (ix3 ⟨k.val / 512, by omega⟩ n ⟨k.val % 512, by omega⟩)
      = (stR m c (bat t) ⟨k.val / 64, by omega⟩ ⟨4096 + 128 * (k.val / 512) + n.val, by omega⟩ ⟨k.val, by omega⟩ (128 * (t.val % 32)) : EReal)) :
    outVal (X0_0 m c t) (iblk m c 1 t) (iblk m c 2 t) (iblk m c 3 t) (iblk m c 4 t) (iblk m c 5 t) (iblk m c 6 t) s i k
      = cell (a0 m c) (a1 m c) (a2 m c) (a3 m c) (a4 m c) (bat t) (pos t i) k := by
  refine (out_step _ _ _ _ _ _ _ s (128 * (t.val % 32)) _ (dR (a1 m c) (bat t) ⟨k.val / 64, by omega⟩) _ _ (fun _ => rfl)
    (fun n => xR (a0 m c) (bat t) ⟨4096 + 128 * (k.val / 512) + n.val, by omega⟩) (fun n => xR (a0 m c) (bat t) ⟨5120 + 128 * (k.val / 512) + n.val, by omega⟩ (pos t i).val) _ i k
    (fun j => (r3 m c t j _).trans (dR_eq (a1 m c) f1 (bat t) ⟨k.val / 64, by omega⟩ (pos t j)))
    ((r5 m c t ⟨k.val / 64, by omega⟩).trans (rowR_eq (a3 m c) f3 _))
    ((r4 m c t ⟨k.val / 64, by omega⟩).trans (rowR_eq (a2 m c) f2 _))
    (fun n j => (r1 m c t j _).trans ((xR_eq (a0 m c) f0 _ _ _).trans (congrArg (fun z => ((xR (a0 m c) (bat t) z (pos t j).val : ℝ) : EReal)) (Fin.ext (Nat.add_assoc _ _ _).symm))))
    (fun n => (r2 m c t i _).trans ((xR_eq (a0 m c) f0 _ _ _).trans (congrArg (fun z => ((xR (a0 m c) (bat t) z (pos t i).val : ℝ) : EReal)) (Fin.ext (Nat.add_assoc _ _ _).symm))))
    (fun j => (r0 m c t j k).trans (xR_eq (a0 m c) f0 _ _ _))
    hs).trans ?_
  rw [r0, r6]
  rfl

/-- The scan's result. -/
def result : S2x4096x4096.Idx → EReal := fun y => cell (a0 m c) (a1 m c) (a2 m c) (a3 m c) (a4 m c) (y 0) (y 1) (y 2)

theorem final : (dats m 0 c).arrAt 7 cfg0.N = result m c := by
  refine (dats m 0 c).arrAt_eq_of_covers 7 _ (by decide +kernel) fun t hf y => ?_
  obtain ⟨-, -, -, -, -, -, -, e⟩ := idx t
  blk_simp
  rw [after0_7]
  have tgt : result m c (((View.whole main_v5).slice (win0_7.rect t)).emb y) = cell (a0 m c) (a1 m c) (a2 m c) (a3 m c) (a4 m c) (bat t) (pos t (y 1)) (y 2) := by
    unfold result
    have e0 : ((View.whole main_v5).slice (win0_7.rect t)).emb y 0 = bat t := Fin.ext (by unfold bat; blk_simp [e])
    have e1 : ((View.whole main_v5).slice (win0_7.rect t)).emb y 1 = pos t (y 1) := Fin.ext (by unfold pos; blk_simp [e]; show t.val % 32 * 128 + (y 1).val = 128 * (t.val % 32) + (y 1).val; omega)
    have e2 : ((View.whole main_v5).slice (win0_7.rect t)).emb y 2 = y 2 := Fin.ext (by blk_simp [e])
    rw [e0, e1, e2]
  refine Eq.trans ?_ tgt.symm
  by_cases h0 : t.val % 32 = 0
  · rw [outsAt0_A m c t h0]
    dsimp only
    rw [out_A]
    refine out_point m c f0 f1 f2 f3 t _ (y 1) (y 2) fun n => ?_
    show (0 : EReal) = _
    unfold stR
    rw [show 128 * (t.val % 32) = 0 by omega, state_zero, EReal.coe_zero]
  · rw [outsAt0_B m c t h0]
    dsimp only
    rw [out_B]
    refine out_point m c f0 f1 f2 f3 t _ (y 1) (y 2) fun n => ?_
    have hk : (y 2).val < 4096 := (y 2).isLt
    refine (st_all m c f0 f1 f2 f3 (t.val - 1) _ _ n _).trans ?_
    have hb : bat ⟨t.val - 1, lt_of_le_of_lt (Nat.sub_le _ _) t.isLt⟩ = bat t := Fin.ext (by show (t.val - 1) / 32 = t.val / 32; omega)
    have hh : (⟨8 * ((y 2).val / 512) + (y 2).val % 512 / 64, by omega⟩ : Fin 64) = ⟨(y 2).val / 64, by omega⟩ := Fin.ext (by simp; omega)
    have hx : (⟨512 * ((y 2).val / 512) + (y 2).val % 512, by omega⟩ : Fin 6144) = ⟨(y 2).val, by omega⟩ := Fin.ext (by simp; omega)
    simp only [hb, hh, hx]
    rw [show 128 * ((t.val - 1) % 32) + 128 = 128 * (t.val % 32) by omega]

end Cert.ScanIdeal.Scan

end
-- ==== Proof.ScanClaim.lean ====
/- The forward scan: the kernel's result is the reference's, where its inputs, step sizes and rates are finite. -/
module

public import proofs.«01_k».proof.Defs
public import proofs.«01_k».proof.Proof.AttnClaim
public import proofs.«01_k».proof.Proof.ScanSame
public import proofs.«01_k».proof.Proof.ScanRun
public import proofs.«01_k».proof.Proof.Gen.ScanReferenceIdeal.Run
public import proofs.«01_k».proof.Proof.Gen.ScanReferenceIdeal.Read

@[expose] public section

set_option maxRecDepth 16384

noncomputable section

namespace Cert.ScanIdeal.Scan

open Cert.ScanIdeal Cert.ScanIdeal.Gen Idealize.ShloMosaic Idealize.ShloMosaic.TcCoe Idealize.SL.Sem
open Cert.KernelIdeal.Attn (real_of_lt inf_bf16 inf_f32)

/-- The precondition's side conditions. -/
theorem pre_facts : Cert.Pre_finite_steps.Facts where
  bcast_S_S2x4096x6144 := by decide
  slices_S2x4096x128_S2x4096x64_0_0_0 := by decide
  bcast_S_S2x4096x64 := by decide
  slices_S2x64_S1x64_0_0 := by decide
  bcast_S_S1x64 := by decide

section
attribute [local instance] pre_facts

variable (A0 : S2x4096x6144.Idx → EReal) (A1 : S2x4096x128.Idx → EReal) (A2 A3 : S2x64.Idx → EReal) (A4 : S64.Idx → EReal)

theorem finite_in (h : (Cert.Pre_finite_steps.fn (F := Ideal) A0 A1 A2 A3 A4).1 = fun _ => 1#1) (b : Fin 2) (s : Fin 4096) (k : Fin 6144) :
    ∃ r : ℝ, A0 (ix3 b s k) = (r : EReal) := by
  have h1 := congrFun h (ix3 b s k)
  have e : (Cert.Pre_finite_steps.fn (F := Ideal) A0 A1 A2 A3 A4).1 (ix3 b s k) = Ideal.cmp .olt (max (A0 (ix3 b s k)) (-A0 (ix3 b s k))) (Ideal.ofBits .bf16 0x7F80#16) := by
    pointwise [Cert.Pre_finite_steps.fn]
    try rfl
  exact real_of_lt _ _ inf_bf16 (e.symm.trans h1)

theorem finite_dt (h : (Cert.Pre_finite_steps.fn (F := Ideal) A0 A1 A2 A3 A4).2.1 = fun _ => 1#1) : FinDt A1 := by
  intro b s k
  have h1 := congrFun h (ix3 b s k)
  have e : (Cert.Pre_finite_steps.fn (F := Ideal) A0 A1 A2 A3 A4).2.1 (ix3 b s k)
      = Ideal.cmp .olt (max (A1 (ix3 b s ⟨k.val, by omega⟩)) (-A1 (ix3 b s ⟨k.val, by omega⟩))) (Ideal.ofBits .f32 0x7F800000#32) := by
    pointwise [Cert.Pre_finite_steps.fn]
    try rfl
  exact real_of_lt _ _ inf_f32 (e.symm.trans h1)

theorem finite_rate (h : (Cert.Pre_finite_steps.fn (F := Ideal) A0 A1 A2 A3 A4).2.2.1 = fun _ => 1#1) (k : Fin 64) :
    ∃ r : ℝ, A2 (ix2 0 k) = (r : EReal) := by
  have h1 := congrFun h (ix2 0 k)
  have e : (Cert.Pre_finite_steps.fn (F := Ideal) A0 A1 A2 A3 A4).2.2.1 (ix2 0 k) = Ideal.cmp .olt (max (A2 (ix2 0 k)) (-A2 (ix2 0 k))) (Ideal.ofBits .f32 0x7F800000#32) := by
    pointwise [Cert.Pre_finite_steps.fn]
    try rfl
  exact real_of_lt _ _ inf_f32 (e.symm.trans h1)

theorem finite_shift (h : (Cert.Pre_finite_steps.fn (F := Ideal) A0 A1 A2 A3 A4).2.2.2 = fun _ => 1#1) (k : Fin 64) :
    ∃ r : ℝ, A3 (ix2 0 k) = (r : EReal) := by
  have h1 := congrFun h (ix2 0 k)
  have e : (Cert.Pre_finite_steps.fn (F := Ideal) A0 A1 A2 A3 A4).2.2.2 (ix2 0 k) = Ideal.cmp .olt (max (A3 (ix2 0 k)) (-A3 (ix2 0 k))) (Ideal.ofBits .f32 0x7F800000#32) := by
    pointwise [Cert.Pre_finite_steps.fn]
    try rfl
  exact real_of_lt _ _ inf_f32 (e.symm.trans h1)
end

/-- The forward scan's value claim. -/
theorem value : algebraic_ScanIdeal_ScanReferenceIdeal_pre_finite_steps (hScanIdeal := Cert.ScanIdeal.Gen.facts)
    (hScanReferenceIdeal := Cert.ScanReferenceIdeal.Gen.facts) (hPre_finite_steps := pre_facts) := by
  intro m ρ m' ρ' hpre hargs
  have f0 := fun c => finite_in _ _ _ _ _ (hpre c).1
  have f1 := fun c => finite_dt _ _ _ _ _ (hpre c).2.1
  have f2 := fun c => finite_rate _ _ _ _ _ (hpre c).2.2.1
  have f3 := fun c => finite_shift _ _ _ _ _ (hpre c).2.2.2
  refine ⟨fun c => result m c, ?_, ?_⟩
  · refine (θ_run _ _ _).mono (fun r h c => ?_) (Cert.ScanIdeal.Value.run_blocks m ρ)
    exact ⟨(h c).1.trans (final m c (f0 c) (f1 c) (f2 c) (f3 c)), (h c).2⟩
  · refine (θ_run _ _ _).mono (fun r h c => ?_) (Cert.ScanReferenceIdeal.Value.run m' ρ')
    refine ⟨(h c).1.trans ?_, (h c).2⟩
    rw [Cert.ScanReferenceIdeal.Read.val_main_v55_eq, (hargs c).1, (hargs c).2.1, (hargs c).2.2.1, (hargs c).2.2.2.1, (hargs c).2.2.2.2]
    funext y
    have hy : y = ix3 (y 0) (y 1) (y 2) := by
      funext a
      match a with
      | 0 => rfl
      | 1 => rfl
      | 2 => rfl
    rw [hy]
    exact Cert.ScanReferenceIdeal.Scan.ref_cell _ _ _ _ _ (f0 c) (f1 c) (f2 c) (f3 c) (y 0) (y 1) (y 2)

end Cert.ScanIdeal.Scan

end
-- ==== Proof.StepsTile.lean ====
/- The step-size projection: what the kernel's result holds, element by element. -/
module

public import proofs.«01_k».proof.Proof.Gen.StepsIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.StepsIdeal.Tile

open Cert.StepsIdeal Cert.StepsIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the column tile after it. -/
theorem idx : ∀ t : Fin cfg0.N, win0_0.index t = ![t.val % 8, 0] ∧ win0_1.index t = ![0, 80 + t.val / 8]
    ∧ win0_2.index t = ![t.val % 8, t.val / 8] :=
  (by decide +kernel : ∀ t : Fin grid0.N, _)

/-- The weight tile carried in the scratch: what the first row tile of the column wrote. -/
theorem held (c : Dev nD) (t : Fin cfg0.N) (y : S2048x128.Idx) :
    (outsAt0 m c t.val t.isLt).2 y
      = k0_pay1 (iblk m c 1 ⟨8 * (t.val / 8), Pipeline.run_start_lt t⟩) y := by
  refine Pipeline.eq_of_write_hold_apply (fun n h => (outsAt0 m c n h).2) 8
    (fun t => k0_pay1 (iblk m c 1 t)) (fun t h i => ?_) (fun t h i => ?_) t y
  · rw [outsAt0_A m c t h]
    frame_out
  · rw [outsAt0_B m c t h]
    rfl

/-- One element of the product of the activations and the weight. -/
def cell (x : S2x4096x2048.Idx → EReal) (w : S2048x10368.Idx → EReal) : S8192x128.Idx → EReal := fun i =>
  ∑ k : Fin 2048, x (ix3 ⟨(i 0).val / 4096, by have := (i 0).isLt; change _ < 8192 at this; omega⟩ ⟨(i 0).val % 4096, Nat.mod_lt _ (by decide)⟩ k)
    * w (ix2 k ⟨10240 + (i 1).val, by have := (i 1).isLt; change _ < 128 at this; omega⟩)

theorem final (c : Dev nD) :
    (dats m 0 c).arrAt 2 cfg0.N = cell (m ((c : Thread nD τ).loc main_arg0)) (m ((c : Thread nD τ).loc main_arg1)) := by
  refine (dats m 0 c).arrAt_eq_of_covers 2 _ (by decide +kernel) fun t hf y => ?_
  blk_simp
  rw [after0_2]
  have tile : ∀ u : Fin cfg0.N, u.val / 8 = t.val / 8 →
      k0_pay2 (iblk m c 0 t) (k0_pay1 (iblk m c 1 u)) y
        = cell (m ((c : Thread nD τ).loc main_arg0)) (m ((c : Thread nD τ).loc main_arg1))
            (((View.whole main_v1).slice (win0_2.rect t)).emb y) := by
    intro u hu
    obtain ⟨e0, -, e2⟩ := idx t
    obtain ⟨-, e1, -⟩ := idx u
    unfold cell
    pointwise [k0_pay1, k0_pay2]
    refine Finset.sum_congr rfl fun k _ => ?_
    refine Ideal.mul_congr ?_ ?_
    · blk_simp [iblk]
      entry_read
      pointwise
      refine congrArg (m (c.tc.loc main_arg0)) ?_
      blk_simp [e0, e2]
      refine congrArg (ix3 _ _) (Fin.ext ?_)
      blk_simp [e0]
      try omega
    · blk_ext [iblk, e1, e2, hu]
      try omega
  by_cases h : t.val % 8 = 0
  · rw [outsAt0_A m c t h]
    frame_out
    exact tile t rfl
  · rw [outsAt0_B m c t h]
    frame_out
    simp only [read_unread_whole]
    rw [funext (held m c ⟨t.val - 1, Nat.lt_of_le_of_lt (Nat.sub_le _ _) t.isLt⟩)]
    refine tile _ ?_
    dsimp only
    omega

end Cert.StepsIdeal.Tile

end
-- ==== Proof.StepsClaim.lean ====
/- The step-size projection: the kernel's result is the reference's. -/
module

public import proofs.«01_k».proof.Defs
public import proofs.«01_k».proof.Proof.StepsTile
public import proofs.«01_k».proof.Proof.Gen.StepsReferenceIdeal.Run
public import proofs.«01_k».proof.Proof.Gen.StepsReferenceIdeal.Read
public import Idealize.ShloMosaic.Lib.Pointwise

@[expose] public section

set_option maxRecDepth 16384

noncomputable section

namespace Cert.StepsIdeal.Tile

open Idealize.ShloMosaic Idealize.ShloMosaic.TcCoe Idealize.SL.Sem

open Cert.StepsReferenceIdeal.Read in
/-- The reference's result, element by element. -/
theorem ref (x : StepsReferenceIdeal.S2x4096x2048.Idx → EReal) (w : StepsReferenceIdeal.S2048x10368.Idx → EReal) :
    val_main_v3 (F := Ideal) x w = cell x w := by
  funext i
  unfold cell
  pointwise [val_main_v3, val_main_v2, val_main_v1, val_main_v0]

theorem value : algebraic_StepsIdeal_StepsReferenceIdeal (hStepsIdeal := Cert.StepsIdeal.Gen.facts)
    (hStepsReferenceIdeal := Cert.StepsReferenceIdeal.Gen.facts) := by
  intro m ρ m' ρ' _ hargs
  refine ⟨fun c => cell (m (c.tc.loc Cert.StepsIdeal.main_arg0)) (m (c.tc.loc Cert.StepsIdeal.main_arg1)), ?_, ?_⟩
  · refine (θ_run _ _ _).mono (fun r h c => ?_) (Cert.StepsIdeal.Value.run_blocks m ρ)
    exact ⟨(h c).1.trans (final m c), (h c).2⟩
  · refine (θ_run _ _ _).mono (fun r h c => ?_) (Cert.StepsReferenceIdeal.Value.run m' ρ')
    refine ⟨(h c).1.trans ?_, (h c).2⟩
    rw [(hargs c).1, (hargs c).2]
    exact ref _ _

end Cert.StepsIdeal.Tile

end
-- ==== Proof.NormModTile.lean ====
/- The norm before a mixer with its modulation: what the kernel's result holds, element by element. -/
module

public import proofs.«01_k».proof.Proof.Gen.NormModIdeal.Value
public import proofs.«01_k».proof.Proof.Gen.NormReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormModIdeal.Tile

open Cert.NormModIdeal Cert.NormModIdeal.Gen Idealize.ShloMosaic Idealize.ShloMosaic.TcCoe Idealize.SL.Sem

variable (m : (ℓ : Loc nD τ sig) → Buf (Elt Ideal) ℓ) (ρ : Dev nD → PrngReg)

/-- Which block each window is at: the row tile runs fastest, the batch element after it. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0]
    ∧ win0_4.index t = ![t.val / 8, t.val % 8, 0] :=
  (by decide +kernel : ∀ t : Fin grid0.N, _)

/-- The mean of the squares of a row, plus the small number that keeps it from zero. -/
def spread (x : S2x4096x2048.Idx → EReal) (b : Fin 2) (r : Fin 4096) : EReal :=
  Ideal.div (∑ k : Fin 2048, x (ix3 b r k) * x (ix3 b r k)) (Ideal.ofBits .f32 0x45000000#32)
    + Ideal.ofBits .f32 0x358637BD#32

/-- One element of the row divided by its spread, scaled and shifted. -/
def cell (x : S2x4096x2048.Idx → EReal) (w : S2048.Idx → EReal) (sc sh : S2x2048.Idx → EReal) :
    S2x4096x2048.Idx → EReal := fun i =>
  x i * Ideal.rsqrt (spread x (i 0) (i 1)) * w (ix1 (i 2)) * (1 + sc (ix2 (i 0) (i 2))) + sh (ix2 (i 0) (i 2))

theorem final (c : Dev nD) :
    (dats m 0 c).arrAt 4 cfg0.N = cell (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  obtain ⟨e0, e1, e2, e3, e4⟩ := idx t
  unfold cell spread
  frame_out
  pointwise [k0_pay1]
  have x0 : ∀ k, iblk m c 0 t (ix3 0 (y 1) k) = m (c.tc.loc main_arg0)
      (ix3 (((View.whole main_v3).slice (win0_4.rect t)).emb y 0) (((View.whole main_v3).slice (win0_4.rect t)).emb y 1) k) := by
    intro k
    blk_ext [iblk, e0, e4]
  refine Ideal.add_congr (Ideal.mul_congr (Ideal.mul_congr (Ideal.mul_congr ?_ ?_) ?_) (Ideal.add_congr rfl ?_)) ?_
  · blk_ext [iblk, e0, e4]
  · simp only [x0]
  · blk_simp [iblk]
    entry_read
    pointwise
    blk_ext [e1, e4]
  · blk_simp [iblk]
    entry_read
    pointwise
    blk_ext [e2, e4]
  · blk_simp [iblk]
    entry_read
    pointwise
    blk_ext [e3, e4]

end Cert.NormModIdeal.Tile

end
-- ==== Proof.NormModClaim.lean ====
/- The norm before a mixer with its modulation: the kernel's result is the reference's. -/
module

public import proofs.«01_k».proof.Defs
public import proofs.«01_k».proof.Proof.NormModTile
public import proofs.«01_k».proof.Proof.Gen.NormReferenceIdeal.Run
public import proofs.«01_k».proof.Proof.Gen.NormReferenceIdeal.Read
public import Idealize.ShloMosaic.Lib.Pointwise

@[expose] public section

set_option maxRecDepth 16384

noncomputable section

namespace Cert.NormModIdeal.Tile

open Idealize.ShloMosaic Idealize.ShloMosaic.TcCoe Idealize.SL.Sem

open Cert.NormReferenceIdeal.Read in
/-- The reference's result, element by element. -/
theorem ref (x : NormReferenceIdeal.S2x4096x2048.Idx → EReal) (w : NormReferenceIdeal.S2048.Idx → EReal)
    (sc sh : NormReferenceIdeal.S2x2048.Idx → EReal) : val_main_v21 (F := Ideal) x w sc sh = cell x w sc sh := by
  funext i
  unfold cell spread
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem value : algebraic_NormModIdeal_NormReferenceIdeal (hNormModIdeal := Cert.NormModIdeal.Gen.facts)
    (hNormReferenceIdeal := Cert.NormReferenceIdeal.Gen.facts) := by
  intro m ρ m' ρ' _ hargs
  refine ⟨fun c => cell (m (c.tc.loc Cert.NormModIdeal.main_arg0))
    (m (c.tc.loc Cert.NormModIdeal.main_arg1))
    (m (c.tc.loc Cert.NormModIdeal.main_arg2))
    (m (c.tc.loc Cert.NormModIdeal.main_arg3)), ?_, ?_⟩
  · refine (θ_run _ _ _).mono (fun r h c => ?_) (Cert.NormModIdeal.Value.run_blocks m ρ)
    exact ⟨(h c).1.trans (final m c), (h c).2⟩
  · refine (θ_run _ _ _).mono (fun r h c => ?_) (Cert.NormReferenceIdeal.Value.run m' ρ')
    refine ⟨(h c).1.trans ?_, (h c).2⟩
    rw [(hargs c).1, (hargs c).2.1, (hargs c).2.2.1, (hargs c).2.2.2]
    exact ref _ _ _ _

end Cert.NormModIdeal.Tile

end
-- ==== Proof.AdaTile.lean ====
/- The modulation of a layer from its condition: what the kernel's result holds, element by element. -/
module

public import proofs.«01_k».proof.Proof.Gen.AdaIdeal.Value
public import proofs.«01_k».proof.Proof.Gen.AdaReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaIdeal.Tile

open Cert.AdaIdeal Cert.AdaIdeal.Gen Idealize.ShloMosaic Idealize.ShloMosaic.TcCoe Idealize.SL.Sem

variable (m : (ℓ : Loc nD τ sig) → Buf (Elt Ideal) ℓ) (ρ : Dev nD → PrngReg)

/-- Which block each window is at: the column tile runs fastest, the layer's half after it. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- One element of the product of the gated condition and the weight, plus the bias. -/
def cell (x : S8x2048.Idx → EReal) (w : S2x2048x12288.Idx → EReal) (b : S2x12288.Idx → EReal) :
    S2x8x12288.Idx → EReal := fun i =>
  (∑ k : Fin 2048, x (ix2 (i 1) k) * Ideal.logistic (x (ix2 (i 1) k)) * w (ix3 (i 0) k (i 2))) + b (ix2 (i 0) (i 2))

theorem final (c : Dev nD) :
    (dats m 0 c).arrAt 3 cfg0.N = cell (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  obtain ⟨e0, e1, e2, e3⟩ := idx t
  unfold cell
  frame_out
  pointwise [k0_pay1]
  have x0 : ∀ k, iblk m c 0 t (ix2 (y 1) k) = m (c.tc.loc main_arg0)
      (ix2 (((View.whole main_v1).slice (win0_3.rect t)).emb y 1) k) := by
    intro k
    blk_ext [iblk, e0, e3]
  refine Ideal.add_congr (Finset.sum_congr rfl fun k _ => ?_) ?_
  · rw [x0]
    refine Ideal.mul_congr rfl ?_
    blk_ext [iblk, e1, e3]
  · blk_simp [iblk]
    entry_read
    pointwise
    blk_ext [e2, e3]

end Cert.AdaIdeal.Tile

end
-- ==== Proof.AdaClaim.lean ====
/- The modulation of a layer from its condition: the kernel's result is the reference's. -/
module

public import proofs.«01_k».proof.Defs
public import proofs.«01_k».proof.Proof.AdaTile
public import proofs.«01_k».proof.Proof.Gen.AdaReferenceIdeal.Run
public import proofs.«01_k».proof.Proof.Gen.AdaReferenceIdeal.Read
public import Idealize.ShloMosaic.Lib.Pointwise

@[expose] public section

set_option maxRecDepth 16384

noncomputable section

namespace Cert.AdaIdeal.Tile

open Idealize.ShloMosaic Idealize.ShloMosaic.TcCoe Idealize.SL.Sem

open Cert.AdaReferenceIdeal.Read in
/-- The reference's result, element by element. -/
theorem ref (x : AdaReferenceIdeal.S8x2048.Idx → EReal) (w : AdaReferenceIdeal.S2x2048x12288.Idx → EReal)
    (b : AdaReferenceIdeal.S2x12288.Idx → EReal) : val_main_v5 (F := Ideal) x w b = cell x w b := by
  funext i
  unfold cell
  pointwise [val_main_v5, val_main_v4, val_main_v3, val_main_v2, val_main_v1, val_main_v0, val_main_call0_v0, val_main_call0_v1, val_main_call0_v2, val_main_call0_v3, val_main_call0_v4, val_main_call0_v5, val_main_call0_cst, val_main_call0_cst_0]
  exact Ideal.add_congr (Finset.sum_congr rfl fun k _ => mul_comm _ _) rfl

theorem value : algebraic_AdaIdeal_AdaReferenceIdeal (hAdaIdeal := Cert.AdaIdeal.Gen.facts)
    (hAdaReferenceIdeal := Cert.AdaReferenceIdeal.Gen.facts) := by
  intro m ρ m' ρ' _ hargs
  refine ⟨fun c => cell (m (c.tc.loc Cert.AdaIdeal.main_arg0))
    (m (c.tc.loc Cert.AdaIdeal.main_arg1))
    (m (c.tc.loc Cert.AdaIdeal.main_arg2)), ?_, ?_⟩
  · refine (θ_run _ _ _).mono (fun r h c => ?_) (Cert.AdaIdeal.Value.run_blocks m ρ)
    exact ⟨(h c).1.trans (final m c), (h c).2⟩
  · refine (θ_run _ _ _).mono (fun r h c => ?_) (Cert.AdaReferenceIdeal.Value.run m' ρ')
    refine ⟨(h c).1.trans ?_, (h c).2⟩
    rw [(hargs c).1, (hargs c).2.1, (hargs c).2.2]
    exact ref _ _ _

end Cert.AdaIdeal.Tile

end
-- ==== Proof.ConvPiece.lean ====
/- The short convolution's body: every store of it is a part of the convolution of the padded column. -/
module

public import proofs.«01_k».proof.Proof.Gen.ConvIdeal.Frame
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.ConvIdeal.Tile

open Cert.ConvIdeal Cert.ConvIdeal.Gen Idealize.ShloMosaic Idealize.ShloMosaic.TcCoe Idealize.SL.Sem

/-- The column with eight rows of zeros before and after it. -/
def padFn (x0 : S1x4096x256.Idx → EReal) : S4112x256.Idx → EReal := fun i =>
  if h : 8 ≤ (i 0).val ∧ (i 0).val < 4104 then x0 (ix3 0 ⟨(i 0).val - 8, by omega⟩ (i 1)) else 0

/-- What row `o + p` and column `q` of the convolution is before its activation. -/
def acc (x0 : S1x4096x256.Idx → EReal) (x1 : S5x256.Idx → EReal) (x2 : S1x256.Idx → EReal) (o : ℕ) (p : ℕ) (h : o + p < 4096) (q : Fin 256) : EReal :=
  x2 (ix2 0 q) + x1 (ix2 0 q) * padFn x0 (ix2 ⟨o + 6 + p, by omega⟩ q) + x1 (ix2 1 q) * padFn x0 (ix2 ⟨o + 7 + p, by omega⟩ q)
    + x1 (ix2 2 q) * padFn x0 (ix2 ⟨o + 8 + p, by omega⟩ q) + x1 (ix2 3 q) * padFn x0 (ix2 ⟨o + 9 + p, by omega⟩ q)
    + x1 (ix2 4 q) * padFn x0 (ix2 ⟨o + 10 + p, by omega⟩ q)

/-- The block the body leaves. -/
def outFn (x0 : S1x4096x256.Idx → EReal) (x1 : S5x256.Idx → EReal) (x2 : S1x256.Idx → EReal) : S1x4096x256.Idx → EReal := fun i =>
  acc x0 x1 x2 0 (i 1).val (by have := (i 1).isLt; change _ < 4096 at this; omega) (i 2)
    * Ideal.logistic (acc x0 x1 x2 0 (i 1).val (by have := (i 1).isLt; change _ < 4096 at this; omega) (i 2))

theorem acc_shift (x0 : S1x4096x256.Idx → EReal) (x1 : S5x256.Idx → EReal) (x2 : S1x256.Idx → EReal) (o o' p p' : ℕ) (h : o + p < 4096)
    (h' : o' + p' < 4096) (e : o + p = o' + p') (q : Fin 256) : acc x0 x1 x2 o p h q = acc x0 x1 x2 o' p' h' q := by
  have f : ∀ (k : ℕ) (hk : k ≤ 10), (⟨o + k + p, by omega⟩ : Fin 4112) = ⟨o' + k + p', by omega⟩ := fun k hk => Fin.ext (by
    show o + k + p = o' + k + p'
    omega)
  unfold acc
  rw [f 6 (by omega), f 7 (by omega), f 8 (by omega), f 9 (by omega), f 10 (by omega)]

/-- The part of the block a store at row `o` is. -/
theorem outPart (x0 : S1x4096x256.Idx → EReal) (x1 : S5x256.Idx → EReal) (x2 : S1x256.Idx → EReal) (o : ℕ) (ho : o + 256 ≤ 4096)
    (inb : ∀ a, (![0, o, 0] : Fin 3 → ℕ) a + S1x256x256.size a ≤ S1x4096x256.size a) (y : S1x256x256.Idx) (hy : (y 1).val < 256) :
    outFn x0 x1 x2 ((Rect.unit (s := S1x4096x256) ![0, o, 0] S1x256x256.size inb).emb y)
      = acc x0 x1 x2 o (y 1).val (by omega) (y 2) * Ideal.logistic (acc x0 x1 x2 o (y 1).val (by omega) (y 2)) := by
  have e2 : ((Rect.unit (s := S1x4096x256) ![0, o, 0] S1x256x256.size inb).emb y 2 : Fin 256) = y 2 := Fin.ext (by
    show 0 + 1 * (y 2).val = (y 2).val
    omega)
  have e1 : ((Rect.unit (s := S1x4096x256) ![0, o, 0] S1x256x256.size inb).emb y 1).val = o + (y 1).val := by
    show o + 1 * (y 1).val = _
    omega
  have key : acc x0 x1 x2 0 ((Rect.unit (s := S1x4096x256) ![0, o, 0] S1x256x256.size inb).emb y 1).val (by omega)
      ((Rect.unit (s := S1x4096x256) ![0, o, 0] S1x256x256.size inb).emb y 2) = acc x0 x1 x2 o (y 1).val (by omega) (y 2) := by
    rw [e2]
    exact acc_shift x0 x1 x2 _ _ _ _ _ _ (by rw [e1]; omega) _
  unfold outFn
  rw [key]

theorem wholeX (m : Memref sig .tc .vmem S1x4096x256 .f32) (h : m.IsWhole) (x : Vec Ideal S1x4096x256 .f32) (inb : ∀ a, (![0, 0, 0] : Fin 3 → ℕ) a + S1x4096x256.size a ≤ S1x4096x256.size a) :
    View.readAt (Elt Ideal) m.view (Rect.unit (s := S1x4096x256) ![0, 0, 0] S1x4096x256.size inb).toLoadRect (h.unread x) = x := by
  rw [View.readAt_eq_ld, h.read_unread]
  funext y
  exact congrArg x (funext fun a => Fin.ext (match a with
    | 0 => (by show 0 + 1 * (y 0).val = (y 0).val; omega)
    | 1 => (by show 0 + 1 * (y 1).val = (y 1).val; omega)
    | 2 => (by show 0 + 1 * (y 2).val = (y 2).val; omega)))

theorem wholeW (m : Memref sig .tc .vmem S5x256 .f32) (h : m.IsWhole) (x : Vec Ideal S5x256 .f32) (inb : ∀ a, (![0, 0] : Fin 2 → ℕ) a + S5x256.size a ≤ S5x256.size a) :
    View.readAt (Elt Ideal) m.view (Rect.unit (s := S5x256) ![0, 0] S5x256.size inb).toLoadRect (h.unread x) = x := by
  rw [View.readAt_eq_ld, h.read_unread]
  funext y
  exact congrArg x (funext fun a => Fin.ext (match a with
    | 0 => (by show 0 + 1 * (y 0).val = (y 0).val; omega)
    | 1 => (by show 0 + 1 * (y 1).val = (y 1).val; omega)))

theorem wholeB (m : Memref sig .tc .vmem S1x256 .f32) (h : m.IsWhole) (x : Vec Ideal S1x256 .f32) (inb : ∀ a, (![0, 0] : Fin 2 → ℕ) a + S1x256.size a ≤ S1x256.size a) :
    View.readAt (Elt Ideal) m.view (Rect.unit (s := S1x256) ![0, 0] S1x256.size inb).toLoadRect (h.unread x) = x := by
  rw [View.readAt_eq_ld, h.read_unread]
  funext y
  exact congrArg x (funext fun a => Fin.ext (match a with
    | 0 => (by show 0 + 1 * (y 0).val = (y 0).val; omega)
    | 1 => (by show 0 + 1 * (y 1).val = (y 1).val; omega)))

/-- The three stores into the scratch are the padded column. -/
theorem padPieces (c : Dev nD) (arg2 : Memref sig .tc .vmem S1x4096x256 .f32) (harg2 : arg2.IsWhole) (x0 : Vec Ideal S1x4096x256 .f32) :
    View.PiecesOf (padFn x0) (kernelRun0_A.sl.HS0_3 (F := Ideal) c arg2 harg2 x0) := by
  unfold kernelRun0_A.sl.HS0_3
  refine ⟨fun (y : S4096x256.Idx) => ?_, fun (y : S8x256.Idx) => ?_, fun (y : S8x256.Idx) => ?_, trivial⟩
  · have hy : (y 0).val < 4096 := (y 0).isLt
    have e : ((Rect.unit (s := S4112x256) ![8, 0] S4096x256.size inb_S4112x256_S4096x256_8_0).emb y 0).val = 8 + (y 0).val := by
      show 8 + 1 * (y 0).val = _
      omega
    refine Eq.trans ?_ (dif_pos (by rw [e]; omega)).symm
    dsimp only
    rw [wholeX]
    pointwise [k0_pay5]
    refine congrArg x0 (congrArg₂ (ix3 0) (Fin.ext ?_) (Fin.ext ?_))
    · show (y 0).val = _ - 8
      rw [e]
      omega
    · show (y 1).val = 0 + 1 * (y 1).val
      omega
  · have e : ((Rect.unit (s := S4112x256) ![4104, 0] S8x256.size inb_S4112x256_S8x256_4104_0).emb y 0).val = 4104 + (y 0).val := by
      show 4104 + 1 * (y 0).val = _
      omega
    refine Eq.trans ?_ (dif_neg (by rw [e]; omega)).symm
    dsimp only
    pointwise [k0_pay4, k0_pay2]
  · have hy : (y 0).val < 8 := (y 0).isLt
    have e : ((Rect.unit (s := S4112x256) ![0, 0] S8x256.size inb_S4112x256_S8x256_0_0).emb y 0).val = 0 + (y 0).val := by
      show 0 + 1 * (y 0).val = _
      omega
    refine Eq.trans ?_ (dif_neg (by rw [e]; omega)).symm
    dsimp only
    pointwise [k0_pay3, k0_pay2]

/-- They cover the scratch. -/
theorem padCover (c : Dev nD) (arg2 : Memref sig .tc .vmem S1x4096x256 .f32) (harg2 : arg2.IsWhole) (x0 : Vec Ideal S1x4096x256 .f32)
    (y : S4112x256.Idx) : ∃ p ∈ kernelRun0_A.sl.HS0_3 (F := Ideal) c arg2 harg2 x0, y ∈ p.1.set := by
  have h0 : (y 0).val < 4112 := (y 0).isLt
  have h1 : (y 1).val < 256 := (y 1).isLt
  unfold kernelRun0_A.sl.HS0_3
  by_cases a : (y 0).val < 8
  · refine ⟨_, List.mem_cons_of_mem _ (List.mem_cons_of_mem _ List.mem_cons_self), ?_⟩
    rw [Rect.mem_set_unit]
    exact fun k => match k with
      | 0 => ⟨Nat.zero_le _, (by show (y 0).val < 0 + 8; omega)⟩
      | 1 => ⟨Nat.zero_le _, (by show (y 1).val < 0 + 256; omega)⟩
  · by_cases b : (y 0).val < 4104
    · refine ⟨_, List.mem_cons_self, ?_⟩
      rw [Rect.mem_set_unit]
      exact fun k => match k with
        | 0 => ⟨(by show 8 ≤ (y 0).val; omega), (by show (y 0).val < 8 + 4096; omega)⟩
        | 1 => ⟨Nat.zero_le _, (by show (y 1).val < 0 + 256; omega)⟩
    · refine ⟨_, List.mem_cons_of_mem _ List.mem_cons_self, ?_⟩
      rw [Rect.mem_set_unit]
      exact fun k => match k with
        | 0 => ⟨(by show 4104 ≤ (y 0).val; omega), (by show (y 0).val < 4104 + 8; omega)⟩
        | 1 => ⟨Nat.zero_le _, (by show (y 1).val < 0 + 256; omega)⟩

/-- A load of 256 rows of the scratch reads the padded column there. -/
theorem padLoad (v : View sig .tc .vmem S4112x256 .f32) (c : Dev nD) (arg2 : Memref sig .tc .vmem S1x4096x256 .f32) (harg2 : arg2.IsWhole)
    (x0 : Vec Ideal S1x4096x256 .f32) (o : ℕ) (ho : o + 256 ≤ 4112)
    (inb : ∀ a, (![o, 0] : Fin 2 → ℕ) a + S256x256.size a ≤ S4112x256.size a) (p q : Fin 256) :
    v.readCov (kernelRun0_A.sl.HS0_3 (F := Ideal) c arg2 harg2 x0) (Rect.unit (s := S4112x256) ![o, 0] S256x256.size inb).toLoadRect (ix2 p q)
      = padFn x0 (ix2 ⟨o + p.val, by omega⟩ q) := by
  rw [View.readCov_eq_canon']
  refine (View.canon_apply_of_pieces (padFn x0) _ (padPieces c arg2 harg2 x0).mem _ (padCover c arg2 harg2 x0 _)).trans ?_
  exact congrArg (padFn x0) (funext fun a => Fin.ext (match a with
    | 0 => (by show o + 1 * p.val = o + p.val; omega)
    | 1 => (by show 0 + 1 * q.val = q.val; omega)))

theorem chain {b w0 w1 w2 w3 w4 a0 a1 a2 a3 a4 p0 p1 p2 p3 p4 : EReal} (h0 : a0 = p0) (h1 : a1 = p1) (h2 : a2 = p2) (h3 : a3 = p3) (h4 : a4 = p4) :
    b + w0 * a0 + w1 * a1 + w2 * a2 + w3 * a3 + w4 * a4 = b + w0 * p0 + w1 * p1 + w2 * p2 + w3 * p3 + w4 * p4 := by
  rw [h0, h1, h2, h3, h4]

theorem outPieces (c : Dev nD) (i : grid0.Coords) (arg2 : Memref sig .tc .vmem S1x4096x256 .f32) (harg2 : arg2.IsWhole) (arg3 : Memref sig .tc .vmem S5x256 .f32) (harg3 : arg3.IsWhole) (arg4 : Memref sig .tc .vmem S1x256 .f32) (harg4 : arg4.IsWhole) (arg5 : Memref sig .tc .vmem S1x4096x256 .bf16) (harg5 : arg5.IsWhole) (arg6 : Memref sig .tc .vmem S4112x256 .f32) (harg6 : arg6.IsWhole)
    (x0 : Vec Ideal S1x4096x256 .f32) (x1 : Vec Ideal S5x256 .f32) (x2 : Vec Ideal S1x256 .f32) :
    View.PiecesOf (outFn x0 x1 x2) (kernelRun0_A (F := Ideal) c i arg2 harg2 arg3 harg3 arg4 harg4 arg5 harg5 arg6 harg6 x0 x1 x2).1 := by
  have hr : kernelRun0_A.sl.r (F := Ideal) c arg3 harg3 x1 = x1 := wholeW arg3 harg3 x1 (by decide)
  have hb := wholeB arg4 harg4 x2 (by decide)
  have hw := wholeW arg3 harg3 x1 (by decide)
  delta kernelRun0_A
  refine ⟨fun (y : S1x256x256.Idx) => ?_, ?_⟩
  · have hy : (y 1).val < 256 := (y 1).isLt
    have l0 : ∀ p q : Fin 256, kernelRun0_A.sl.v526 (F := Ideal) c arg2 harg2 arg6 x0 (ix2 p q) = padFn x0 (ix2 ⟨3840 + 6 + p.val, by omega⟩ q) :=
      fun p q => padLoad arg6.view c arg2 harg2 x0 3846 (by decide) (by decide) p q
    have l1 : ∀ p q : Fin 256, kernelRun0_A.sl.v532 (F := Ideal) c arg2 harg2 arg6 x0 (ix2 p q) = padFn x0 (ix2 ⟨3840 + 7 + p.val, by omega⟩ q) :=
      fun p q => padLoad arg6.view c arg2 harg2 x0 3847 (by decide) (by decide) p q
    have l2 : ∀ p q : Fin 256, kernelRun0_A.sl.v537 (F := Ideal) c arg2 harg2 arg6 x0 (ix2 p q) = padFn x0 (ix2 ⟨3840 + 8 + p.val, by omega⟩ q) :=
      fun p q => padLoad arg6.view c arg2 harg2 x0 3848 (by decide) (by decide) p q
    have l3 : ∀ p q : Fin 256, kernelRun0_A.sl.v542 (F := Ideal) c arg2 harg2 arg6 x0 (ix2 p q) = padFn x0 (ix2 ⟨3840 + 9 + p.val, by omega⟩ q) :=
      fun p q => padLoad arg6.view c arg2 harg2 x0 3849 (by decide) (by decide) p q
    have l4 : ∀ p q : Fin 256, kernelRun0_A.sl.v547 (F := Ideal) c arg2 harg2 arg6 x0 (ix2 p q) = padFn x0 (ix2 ⟨3840 + 10 + p.val, by omega⟩ q) :=
      fun p q => padLoad arg6.view c arg2 harg2 x0 3850 (by decide) (by decide) p q
    refine Eq.trans ?_ (outPart x0 x1 x2 3840 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v492 (F := Ideal) c arg2 harg2 arg6 x0 (ix2 p q) = padFn x0 (ix2 ⟨3584 + 6 + p.val, by omega⟩ q) :=
      fun p q => padLoad arg6.view c arg2 harg2 x0 3590 (by decide) (by decide) p q
    have l1 : ∀ p q : Fin 256, kernelRun0_A.sl.v498 (F := Ideal) c arg2 harg2 arg6 x0 (ix2 p q) = padFn x0 (ix2 ⟨3584 + 7 + p.val, by omega⟩ q) :=
      fun p q => padLoad arg6.view c arg2 harg2 x0 3591 (by decide) (by decide) p q
    have l2 : ∀ p q : Fin 256, kernelRun0_A.sl.v503 (F := Ideal) c arg2 harg2 arg6 x0 (ix2 p q) = padFn x0 (ix2 ⟨3584 + 8 + p.val, by omega⟩ q) :=
      fun p q => padLoad arg6.view c arg2 harg2 x0 3592 (by decide) (by decide) p q
    have l3 : ∀ p q : Fin 256, kernelRun0_A.sl.v508 (F := Ideal) c arg2 harg2 arg6 x0 (ix2 p q) = padFn x0 (ix2 ⟨3584 + 9 + p.val, by omega⟩ q) :=
      fun p q => padLoad arg6.view c arg2 harg2 x0 3593 (by decide) (by decide) p q
    have l4 : ∀ p q : Fin 256, kernelRun0_A.sl.v513 (F := Ideal) c arg2 harg2 arg6 x0 (ix2 p q) = padFn x0 (ix2 ⟨3584 + 10 + p.val, by omega⟩ q) :=
      fun p q => padLoad arg6.view c arg2 harg2 x0 3594 (by decide) (by decide) p q
    refine Eq.trans ?_ (outPart x0 x1 x2 3584 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v458 (F := Ideal) c arg2 harg2 arg6 x0 (ix2 p q) = padFn x0 (ix2 ⟨3328 + 6 + p.val, by omega⟩ q) :=
      fun p q => padLoad arg6.view c arg2 harg2 x0 3334 (by decide) (by decide) p q
    have l1 : ∀ p q : Fin 256, kernelRun0_A.sl.v464 (F := Ideal) c arg2 harg2 arg6 x0 (ix2 p q) = padFn x0 (ix2 ⟨3328 + 7 + p.val, by omega⟩ q) :=
      fun p q => padLoad arg6.view c arg2 harg2 x0 3335 (by decide) (by decide) p q
    have l2 : ∀ p q : Fin 256, kernelRun0_A.sl.v469 (F := Ideal) c arg2 harg2 arg6 x0 (ix2 p q) = padFn x0 (ix2 ⟨3328 + 8 + p.val, by omega⟩ q) :=
      fun p q => padLoad arg6.view c arg2 harg2 x0 3336 (by decide) (by decide) p q
    have l3 : ∀ p q : Fin 256, kernelRun0_A.sl.v474 (F := Ideal) c arg2 harg2 arg6 x0 (ix2 p q) = padFn x0 (ix2 ⟨3328 + 9 + p.val, by omega⟩ q) :=
      fun p q => padLoad arg6.view c arg2 harg2 x0 3337 (by decide) (by decide) p q
    have l4 : ∀ p q : Fin 256, kernelRun0_A.sl.v479 (F := Ideal) c arg2 harg2 arg6 x0 (ix2 p q) = padFn x0 (ix2 ⟨3328 + 10 + p.val, by omega⟩ q) :=
      fun p q => padLoad arg6.view c arg2 harg2 x0 3338 (by decide) (by decide) p q
    refine Eq.trans ?_ (outPart x0 x1 x2 3328 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v424 (F := Ideal) c arg2 harg2 arg6 x0 (ix2 p q) = padFn x0 (ix2 ⟨3072 + 6 + p.val, by omega⟩ q) :=
      fun p q => padLoad arg6.view c arg2 harg2 x0 3078 (by decide) (by decide) p q
    have l1 : ∀ p q : Fin 256, kernelRun0_A.sl.v430 (F := Ideal) c arg2 harg2 arg6 x0 (ix2 p q) = padFn x0 (ix2 ⟨3072 + 7 + p.val, by omega⟩ q) :=
      fun p q => padLoad arg6.view c arg2 harg2 x0 3079 (by decide) (by decide) p q
    have l2 : ∀ p q : Fin 256, kernelRun0_A.sl.v435 (F := Ideal) c arg2 harg2 arg6 x0 (ix2 p q) = padFn x0 (ix2 ⟨3072 + 8 + p.val, by omega⟩ q) :=
      fun p q => padLoad arg6.view c arg2 harg2 x0 3080 (by decide) (by decide) p q
    have l3 : ∀ p q : Fin 256, kernelRun0_A.sl.v440 (F := Ideal) c arg2 harg2 arg6 x0 (ix2 p q) = padFn x0 (ix2 ⟨3072 + 9 + p.val, by omega⟩ q) :=
      fun p q => padLoad arg6.view c arg2 harg2 x0 3081 (by decide) (by decide) p q
    have l4 : ∀ p q : Fin 256, kernelRun0_A.sl.v445 (F := Ideal) c arg2 harg2 arg6 x0 (ix2 p q) = padFn x0 (ix2 ⟨3072 + 10 + p.val, by omega⟩ q) :=
      fun p q => padLoad arg6.view c arg2 harg2 x0 3082 (by decide) (by decide) p q
    refine Eq.trans ?_ (outPart x0 x1 x2 3072 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v390 (F := Ideal) c arg2 harg2 arg6 x0 (ix2 p q) = padFn x0 (ix2 ⟨2816 + 6 + p.val, by omega⟩ q) :=
      fun p q => padLoad arg6.view c arg2 harg2 x0 2822 (by decide) (by decide) p q
    have l1 : ∀ p q : Fin 256, kernelRun0_A.sl.v396 (F := Ideal) c arg2 harg2 arg6 x0 (ix2 p q) = padFn x0 (ix2 ⟨2816 + 7 + p.val, by omega⟩ q) :=
      fun p q => padLoad arg6.view c arg2 harg2 x0 2823 (by decide) (by decide) p q
    have l2 : ∀ p q : Fin 256, kernelRun0_A.sl.v401 (F := Ideal) c arg2 harg2 arg6 x0 (ix2 p q) = padFn x0 (ix2 ⟨2816 + 8 + p.val, by omega⟩ q) :=
      fun p q => padLoad arg6.view c arg2 harg2 x0 2824 (by decide) (by decide) p q
    have l3 : ∀ p q : Fin 256, kernelRun0_A.sl.v406 (F := Ideal) c arg2 harg2 arg6 x0 (ix2 p q) = padFn x0 (ix2 ⟨2816 + 9 + p.val, by omega⟩ q) :=
      fun p q => padLoad arg6.view c arg2 harg2 x0 2825 (by decide) (by decide) p q
    have l4 : ∀ p q : Fin 256, kernelRun0_A.sl.v411 (F := Ideal) c arg2 harg2 arg6 x0 (ix2 p q) = padFn x0 (ix2 ⟨2816 + 10 + p.val, by omega⟩ q) :=
      fun p q => padLoad arg6.view c arg2 harg2 x0 2826 (by decide) (by decide) p q
    refine Eq.trans ?_ (outPart x0 x1 x2 2816 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v356 (F := Ideal) c arg2 harg2 arg6 x0 (ix2 p q) = padFn x0 (ix2 ⟨2560 + 6 + p.val, by omega⟩ q) :=
      fun p q => padLoad arg6.view c arg2 harg2 x0 2566 (by decide) (by decide) p q
    have l1 : ∀ p q : Fin 256, kernelRun0_A.sl.v362 (F := Ideal) c arg2 harg2 arg6 x0 (ix2 p q) = padFn x0 (ix2 ⟨2560 + 7 + p.val, by omega⟩ q) :=
      fun p q => padLoad arg6.view c arg2 harg2 x0 2567 (by decide) (by decide) p q
    have l2 : ∀ p q : Fin 256, kernelRun0_A.sl.v367 (F := Ideal) c arg2 harg2 arg6 x0 (ix2 p q) = padFn x0 (ix2 ⟨2560 + 8 + p.val, by omega⟩ q) :=
      fun p q => padLoad arg6.view c arg2 harg2 x0 2568 (by decide) (by decide) p q
    have l3 : ∀ p q : Fin 256, kernelRun0_A.sl.v372 (F := Ideal) c arg2 harg2 arg6 x0 (ix2 p q) = padFn x0 (ix2 ⟨2560 + 9 + p.val, by omega⟩ q) :=
      fun p q => padLoad arg6.view c arg2 harg2 x0 2569 (by decide) (by decide) p q
    have l4 : ∀ p q : Fin 256, kernelRun0_A.sl.v377 (F := Ideal) c arg2 harg2 arg6 x0 (ix2 p q) = padFn x0 (ix2 ⟨2560 + 10 + p.val, by omega⟩ q) :=
      fun p q => padLoad arg6.view c arg2 harg2 x0 2570 (by decide) (by decide) p q
    refine Eq.trans ?_ (outPart x0 x1 x2 2560 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v322 (F := Ideal) c arg2 harg2 arg6 x0 (ix2 p q) = padFn x0 (ix2 ⟨2304 + 6 + p.val, by omega⟩ q) :=
      fun p q => padLoad arg6.view c arg2 harg2 x0 2310 (by decide) (by decide) p q
    have l1 : ∀ p q : Fin 256, kernelRun0_A.sl.v328 (F := Ideal) c arg2 harg2 arg6 x0 (ix2 p q) = padFn x0 (ix2 ⟨2304 + 7 + p.val, by omega⟩ q) :=
      fun p q => padLoad arg6.view c arg2 harg2 x0 2311 (by decide) (by decide) p q
    have l2 : ∀ p q : Fin 256, kernelRun0_A.sl.v333 (F := Ideal) c arg2 harg2 arg6 x0 (ix2 p q) = padFn x0 (ix2 ⟨2304 + 8 + p.val, by omega⟩ q) :=
      fun p q => padLoad arg6.view c arg2 harg2 x0 2312 (by decide) (by decide) p q
    have l3 : ∀ p q : Fin 256, kernelRun0_A.sl.v338 (F := Ideal) c arg2 harg2 arg6 x0 (ix2 p q) = padFn x0 (ix2 ⟨2304 + 9 + p.val, by omega⟩ q) :=
      fun p q => padLoad arg6.view c arg2 harg2 x0 2313 (by decide) (by decide) p q
    have l4 : ∀ p q : Fin 256, kernelRun0_A.sl.v343 (F := Ideal) c arg2 harg2 arg6 x0 (ix2 p q) = padFn x0 (ix2 ⟨2304 + 10 + p.val, by omega⟩ q) :=
      fun p q => padLoad arg6.view c arg2 harg2 x0 2314 (by decide) (by decide) p q
    refine Eq.trans ?_ (outPart x0 x1 x2 2304 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v288 (F := Ideal) c arg2 harg2 arg6 x0 (ix2 p q) = padFn x0 (ix2 ⟨2048 + 6 + p.val, by omega⟩ q) :=
      fun p q => padLoad arg6.view c arg2 harg2 x0 2054 (by decide) (by decide) p q
    have l1 : ∀ p q : Fin 256, kernelRun0_A.sl.v294 (F := Ideal) c arg2 harg2 arg6 x0 (ix2 p q) = padFn x0 (ix2 ⟨2048 + 7 + p.val, by omega⟩ q) :=
      fun p q => padLoad arg6.view c arg2 harg2 x0 2055 (by decide) (by decide) p q
    have l2 : ∀ p q : Fin 256, kernelRun0_A.sl.v299 (F := Ideal) c arg2 harg2 arg6 x0 (ix2 p q) = padFn x0 (ix2 ⟨2048 + 8 + p.val, by omega⟩ q) :=
      fun p q => padLoad arg6.view c arg2 harg2 x0 2056 (by decide) (by decide) p q
    have l3 : ∀ p q : Fin 256, kernelRun0_A.sl.v304 (F := Ideal) c arg2 harg2 arg6 x0 (ix2 p q) = padFn x0 (ix2 ⟨2048 + 9 + p.val, by omega⟩ q) :=
      fun p q => padLoad arg6.view c arg2 harg2 x0 2057 (by decide) (by decide) p q
    have l4 : ∀ p q : Fin 256, kernelRun0_A.sl.v309 (F := Ideal) c arg2 harg2 arg6 x0 (ix2 p q) = padFn x0 (ix2 ⟨2048 + 10 + p.val, by omega⟩ q) :=
      fun p q => padLoad arg6.view c arg2 harg2 x0 2058 (by decide) (by decide) p q
    refine Eq.trans ?_ (outPart x0 x1 x2 2048 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v254 (F := Ideal) c arg2 harg2 arg6 x0 (ix2 p q) = padFn x0 (ix2 ⟨1792 + 6 + p.val, by omega⟩ q) :=
      fun p q => padLoad arg6.view c arg2 harg2 x0 1798 (by decide) (by decide) p q
    have l1 : ∀ p q : Fin 256, kernelRun0_A.sl.v260 (F := Ideal) c arg2 harg2 arg6 x0 (ix2 p q) = padFn x0 (ix2 ⟨1792 + 7 + p.val, by omega⟩ q) :=
      fun p q => padLoad arg6.view c arg2 harg2 x0 1799 (by decide) (by decide) p q
    have l2 : ∀ p q : Fin 256, kernelRun0_A.sl.v265 (F := Ideal) c arg2 harg2 arg6 x0 (ix2 p q) = padFn x0 (ix2 ⟨1792 + 8 + p.val, by omega⟩ q) :=
      fun p q => padLoad arg6.view c arg2 harg2 x0 1800 (by decide) (by decide) p q
    have l3 : ∀ p q : Fin 256, kernelRun0_A.sl.v270 (F := Ideal) c arg2 harg2 arg6 x0 (ix2 p q) = padFn x0 (ix2 ⟨1792 + 9 + p.val, by omega⟩ q) :=
      fun p q => padLoad arg6.view c arg2 harg2 x0 1801 (by decide) (by decide) p q
    have l4 : ∀ p q : Fin 256, kernelRun0_A.sl.v275 (F := Ideal) c arg2 harg2 arg6 x0 (ix2 p q) = padFn x0 (ix2 ⟨1792 + 10 + p.val, by omega⟩ q) :=
      fun p q => padLoad arg6.view c arg2 harg2 x0 1802 (by decide) (by decide) p q
    refine Eq.trans ?_ (outPart x0 x1 x2 1792 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v220 (F := Ideal) c arg2 harg2 arg6 x0 (ix2 p q) = padFn x0 (ix2 ⟨1536 + 6 + p.val, by omega⟩ q) :=
      fun p q => padLoad arg6.view c arg2 harg2 x0 1542 (by decide) (by decide) p q
    have l1 : ∀ p q : Fin 256, kernelRun0_A.sl.v226 (F := Ideal) c arg2 harg2 arg6 x0 (ix2 p q) = padFn x0 (ix2 ⟨1536 + 7 + p.val, by omega⟩ q) :=
      fun p q => padLoad arg6.view c arg2 harg2 x0 1543 (by decide) (by decide) p q
    have l2 : ∀ p q : Fin 256, kernelRun0_A.sl.v231 (F := Ideal) c arg2 harg2 arg6 x0 (ix2 p q) = padFn x0 (ix2 ⟨1536 + 8 + p.val, by omega⟩ q) :=
      fun p q => padLoad arg6.view c arg2 harg2 x0 1544 (by decide) (by decide) p q
    have l3 : ∀ p q : Fin 256, kernelRun0_A.sl.v236 (F := Ideal) c arg2 harg2 arg6 x0 (ix2 p q) = padFn x0 (ix2 ⟨1536 + 9 + p.val, by omega⟩ q) :=
      fun p q => padLoad arg6.view c arg2 harg2 x0 1545 (by decide) (by decide) p q
    have l4 : ∀ p q : Fin 256, kernelRun0_A.sl.v241 (F := Ideal) c arg2 harg2 arg6 x0 (ix2 p q) = padFn x0 (ix2 ⟨1536 + 10 + p.val, by omega⟩ q) :=
      fun p q => padLoad arg6.view c arg2 harg2 x0 1546 (by decide) (by decide) p q
    refine Eq.trans ?_ (outPart x0 x1 x2 1536 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v186 (F := Ideal) c arg2 harg2 arg6 x0 (ix2 p q) = padFn x0 (ix2 ⟨1280 + 6 + p.val, by omega⟩ q) :=
      fun p q => padLoad arg6.view c arg2 harg2 x0 1286 (by decide) (by decide) p q
    have l1 : ∀ p q : Fin 256, kernelRun0_A.sl.v192 (F := Ideal) c arg2 harg2 arg6 x0 (ix2 p q) = padFn x0 (ix2 ⟨1280 + 7 + p.val, by omega⟩ q) :=
      fun p q => padLoad arg6.view c arg2 harg2 x0 1287 (by decide) (by decide) p q
    have l2 : ∀ p q : Fin 256, kernelRun0_A.sl.v197 (F := Ideal) c arg2 harg2 arg6 x0 (ix2 p q) = padFn x0 (ix2 ⟨1280 + 8 + p.val, by omega⟩ q) :=
      fun p q => padLoad arg6.view c arg2 harg2 x0 1288 (by decide) (by decide) p q
    have l3 : ∀ p q : Fin 256, kernelRun0_A.sl.v202 (F := Ideal) c arg2 harg2 arg6 x0 (ix2 p q) = padFn x0 (ix2 ⟨1280 + 9 + p.val, by omega⟩ q) :=
      fun p q => padLoad arg6.view c arg2 harg2 x0 1289 (by decide) (by decide) p q
    have l4 : ∀ p q : Fin 256, kernelRun0_A.sl.v207 (F := Ideal) c arg2 harg2 arg6 x0 (ix2 p q) = padFn x0 (ix2 ⟨1280 + 10 + p.val, by omega⟩ q) :=
      fun p q => padLoad arg6.view c arg2 harg2 x0 1290 (by decide) (by decide) p q
    refine Eq.trans ?_ (outPart x0 x1 x2 1280 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v152 (F := Ideal) c arg2 harg2 arg6 x0 (ix2 p q) = padFn x0 (ix2 ⟨1024 + 6 + p.val, by omega⟩ q) :=
      fun p q => padLoad arg6.view c arg2 harg2 x0 1030 (by decide) (by decide) p q
    have l1 : ∀ p q : Fin 256, kernelRun0_A.sl.v158 (F := Ideal) c arg2 harg2 arg6 x0 (ix2 p q) = padFn x0 (ix2 ⟨1024 + 7 + p.val, by omega⟩ q) :=
      fun p q => padLoad arg6.view c arg2 harg2 x0 1031 (by decide) (by decide) p q
    have l2 : ∀ p q : Fin 256, kernelRun0_A.sl.v163 (F := Ideal) c arg2 harg2 arg6 x0 (ix2 p q) = padFn x0 (ix2 ⟨1024 + 8 + p.val, by omega⟩ q) :=
      fun p q => padLoad arg6.view c arg2 harg2 x0 1032 (by decide) (by decide) p q
    have l3 : ∀ p q : Fin 256, kernelRun0_A.sl.v168 (F := Ideal) c arg2 harg2 arg6 x0 (ix2 p q) = padFn x0 (ix2 ⟨1024 + 9 + p.val, by omega⟩ q) :=
      fun p q => padLoad arg6.view c arg2 harg2 x0 1033 (by decide) (by decide) p q
    have l4 : ∀ p q : Fin 256, kernelRun0_A.sl.v173 (F := Ideal) c arg2 harg2 arg6 x0 (ix2 p q) = padFn x0 (ix2 ⟨1024 + 10 + p.val, by omega⟩ q) :=
      fun p q => padLoad arg6.view c arg2 harg2 x0 1034 (by decide) (by decide) p q
    refine Eq.trans ?_ (outPart x0 x1 x2 1024 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v118 (F := Ideal) c arg2 harg2 arg6 x0 (ix2 p q) = padFn x0 (ix2 ⟨768 + 6 + p.val, by omega⟩ q) :=
      fun p q => padLoad arg6.view c arg2 harg2 x0 774 (by decide) (by decide) p q
    have l1 : ∀ p q : Fin 256, kernelRun0_A.sl.v124 (F := Ideal) c arg2 harg2 arg6 x0 (ix2 p q) = padFn x0 (ix2 ⟨768 + 7 + p.val, by omega⟩ q) :=
      fun p q => padLoad arg6.view c arg2 harg2 x0 775 (by decide) (by decide) p q
    have l2 : ∀ p q : Fin 256, kernelRun0_A.sl.v129 (F := Ideal) c arg2 harg2 arg6 x0 (ix2 p q) = padFn x0 (ix2 ⟨768 + 8 + p.val, by omega⟩ q) :=
      fun p q => padLoad arg6.view c arg2 harg2 x0 776 (by decide) (by decide) p q
    have l3 : ∀ p q : Fin 256, kernelRun0_A.sl.v134 (F := Ideal) c arg2 harg2 arg6 x0 (ix2 p q) = padFn x0 (ix2 ⟨768 + 9 + p.val, by omega⟩ q) :=
      fun p q => padLoad arg6.view c arg2 harg2 x0 777 (by decide) (by decide) p q
    have l4 : ∀ p q : Fin 256, kernelRun0_A.sl.v139 (F := Ideal) c arg2 harg2 arg6 x0 (ix2 p q) = padFn x0 (ix2 ⟨768 + 10 + p.val, by omega⟩ q) :=
      fun p q => padLoad arg6.view c arg2 harg2 x0 778 (by decide) (by decide) p q
    refine Eq.trans ?_ (outPart x0 x1 x2 768 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v84 (F := Ideal) c arg2 harg2 arg6 x0 (ix2 p q) = padFn x0 (ix2 ⟨512 + 6 + p.val, by omega⟩ q) :=
      fun p q => padLoad arg6.view c arg2 harg2 x0 518 (by decide) (by decide) p q
    have l1 : ∀ p q : Fin 256, kernelRun0_A.sl.v90 (F := Ideal) c arg2 harg2 arg6 x0 (ix2 p q) = padFn x0 (ix2 ⟨512 + 7 + p.val, by omega⟩ q) :=
      fun p q => padLoad arg6.view c arg2 harg2 x0 519 (by decide) (by decide) p q
    have l2 : ∀ p q : Fin 256, kernelRun0_A.sl.v95 (F := Ideal) c arg2 harg2 arg6 x0 (ix2 p q) = padFn x0 (ix2 ⟨512 + 8 + p.val, by omega⟩ q) :=
      fun p q => padLoad arg6.view c arg2 harg2 x0 520 (by decide) (by decide) p q
    have l3 : ∀ p q : Fin 256, kernelRun0_A.sl.v100 (F := Ideal) c arg2 harg2 arg6 x0 (ix2 p q) = padFn x0 (ix2 ⟨512 + 9 + p.val, by omega⟩ q) :=
      fun p q => padLoad arg6.view c arg2 harg2 x0 521 (by decide) (by decide) p q
    have l4 : ∀ p q : Fin 256, kernelRun0_A.sl.v105 (F := Ideal) c arg2 harg2 arg6 x0 (ix2 p q) = padFn x0 (ix2 ⟨512 + 10 + p.val, by omega⟩ q) :=
      fun p q => padLoad arg6.view c arg2 harg2 x0 522 (by decide) (by decide) p q
    refine Eq.trans ?_ (outPart x0 x1 x2 512 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v50 (F := Ideal) c arg2 harg2 arg6 x0 (ix2 p q) = padFn x0 (ix2 ⟨256 + 6 + p.val, by omega⟩ q) :=
      fun p q => padLoad arg6.view c arg2 harg2 x0 262 (by decide) (by decide) p q
    have l1 : ∀ p q : Fin 256, kernelRun0_A.sl.v56 (F := Ideal) c arg2 harg2 arg6 x0 (ix2 p q) = padFn x0 (ix2 ⟨256 + 7 + p.val, by omega⟩ q) :=
      fun p q => padLoad arg6.view c arg2 harg2 x0 263 (by decide) (by decide) p q
    have l2 : ∀ p q : Fin 256, kernelRun0_A.sl.v61 (F := Ideal) c arg2 harg2 arg6 x0 (ix2 p q) = padFn x0 (ix2 ⟨256 + 8 + p.val, by omega⟩ q) :=
      fun p q => padLoad arg6.view c arg2 harg2 x0 264 (by decide) (by decide) p q
    have l3 : ∀ p q : Fin 256, kernelRun0_A.sl.v66 (F := Ideal) c arg2 harg2 arg6 x0 (ix2 p q) = padFn x0 (ix2 ⟨256 + 9 + p.val, by omega⟩ q) :=
      fun p q => padLoad arg6.view c arg2 harg2 x0 265 (by decide) (by decide) p q
    have l4 : ∀ p q : Fin 256, kernelRun0_A.sl.v71 (F := Ideal) c arg2 harg2 arg6 x0 (ix2 p q) = padFn x0 (ix2 ⟨256 + 10 + p.val, by omega⟩ q) :=
      fun p q => padLoad arg6.view c arg2 harg2 x0 266 (by decide) (by decide) p q
    refine Eq.trans ?_ (outPart x0 x1 x2 256 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  refine ⟨fun (y : S1x256x256.Idx) => ?_, ?_⟩
  · have hy : (y 1).val < 256 := (y 1).isLt
    have l0 : ∀ p q : Fin 256, kernelRun0_A.sl.v16 (F := Ideal) c arg2 harg2 arg6 x0 (ix2 p q) = padFn x0 (ix2 ⟨0 + 6 + p.val, by omega⟩ q) :=
      fun p q => padLoad arg6.view c arg2 harg2 x0 6 (by decide) (by decide) p q
    have l1 : ∀ p q : Fin 256, kernelRun0_A.sl.v22 (F := Ideal) c arg2 harg2 arg6 x0 (ix2 p q) = padFn x0 (ix2 ⟨0 + 7 + p.val, by omega⟩ q) :=
      fun p q => padLoad arg6.view c arg2 harg2 x0 7 (by decide) (by decide) p q
    have l2 : ∀ p q : Fin 256, kernelRun0_A.sl.v27 (F := Ideal) c arg2 harg2 arg6 x0 (ix2 p q) = padFn x0 (ix2 ⟨0 + 8 + p.val, by omega⟩ q) :=
      fun p q => padLoad arg6.view c arg2 harg2 x0 8 (by decide) (by decide) p q
    have l3 : ∀ p q : Fin 256, kernelRun0_A.sl.v32 (F := Ideal) c arg2 harg2 arg6 x0 (ix2 p q) = padFn x0 (ix2 ⟨0 + 9 + p.val, by omega⟩ q) :=
      fun p q => padLoad arg6.view c arg2 harg2 x0 9 (by decide) (by decide) p q
    have l4 : ∀ p q : Fin 256, kernelRun0_A.sl.v37 (F := Ideal) c arg2 harg2 arg6 x0 (ix2 p q) = padFn x0 (ix2 ⟨0 + 10 + p.val, by omega⟩ q) :=
      fun p q => padLoad arg6.view c arg2 harg2 x0 10 (by decide) (by decide) p q
    refine Eq.trans ?_ (outPart x0 x1 x2 0 (by decide) (by decide) y hy).symm
    try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18]
    rw [hr, hb]
    try rw [hw]
    unfold acc
    pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
    exact Ideal.mul_congr (chain (l0 _ _) (l1 _ _) (l2 _ _) (l3 _ _) (l4 _ _)) (congrArg Ideal.logistic (chain (l0 _ _) (l1 _ _) (l2 _ _) (l3 _ _) (l4 _ _)))
  trivial

end Cert.ConvIdeal.Tile

end
-- ==== Proof.ConvTile.lean ====
/- The short convolution before the scans: what the kernel's result holds, element by element. -/
module

public import proofs.«01_k».proof.Proof.ConvPiece
public import proofs.«01_k».proof.Proof.Gen.ConvIdeal.Value
public import proofs.«01_k».proof.Proof.Gen.ConvReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvIdeal.Tile

open Cert.ConvIdeal Cert.ConvIdeal.Gen Idealize.ShloMosaic Idealize.ShloMosaic.TcCoe Idealize.SL.Sem

variable (m : (ℓ : Loc nD τ sig) → Buf (Elt Ideal) ℓ) (ρ : Dev nD → PrngReg)

/-- Which block each window is at: the column tile runs fastest, the batch element after it; the input's columns start at the
    sixteenth tile. -/
theorem idx : ∀ t : Fin cfg0.N, win0_0.index t = ![t.val / 24, 0, 16 + t.val % 24] ∧ win0_1.index t = ![0, t.val % 24]
    ∧ win0_2.index t = ![0, t.val % 24] ∧ win0_3.index t = ![t.val / 24, 0, t.val % 24] :=
  (by decide +kernel : ∀ t : Fin grid0.N, _)

/-- The row `k - 2` after row `r`, or zero past the ends. -/
def tap (x : S2x4096x10240.Idx → EReal) (b : Fin 2) (r : Fin 4096) (q : Fin 6144) (k : ℕ) : EReal :=
  if h : 2 ≤ r.val + k ∧ r.val + k < 4098 then x (ix3 b ⟨r.val + k - 2, by omega⟩ ⟨4096 + q.val, by omega⟩) else 0

/-- The convolution before its activation. -/
def mix (x : S2x4096x10240.Idx → EReal) (w : S5x6144.Idx → EReal) (b : S6144.Idx → EReal) (e : Fin 2) (r : Fin 4096) (q : Fin 6144) : EReal :=
  b (ix1 q) + w (ix2 0 q) * tap x e r q 0 + w (ix2 1 q) * tap x e r q 1 + w (ix2 2 q) * tap x e r q 2
    + w (ix2 3 q) * tap x e r q 3 + w (ix2 4 q) * tap x e r q 4

/-- One element of the activated convolution. -/
def cell (x : S2x4096x10240.Idx → EReal) (w : S5x6144.Idx → EReal) (b : S6144.Idx → EReal) : S2x4096x6144.Idx → EReal := fun i =>
  mix x w b (i 0) (i 1) (i 2) * Ideal.logistic (mix x w b (i 0) (i 1) (i 2))

theorem out (c : Dev nD) (i : grid0.Coords) (arg2 : Memref sig .tc .vmem S1x4096x256 .f32) (harg2 : arg2.IsWhole) (arg3 : Memref sig .tc .vmem S5x256 .f32) (harg3 : arg3.IsWhole) (arg4 : Memref sig .tc .vmem S1x256 .f32) (harg4 : arg4.IsWhole) (arg5 : Memref sig .tc .vmem S1x4096x256 .bf16) (harg5 : arg5.IsWhole) (arg6 : Memref sig .tc .vmem S4112x256 .f32) (harg6 : arg6.IsWhole)
    (x0 : Vec Ideal S1x4096x256 .f32) (x1 : Vec Ideal S5x256 .f32) (x2 : Vec Ideal S1x256 .f32) :
    out0_A_3 (F := Ideal) c i arg2 harg2 arg3 harg3 arg4 harg4 arg5 harg5 arg6 harg6 x0 x1 x2 = outFn x0 x1 x2 := by
  funext y
  unfold out0_A_3
  exact View.read_writes_apply_of_pieces _ _ (outFn x0 x1 x2) _ (outPieces c i arg2 harg2 arg3 harg3 arg4 harg4 arg5 harg5 arg6 harg6 x0 x1 x2).mem y
    (cover0_A_3 (F := Ideal) c i arg2 harg2 arg3 harg3 arg4 harg4 arg5 harg5 arg6 harg6 x0 x1 x2 y)

theorem final (c : Dev nD) :
    (dats m 0 c).arrAt 3 cfg0.N = cell (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  obtain ⟨e0, e1, e2, e3⟩ := idx t
  have hy : (y 1).val < 4096 := (y 1).isLt
  unfold outsAt0
  rw [out]
  have wk : ∀ k : Fin 5, iblk m c 1 t (ix2 k (y 2)) = m (c.tc.loc main_arg1) (ix2 k (((View.whole main_v1).slice (win0_3.rect t)).emb y 2)) := by
    intro k
    blk_ext [iblk, e1, e3]
  have b0 : iblk m c 2 t (ix2 0 (y 2)) = m (c.tc.loc main_arg2) (ix1 (((View.whole main_v1).slice (win0_3.rect t)).emb y 2)) := by
    blk_simp [iblk]
    entry_read
    pointwise
    blk_ext [e2, e3]
  have hq : 4096 + (((View.whole main_v1).slice (win0_3.rect t)).emb y 2).val < 10240 := by
    have := (((View.whole main_v1).slice (win0_3.rect t)).emb y 2).isLt
    change _ < 6144 at this
    omega
  have xk : ∀ s : Fin 4096, iblk m c 0 t (ix3 0 s (y 2)) = m (c.tc.loc main_arg0)
      (ix3 (((View.whole main_v1).slice (win0_3.rect t)).emb y 0) s ⟨4096 + (((View.whole main_v1).slice (win0_3.rect t)).emb y 2).val, hq⟩) := by
    intro s
    blk_ext [iblk, e0, e3]
    try omega
  have pk : ∀ (k : ℕ) (hk : k < 5) (h : 0 + (6 + k) + (y 1).val < 4112), padFn (iblk m c 0 t) (ix2 ⟨0 + (6 + k) + (y 1).val, h⟩ (y 2))
      = tap (m (c.tc.loc main_arg0)) (((View.whole main_v1).slice (win0_3.rect t)).emb y 0) (((View.whole main_v1).slice (win0_3.rect t)).emb y 1)
          (((View.whole main_v1).slice (win0_3.rect t)).emb y 2) k := by
    intro k hk h
    have r1 : (((View.whole main_v1).slice (win0_3.rect t)).emb y 1).val = (y 1).val := by
      blk_simp [e3]
      try omega
    unfold padFn tap
    by_cases a : 2 ≤ (y 1).val + k ∧ (y 1).val + k < 4098
    · refine (dif_pos (show 8 ≤ 0 + (6 + k) + (y 1).val ∧ 0 + (6 + k) + (y 1).val < 4104 by omega)).trans
        (Eq.trans ?_ (dif_pos (show 2 ≤ (((View.whole main_v1).slice (win0_3.rect t)).emb y 1).val + k ∧ (((View.whole main_v1).slice (win0_3.rect t)).emb y 1).val + k < 4098 by rw [r1]; exact a)).symm)
      refine (xk _).trans (congrArg (fun s => m (c.tc.loc main_arg0) (ix3 _ s _)) (Fin.ext ?_))
      show 0 + (6 + k) + (y 1).val - 8 = (((View.whole main_v1).slice (win0_3.rect t)).emb y 1).val + k - 2
      rw [r1]
      omega
    · have z : ∀ {p : Prop} [Decidable p] {f : p → EReal}, ¬ p → dite p f (fun _ => 0) = 0 := fun h => dif_neg h
      refine (z (show ¬ (8 ≤ 0 + (6 + k) + (y 1).val ∧ 0 + (6 + k) + (y 1).val < 4104) by omega)).trans
        (z (show ¬ (2 ≤ (((View.whole main_v1).slice (win0_3.rect t)).emb y 1).val + k ∧ (((View.whole main_v1).slice (win0_3.rect t)).emb y 1).val + k < 4098) by rw [r1]; exact a)).symm
  have key : acc (iblk m c 0 t) (iblk m c 1 t) (iblk m c 2 t) 0 (y 1).val (by omega) (y 2)
      = mix (m ((c : Thread nD τ).loc main_arg0)) (m ((c : Thread nD τ).loc main_arg1)) (m ((c : Thread nD τ).loc main_arg2))
        (((View.whole main_v1).slice (win0_3.rect t)).emb y 0) (((View.whole main_v1).slice (win0_3.rect t)).emb y 1)
          (((View.whole main_v1).slice (win0_3.rect t)).emb y 2) := by
    unfold acc mix
    exact Ideal.add_congr (Ideal.add_congr (Ideal.add_congr (Ideal.add_congr (Ideal.add_congr b0
      (Ideal.mul_congr (wk 0) (pk 0 (by decide) _))) (Ideal.mul_congr (wk 1) (pk 1 (by decide) _)))
      (Ideal.mul_congr (wk 2) (pk 2 (by decide) _))) (Ideal.mul_congr (wk 3) (pk 3 (by decide) _))) (Ideal.mul_congr (wk 4) (pk 4 (by decide) _))
  exact Ideal.mul_congr key (congrArg Ideal.logistic key)

end Cert.ConvIdeal.Tile

end
-- ==== Proof.ConvClaim.lean ====
/- The short convolution before the scans: the kernel's result is the reference's. -/
module

public import proofs.«01_k».proof.Defs
public import proofs.«01_k».proof.Proof.ConvTile
public import proofs.«01_k».proof.Proof.Gen.ConvReferenceIdeal.Run
public import proofs.«01_k».proof.Proof.Gen.ConvReferenceIdeal.Read
public import Idealize.ShloMosaic.Lib.Pointwise

@[expose] public section

set_option maxRecDepth 16384

noncomputable section

namespace Cert.ConvIdeal.Tile

open Idealize.ShloMosaic Idealize.ShloMosaic.TcCoe Idealize.SL.Sem

open Cert.ConvReferenceIdeal.Read in
/-- The reference's padded row. -/
theorem row (x : ConvReferenceIdeal.S2x4096x10240.Idx → EReal) (e : Fin 2) (r : Fin 4096) (q : Fin 6144) (k : ℕ) (s : Fin 4100)
    (hs : s.val = r.val + k) : val_main_v1 (F := Ideal) x (ix3 e s q) = tap x e r q k := by
  unfold tap
  pointwise [val_main_v1, val_main_v0, val_main_call0_v0, val_main_c]
  have z : FloatOps.sitofp (F := Ideal) FTy.f32 (0#32) = (0 : EReal) := by
    show (((0#32 : BitVec 32).toInt : ℝ) : EReal) = 0
    simp
  have hq := q.isLt
  by_cases a : 2 ≤ r.val + k ∧ r.val + k < 4098
  · refine (dif_pos (show 2 ≤ s.val ∧ s.val - 2 < 4096 by omega)).trans (Eq.trans ?_ (dif_pos a).symm)
    exact congrArg (fun n => x (ix3 e n ⟨4096 + q.val, by omega⟩)) (Fin.ext (show s.val - 2 = r.val + k - 2 by omega))
  · rw [z]
    have o : ∀ {p : Prop} [Decidable p] {f : p → EReal}, ¬ p → dite p f (fun _ => 0) = 0 := fun h => dif_neg h
    exact (o (show ¬ (2 ≤ s.val ∧ s.val - 2 < 4096) by omega)).trans (o a).symm

/-- The five terms and the bias, in the other order. -/
theorem order {b v0 v1 v2 v3 v4 w0 w1 w2 w3 w4 t0 t1 t2 t3 t4 : EReal} (h0 : v0 = t0) (h1 : v1 = t1) (h2 : v2 = t2) (h3 : v3 = t3)
    (h4 : v4 = t4) : v0 * w0 + v1 * w1 + v2 * w2 + v3 * w3 + v4 * w4 + b = b + w0 * t0 + w1 * t1 + w2 * t2 + w3 * t3 + w4 * t4 := by
  rw [h0, h1, h2, h3, h4]
  ac_rfl

open Cert.ConvReferenceIdeal.Read in
/-- The reference's result, element by element. -/
theorem ref (x : ConvReferenceIdeal.S2x4096x10240.Idx → EReal) (w : ConvReferenceIdeal.S5x6144.Idx → EReal)
    (b : ConvReferenceIdeal.S6144.Idx → EReal) : val_main_v42 (F := Ideal) x w b = cell x w b := by
  funext i
  unfold cell mix
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_call1_v0, val_main_call1_v1, val_main_call1_v2, val_main_call1_v3, val_main_call1_v4, val_main_call1_v5, val_main_call1_cst, val_main_call1_cst_0]
  exact Ideal.mul_congr (order (row _ _ _ _ 0 _ rfl) (row _ _ _ _ 1 _ (Nat.add_comm _ _)) (row _ _ _ _ 2 _ (Nat.add_comm _ _))
    (row _ _ _ _ 3 _ (Nat.add_comm _ _)) (row _ _ _ _ 4 _ (Nat.add_comm _ _)))
    (congrArg (fun z => Ideal.div 1 (1 + Ideal.exp (-z))) (order (row _ _ _ _ 0 _ rfl) (row _ _ _ _ 1 _ (Nat.add_comm _ _)) (row _ _ _ _ 2 _ (Nat.add_comm _ _))
    (row _ _ _ _ 3 _ (Nat.add_comm _ _)) (row _ _ _ _ 4 _ (Nat.add_comm _ _))))

theorem value : algebraic_ConvIdeal_ConvReferenceIdeal (hConvIdeal := Cert.ConvIdeal.Gen.facts)
    (hConvReferenceIdeal := Cert.ConvReferenceIdeal.Gen.facts) := by
  intro m ρ m' ρ' _ hargs
  refine ⟨fun c => cell (m (c.tc.loc Cert.ConvIdeal.main_arg0))
    (m (c.tc.loc Cert.ConvIdeal.main_arg1))
    (m (c.tc.loc Cert.ConvIdeal.main_arg2)), ?_, ?_⟩
  · refine (θ_run _ _ _).mono (fun r h c => ?_) (Cert.ConvIdeal.Value.run_blocks m ρ)
    exact ⟨(h c).1.trans (final m c), (h c).2⟩
  · refine (θ_run _ _ _).mono (fun r h c => ?_) (Cert.ConvReferenceIdeal.Value.run m' ρ')
    refine ⟨(h c).1.trans ?_, (h c).2⟩
    rw [Cert.ConvReferenceIdeal.Read.val_main_v42_eq, (hargs c).1, (hargs c).2.1, (hargs c).2.2]
    exact ref _ _ _

end Cert.ConvIdeal.Tile

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InReferenceIdeal
public import proofs.«01_k».proof.Proof.Gen.InReferenceIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutReferenceIdeal
public import proofs.«01_k».proof.Proof.Gen.OutReferenceIdeal.Run
public import proofs.«01_k».proof.Proof.Gen.SsdOut
public import proofs.«01_k».proof.Proof.Gen.SsdOut.Frame
public import proofs.«01_k».proof.Proof.Gen.SsdOutIdeal
public import proofs.«01_k».proof.Proof.Gen.SsdOutIdeal.Frame
public import proofs.«01_k».proof.Proof.Gen.SsdOutReferenceIdeal
public import proofs.«01_k».proof.Proof.Gen.SsdOutReferenceIdeal.Run
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanReferenceIdeal
public import proofs.«01_k».proof.Proof.Gen.ScanReferenceIdeal.Run
public import proofs.«01_k».proof.Proof.Gen.ScanReferenceIdeal.Read
public import proofs.«01_k».proof.Proof.Gen.Steps
public import proofs.«01_k».proof.Proof.Gen.Steps.Frame
public import proofs.«01_k».proof.Proof.Gen.StepsIdeal
public import proofs.«01_k».proof.Proof.Gen.StepsIdeal.Frame
public import proofs.«01_k».proof.Proof.Gen.StepsIdeal.Value
public import proofs.«01_k».proof.Proof.Gen.StepsReferenceIdeal
public import proofs.«01_k».proof.Proof.Gen.StepsReferenceIdeal.Run
public import proofs.«01_k».proof.Proof.Gen.StepsReferenceIdeal.Read
public import proofs.«01_k».proof.Proof.Gen.NormMod
public import proofs.«01_k».proof.Proof.Gen.NormMod.Frame
public import proofs.«01_k».proof.Proof.Gen.NormModIdeal
public import proofs.«01_k».proof.Proof.Gen.NormModIdeal.Frame
public import proofs.«01_k».proof.Proof.Gen.NormModIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.AttnClaim
public import proofs.«01_k».proof.Proof.QkvClaim
public import proofs.«01_k».proof.Proof.InProjClaim
public import proofs.«01_k».proof.Proof.OutProjClaim
public import proofs.«01_k».proof.Proof.SsdOutClaim
public import proofs.«01_k».proof.Proof.ScanClaim
public import proofs.«01_k».proof.Proof.StepsClaim
public import proofs.«01_k».proof.Proof.NormModClaim
public import proofs.«01_k».proof.Proof.AdaClaim
public import proofs.«01_k».proof.Proof.ConvClaim
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.Kernel.Gen.facts,
    Cert.KernelIdeal.Gen.facts,
    Cert.ReferenceIdeal.Gen.facts,
    Cert.Qkv.Gen.facts,
    Cert.QkvIdeal.Gen.facts,
    Cert.QkvReferenceIdeal.Gen.facts,
    Cert.InProj.Gen.facts,
    Cert.InProjIdeal.Gen.facts,
    Cert.InReferenceIdeal.Gen.facts,
    Cert.OutProj.Gen.facts,
    Cert.OutProjIdeal.Gen.facts,
    Cert.OutReferenceIdeal.Gen.facts,
    Cert.SsdOut.Gen.facts,
    Cert.SsdOutIdeal.Gen.facts,
    Cert.SsdOutReferenceIdeal.Gen.facts,
    Cert.Scan.Gen.facts,
    Cert.ScanIdeal.Gen.facts,
    Cert.ScanReferenceIdeal.Gen.facts,
    Cert.Steps.Gen.facts,
    Cert.StepsIdeal.Gen.facts,
    Cert.StepsReferenceIdeal.Gen.facts,
    Cert.NormMod.Gen.facts,
    Cert.NormModIdeal.Gen.facts,
    Cert.NormReferenceIdeal.Gen.facts,
    Cert.Ada.Gen.facts,
    Cert.AdaIdeal.Gen.facts,
    Cert.AdaReferenceIdeal.Gen.facts,
    Cert.Conv.Gen.facts,
    Cert.ConvIdeal.Gen.facts,
    Cert.ConvReferenceIdeal.Gen.facts,
    Cert.KernelIdeal.Attn.pre_facts,
    Cert.ScanIdeal.Scan.pre_facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems rfl _⟩) (Cert.ReferenceIdeal.Value.run m ρ),
    fun m ρ _ => (θ_run _ _ _).mono (fun r h => ⟨fun c => (h c).2, sem_eq_zero_of_no_sems rfl _⟩) (Cert.ReferenceIdeal.Value.run m ρ),
    fun m ρ _ => Cert.Qkv.Gen.frame m ρ,
    fun m ρ _ => Cert.QkvIdeal.Gen.frame m ρ,
    fun m ρ _ => (θ_run _ _ _).mono (fun r h => ⟨fun c => (h c).2, sem_eq_zero_of_no_sems rfl _⟩) (Cert.QkvReferenceIdeal.Value.run m ρ),
    fun m ρ _ => Cert.InProj.Gen.frame m ρ,
    fun m ρ _ => Cert.InProjIdeal.Gen.frame m ρ,
    fun m ρ _ => (θ_run _ _ _).mono (fun r h => ⟨fun c => (h c).2, sem_eq_zero_of_no_sems rfl _⟩) (Cert.InReferenceIdeal.Value.run m ρ),
    fun m ρ _ => Cert.OutProj.Gen.frame m ρ,
    fun m ρ _ => Cert.OutProjIdeal.Gen.frame m ρ,
    fun m ρ _ => (θ_run _ _ _).mono (fun r h => ⟨fun c => (h c).2, sem_eq_zero_of_no_sems rfl _⟩) (Cert.OutReferenceIdeal.Value.run m ρ),
    fun m ρ _ => Cert.SsdOut.Gen.frame m ρ,
    fun m ρ _ => Cert.SsdOutIdeal.Gen.frame m ρ,
    fun m ρ _ => (θ_run _ _ _).mono (fun r h => ⟨fun c => (h c).2, sem_eq_zero_of_no_sems rfl _⟩) (Cert.SsdOutReferenceIdeal.Value.run m ρ),
    fun m ρ _ => Cert.Scan.Gen.frame m ρ,
    fun m ρ _ => Cert.ScanIdeal.Gen.frame m ρ,
    fun m ρ _ => Cert.ScanIdeal.Gen.frame m ρ,
    fun m ρ _ => (θ_run _ _ _).mono (fun r h => ⟨fun c => (h c).2, sem_eq_zero_of_no_sems rfl _⟩) (Cert.ScanReferenceIdeal.Value.run m ρ),
    fun m ρ _ => (θ_run _ _ _).mono (fun r h => ⟨fun c => (h c).2, sem_eq_zero_of_no_sems rfl _⟩) (Cert.ScanReferenceIdeal.Value.run m ρ),
    fun m ρ _ => Cert.Steps.Gen.frame m ρ,
    fun m ρ _ => Cert.StepsIdeal.Gen.frame m ρ,
    fun m ρ _ => (θ_run _ _ _).mono (fun r h => ⟨fun c => (h c).2, sem_eq_zero_of_no_sems rfl _⟩) (Cert.StepsReferenceIdeal.Value.run m ρ),
    fun m ρ _ => Cert.NormMod.Gen.frame m ρ,
    fun m ρ _ => Cert.NormModIdeal.Gen.frame m ρ,
    fun m ρ _ => (θ_run _ _ _).mono (fun r h => ⟨fun c => (h c).2, sem_eq_zero_of_no_sems rfl _⟩) (Cert.NormReferenceIdeal.Value.run m ρ),
    fun m ρ _ => Cert.Ada.Gen.frame m ρ,
    fun m ρ _ => Cert.AdaIdeal.Gen.frame m ρ,
    fun m ρ _ => (θ_run _ _ _).mono (fun r h => ⟨fun c => (h c).2, sem_eq_zero_of_no_sems rfl _⟩) (Cert.AdaReferenceIdeal.Value.run m ρ),
    fun m ρ _ => Cert.Conv.Gen.frame m ρ,
    fun m ρ _ => Cert.ConvIdeal.Gen.frame m ρ,
    fun m ρ _ => (θ_run _ _ _).mono (fun r h => ⟨fun c => (h c).2, sem_eq_zero_of_no_sems rfl _⟩) (Cert.ConvReferenceIdeal.Value.run m ρ),
    IdealRules.named_const.statement Cert.KernelIdeal.κ "mask" .f32 0xF149F2CA#32 ⊥ rfl,
    Cert.KernelIdeal.Attn.value,
    trivial,
    Cert.QkvIdeal.Tile.value,
    trivial,
    Cert.InProjIdeal.Tile.value,
    trivial,
    Cert.OutProjIdeal.Tile.value,
    trivial,
    Cert.SsdOutIdeal.Tile.value,
    ⟨IdealRules.named_const.statement Cert.ScanIdeal.κ "neg_log2e" .f32 0xBFB8AA3B#32 ((-((Real.log 2)⁻¹) : ℝ) : EReal) rfl,
      IdealRules.named_const.statement Cert.ScanIdeal.κ "log2e" .f32 0x3FB8AA3B#32 (((Real.log 2)⁻¹ : ℝ) : EReal) rfl⟩,
    Cert.ScanIdeal.Scan.value,
    trivial,
    Cert.StepsIdeal.Tile.value,
    trivial,
    Cert.NormModIdeal.Tile.value,
    trivial,
    Cert.AdaIdeal.Tile.value,
    trivial,
    Cert.ConvIdeal.Tile.value⟩

end Cert.Proof

end
